-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v984) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x3x512x512 : Shape := ⟨4, ![4, 3, 512, 512]⟩
abbrev S4x512x16x16 : Shape := ⟨4, ![4, 512, 16, 16]⟩
abbrev S8x3x3x3 : Shape := ⟨4, ![8, 3, 3, 3]⟩
abbrev S8 : Shape := ⟨1, ![8]⟩
abbrev S16x8x3x3 : Shape := ⟨4, ![16, 8, 3, 3]⟩
abbrev S16 : Shape := ⟨1, ![16]⟩
abbrev S32x16x3x3 : Shape := ⟨4, ![32, 16, 3, 3]⟩
abbrev S32 : Shape := ⟨1, ![32]⟩
abbrev S64x32x3x3 : Shape := ⟨4, ![64, 32, 3, 3]⟩
abbrev S64 : Shape := ⟨1, ![64]⟩
abbrev S128x64x3x3 : Shape := ⟨4, ![128, 64, 3, 3]⟩
abbrev S128 : Shape := ⟨1, ![128]⟩
abbrev S128x512x1x1 : Shape := ⟨4, ![128, 512, 1, 1]⟩
abbrev S64x128x3x3 : Shape := ⟨4, ![64, 128, 3, 3]⟩
abbrev S32x64x3x3 : Shape := ⟨4, ![32, 64, 3, 3]⟩
abbrev S16x32x3x3 : Shape := ⟨4, ![16, 32, 3, 3]⟩
abbrev S8x16x3x3 : Shape := ⟨4, ![8, 16, 3, 3]⟩
abbrev S2x8x3x3 : Shape := ⟨4, ![2, 8, 3, 3]⟩
abbrev S2 : Shape := ⟨1, ![2]⟩
abbrev S_ : Shape := ⟨0, ![]⟩
abbrev S4x3x514x514 : Shape := ⟨4, ![4, 3, 514, 514]⟩
abbrev S3x3x8x3 : Shape := ⟨4, ![3, 3, 8, 3]⟩
abbrev S9x8x3 : Shape := ⟨3, ![9, 8, 3]⟩
abbrev S8x1x1 : Shape := ⟨3, ![8, 1, 1]⟩
abbrev S4x8x256x256 : Shape := ⟨4, ![4, 8, 256, 256]⟩
abbrev S1x3x514x514 : Shape := ⟨4, ![1, 3, 514, 514]⟩
abbrev S1x8x32x256 : Shape := ⟨4, ![1, 8, 32, 256]⟩
abbrev S1x3x66x514 : Shape := ⟨4, ![1, 3, 66, 514]⟩
abbrev S3x66x514 : Shape := ⟨3, ![3, 66, 514]⟩
abbrev S3x64x514 : Shape := ⟨3, ![3, 64, 514]⟩
abbrev S3x64x512 : Shape := ⟨3, ![3, 64, 512]⟩
abbrev S1x8x3 : Shape := ⟨3, ![1, 8, 3]⟩
abbrev S8x3 : Shape := ⟨2, ![8, 3]⟩
abbrev S8x64x512 : Shape := ⟨3, ![8, 64, 512]⟩
abbrev S64x32 : Shape := ⟨2, ![64, 32]⟩
abbrev S8x512x32 : Shape := ⟨3, ![8, 512, 32]⟩
abbrev S512x256 : Shape := ⟨2, ![512, 256]⟩
abbrev S8x32x256 : Shape := ⟨3, ![8, 32, 256]⟩
abbrev S4x8x258x258 : Shape := ⟨4, ![4, 8, 258, 258]⟩
abbrev S3x3x16x8 : Shape := ⟨4, ![3, 3, 16, 8]⟩
abbrev S9x16x8 : Shape := ⟨3, ![9, 16, 8]⟩
abbrev S16x1x1 : Shape := ⟨3, ![16, 1, 1]⟩
abbrev S4x16x128x128 : Shape := ⟨4, ![4, 16, 128, 128]⟩
abbrev S1x8x258x258 : Shape := ⟨4, ![1, 8, 258, 258]⟩
abbrev S1x16x32x128 : Shape := ⟨4, ![1, 16, 32, 128]⟩
abbrev S1x8x66x258 : Shape := ⟨4, ![1, 8, 66, 258]⟩
abbrev S8x66x258 : Shape := ⟨3, ![8, 66, 258]⟩
abbrev S8x64x258 : Shape := ⟨3, ![8, 64, 258]⟩
abbrev S8x64x256 : Shape := ⟨3, ![8, 64, 256]⟩
abbrev S1x16x8 : Shape := ⟨3, ![1, 16, 8]⟩
abbrev S16x8 : Shape := ⟨2, ![16, 8]⟩
abbrev S16x64x256 : Shape := ⟨3, ![16, 64, 256]⟩
abbrev S16x256x32 : Shape := ⟨3, ![16, 256, 32]⟩
abbrev S256x128 : Shape := ⟨2, ![256, 128]⟩
abbrev S16x32x128 : Shape := ⟨3, ![16, 32, 128]⟩
abbrev S4x16x130x130 : Shape := ⟨4, ![4, 16, 130, 130]⟩
abbrev S3x3x32x16 : Shape := ⟨4, ![3, 3, 32, 16]⟩
abbrev S9x32x16 : Shape := ⟨3, ![9, 32, 16]⟩
abbrev S32x1x1 : Shape := ⟨3, ![32, 1, 1]⟩
abbrev S4x32x64x64 : Shape := ⟨4, ![4, 32, 64, 64]⟩
abbrev S1x16x130x130 : Shape := ⟨4, ![1, 16, 130, 130]⟩
abbrev S1x32x64x64 : Shape := ⟨4, ![1, 32, 64, 64]⟩
abbrev S16x130x130 : Shape := ⟨3, ![16, 130, 130]⟩
abbrev S16x128x130 : Shape := ⟨3, ![16, 128, 130]⟩
abbrev S16x128x128 : Shape := ⟨3, ![16, 128, 128]⟩
abbrev S1x32x16 : Shape := ⟨3, ![1, 32, 16]⟩
abbrev S32x16 : Shape := ⟨2, ![32, 16]⟩
abbrev S32x128x128 : Shape := ⟨3, ![32, 128, 128]⟩
abbrev S128x64 : Shape := ⟨2, ![128, 64]⟩
abbrev S32x128x64 : Shape := ⟨3, ![32, 128, 64]⟩
abbrev S32x64x64 : Shape := ⟨3, ![32, 64, 64]⟩
abbrev S4x32x66x66 : Shape := ⟨4, ![4, 32, 66, 66]⟩
abbrev S3x3x64x32 : Shape := ⟨4, ![3, 3, 64, 32]⟩
abbrev S9x64x32 : Shape := ⟨3, ![9, 64, 32]⟩
abbrev S64x1x1 : Shape := ⟨3, ![64, 1, 1]⟩
abbrev S4x64x32x32 : Shape := ⟨4, ![4, 64, 32, 32]⟩
abbrev S1x32x66x66 : Shape := ⟨4, ![1, 32, 66, 66]⟩
abbrev S1x64x32x32 : Shape := ⟨4, ![1, 64, 32, 32]⟩
abbrev S32x66x66 : Shape := ⟨3, ![32, 66, 66]⟩
abbrev S32x64x66 : Shape := ⟨3, ![32, 64, 66]⟩
abbrev S1x64x32 : Shape := ⟨3, ![1, 64, 32]⟩
abbrev S64x64x64 : Shape := ⟨3, ![64, 64, 64]⟩
abbrev S64x64x32 : Shape := ⟨3, ![64, 64, 32]⟩
abbrev S64x32x32 : Shape := ⟨3, ![64, 32, 32]⟩
abbrev S4x64x34x34 : Shape := ⟨4, ![4, 64, 34, 34]⟩
abbrev S3x3x128x64 : Shape := ⟨4, ![3, 3, 128, 64]⟩
abbrev S9x128x64 : Shape := ⟨3, ![9, 128, 64]⟩
abbrev S128x1x1 : Shape := ⟨3, ![128, 1, 1]⟩
abbrev S4x128x16x16 : Shape := ⟨4, ![4, 128, 16, 16]⟩
abbrev S1x64x34x34 : Shape := ⟨4, ![1, 64, 34, 34]⟩
abbrev S1x128x16x16 : Shape := ⟨4, ![1, 128, 16, 16]⟩
abbrev S64x34x34 : Shape := ⟨3, ![64, 34, 34]⟩
abbrev S64x32x34 : Shape := ⟨3, ![64, 32, 34]⟩
abbrev S1x128x64 : Shape := ⟨3, ![1, 128, 64]⟩
abbrev S128x32x32 : Shape := ⟨3, ![128, 32, 32]⟩
abbrev S128x32x16 : Shape := ⟨3, ![128, 32, 16]⟩
abbrev S128x16x16 : Shape := ⟨3, ![128, 16, 16]⟩
abbrev S128x512 : Shape := ⟨2, ![128, 512]⟩
abbrev S4x128x32x32 : Shape := ⟨4, ![4, 128, 32, 32]⟩
abbrev S1x512x16x16 : Shape := ⟨4, ![1, 512, 16, 16]⟩
abbrev S1x128x32x32 : Shape := ⟨4, ![1, 128, 32, 32]⟩
abbrev S512x16x16 : Shape := ⟨3, ![512, 16, 16]⟩
abbrev S128x16x32 : Shape := ⟨3, ![128, 16, 32]⟩
abbrev S16x32 : Shape := ⟨2, ![16, 32]⟩
abbrev S4x128x34x34 : Shape := ⟨4, ![4, 128, 34, 34]⟩
abbrev S3x3x64x128 : Shape := ⟨4, ![3, 3, 64, 128]⟩
abbrev S9x64x128 : Shape := ⟨3, ![9, 64, 128]⟩
abbrev S4x64x64x64 : Shape := ⟨4, ![4, 64, 64, 64]⟩
abbrev S1x128x34x34 : Shape := ⟨4, ![1, 128, 34, 34]⟩
abbrev S1x64x64x64 : Shape := ⟨4, ![1, 64, 64, 64]⟩
abbrev S128x34x34 : Shape := ⟨3, ![128, 34, 34]⟩
abbrev S128x32x34 : Shape := ⟨3, ![128, 32, 34]⟩
abbrev S1x64x128 : Shape := ⟨3, ![1, 64, 128]⟩
abbrev S64x128 : Shape := ⟨2, ![64, 128]⟩
abbrev S64x32x64 : Shape := ⟨3, ![64, 32, 64]⟩
abbrev S32x64 : Shape := ⟨2, ![32, 64]⟩
abbrev S4x64x66x66 : Shape := ⟨4, ![4, 64, 66, 66]⟩
abbrev S3x3x32x64 : Shape := ⟨4, ![3, 3, 32, 64]⟩
abbrev S9x32x64 : Shape := ⟨3, ![9, 32, 64]⟩
abbrev S4x32x128x128 : Shape := ⟨4, ![4, 32, 128, 128]⟩
abbrev S1x64x66x66 : Shape := ⟨4, ![1, 64, 66, 66]⟩
abbrev S1x32x128x128 : Shape := ⟨4, ![1, 32, 128, 128]⟩
abbrev S64x66x66 : Shape := ⟨3, ![64, 66, 66]⟩
abbrev S64x64x66 : Shape := ⟨3, ![64, 64, 66]⟩
abbrev S1x32x64 : Shape := ⟨3, ![1, 32, 64]⟩
abbrev S32x64x128 : Shape := ⟨3, ![32, 64, 128]⟩
abbrev S4x32x130x130 : Shape := ⟨4, ![4, 32, 130, 130]⟩
abbrev S3x3x16x32 : Shape := ⟨4, ![3, 3, 16, 32]⟩
abbrev S9x16x32 : Shape := ⟨3, ![9, 16, 32]⟩
abbrev S4x16x256x256 : Shape := ⟨4, ![4, 16, 256, 256]⟩
abbrev S1x32x130x130 : Shape := ⟨4, ![1, 32, 130, 130]⟩
abbrev S1x16x128x128 : Shape := ⟨4, ![1, 16, 128, 128]⟩
abbrev S1x16x256x256 : Shape := ⟨4, ![1, 16, 256, 256]⟩
abbrev S32x130x130 : Shape := ⟨3, ![32, 130, 130]⟩
abbrev S32x128x130 : Shape := ⟨3, ![32, 128, 130]⟩
abbrev S1x16x32 : Shape := ⟨3, ![1, 16, 32]⟩
abbrev S16x128x256 : Shape := ⟨3, ![16, 128, 256]⟩
abbrev S128x256 : Shape := ⟨2, ![128, 256]⟩
abbrev S16x256x256 : Shape := ⟨3, ![16, 256, 256]⟩
abbrev S4x16x258x258 : Shape := ⟨4, ![4, 16, 258, 258]⟩
abbrev S3x3x8x16 : Shape := ⟨4, ![3, 3, 8, 16]⟩
abbrev S9x8x16 : Shape := ⟨3, ![9, 8, 16]⟩
abbrev S4x8x512x512 : Shape := ⟨4, ![4, 8, 512, 512]⟩
abbrev S1x16x258x258 : Shape := ⟨4, ![1, 16, 258, 258]⟩
abbrev S1x8x256x256 : Shape := ⟨4, ![1, 8, 256, 256]⟩
abbrev S1x8x512x512 : Shape := ⟨4, ![1, 8, 512, 512]⟩
abbrev S16x258x258 : Shape := ⟨3, ![16, 258, 258]⟩
abbrev S16x256x258 : Shape := ⟨3, ![16, 256, 258]⟩
abbrev S1x8x16 : Shape := ⟨3, ![1, 8, 16]⟩
abbrev S8x16 : Shape := ⟨2, ![8, 16]⟩
abbrev S8x256x256 : Shape := ⟨3, ![8, 256, 256]⟩
abbrev S8x256x512 : Shape := ⟨3, ![8, 256, 512]⟩
abbrev S256x512 : Shape := ⟨2, ![256, 512]⟩
abbrev S8x512x512 : Shape := ⟨3, ![8, 512, 512]⟩
abbrev S4x8x514x514 : Shape := ⟨4, ![4, 8, 514, 514]⟩
abbrev S3x3x2x8 : Shape := ⟨4, ![3, 3, 2, 8]⟩
abbrev S9x2x8 : Shape := ⟨3, ![9, 2, 8]⟩
abbrev S2x1x1 : Shape := ⟨3, ![2, 1, 1]⟩
abbrev S4x2x512x512 : Shape := ⟨4, ![4, 2, 512, 512]⟩
abbrev S1x8x514x514 : Shape := ⟨4, ![1, 8, 514, 514]⟩
abbrev S1x2x64x512 : Shape := ⟨4, ![1, 2, 64, 512]⟩
abbrev S1x8x66x514 : Shape := ⟨4, ![1, 8, 66, 514]⟩
abbrev S8x66x514 : Shape := ⟨3, ![8, 66, 514]⟩
abbrev S8x64x514 : Shape := ⟨3, ![8, 64, 514]⟩
abbrev S1x2x8 : Shape := ⟨3, ![1, 2, 8]⟩
abbrev S2x8 : Shape := ⟨2, ![2, 8]⟩
abbrev S2x64x512 : Shape := ⟨3, ![2, 64, 512]⟩
abbrev S1x64x512 : Shape := ⟨3, ![1, 64, 512]⟩
abbrev S64x512 : Shape := ⟨2, ![64, 512]⟩
abbrev S1x1x64x512 : Shape := ⟨4, ![1, 1, 64, 512]⟩

abbrev nBuf : Space → Nat
  | .hbm => 97
  | .vmem => 76
  | .smem => 0
  | _ => 0

abbrev bufTy : (tb : Table) → Fin (tcTables nBuf tb) → BufTy
  | .hbm, ⟨0, _⟩ => ⟨S4x3x512x512, .f32⟩
  | .hbm, ⟨1, _⟩ => ⟨S4x512x16x16, .f32⟩
  | .hbm, ⟨2, _⟩ => ⟨S8x3x3x3, .f32⟩
  | .hbm, ⟨3, _⟩ => ⟨S8, .f32⟩
  | .hbm, ⟨4, _⟩ => ⟨S16x8x3x3, .f32⟩
  | .hbm, ⟨5, _⟩ => ⟨S16, .f32⟩
  | .hbm, ⟨6, _⟩ => ⟨S32x16x3x3, .f32⟩
  | .hbm, ⟨7, _⟩ => ⟨S32, .f32⟩
  | .hbm, ⟨8, _⟩ => ⟨S64x32x3x3, .f32⟩
  | .hbm, ⟨9, _⟩ => ⟨S64, .f32⟩
  | .hbm, ⟨10, _⟩ => ⟨S128x64x3x3, .f32⟩
  | .hbm, ⟨11, _⟩ => ⟨S128, .f32⟩
  | .hbm, ⟨12, _⟩ => ⟨S128x512x1x1, .f32⟩
  | .hbm, ⟨13, _⟩ => ⟨S128, .f32⟩
  | .hbm, ⟨14, _⟩ => ⟨S64x128x3x3, .f32⟩
  | .hbm, ⟨15, _⟩ => ⟨S64, .f32⟩
  | .hbm, ⟨16, _⟩ => ⟨S32x64x3x3, .f32⟩
  | .hbm, ⟨17, _⟩ => ⟨S32, .f32⟩
  | .hbm, ⟨18, _⟩ => ⟨S16x32x3x3, .f32⟩
  | .hbm, ⟨19, _⟩ => ⟨S16, .f32⟩
  | .hbm, ⟨20, _⟩ => ⟨S8x16x3x3, .f32⟩
  | .hbm, ⟨21, _⟩ => ⟨S8, .f32⟩
  | .hbm, ⟨22, _⟩ => ⟨S2x8x3x3, .f32⟩
  | .hbm, ⟨23, _⟩ => ⟨S2, .f32⟩
  | .hbm, ⟨24, _⟩ => ⟨S_, .i32⟩
  | .hbm, ⟨25, _⟩ => ⟨S_, .f32⟩
  | .hbm, ⟨26, _⟩ => ⟨S4x3x514x514, .f32⟩
  | .hbm, ⟨27, _⟩ => ⟨S3x3x8x3, .f32⟩
  | .hbm, ⟨28, _⟩ => ⟨S9x8x3, .f32⟩
  | .hbm, ⟨29, _⟩ => ⟨S8x1x1, .f32⟩
  | .hbm, ⟨30, _⟩ => ⟨S4x8x256x256, .f32⟩
  | .hbm, ⟨31, _⟩ => ⟨S_, .i32⟩
  | .hbm, ⟨32, _⟩ => ⟨S_, .f32⟩
  | .hbm, ⟨33, _⟩ => ⟨S4x8x258x258, .f32⟩
  | .hbm, ⟨34, _⟩ => ⟨S3x3x16x8, .f32⟩
  | .hbm, ⟨35, _⟩ => ⟨S9x16x8, .f32⟩
  | .hbm, ⟨36, _⟩ => ⟨S16x1x1, .f32⟩
  | .hbm, ⟨37, _⟩ => ⟨S4x16x128x128, .f32⟩
  | .hbm, ⟨38, _⟩ => ⟨S_, .i32⟩
  | .hbm, ⟨39, _⟩ => ⟨S_, .f32⟩
  | .hbm, ⟨40, _⟩ => ⟨S4x16x130x130, .f32⟩
  | .hbm, ⟨41, _⟩ => ⟨S3x3x32x16, .f32⟩
  | .hbm, ⟨42, _⟩ => ⟨S9x32x16, .f32⟩
  | .hbm, ⟨43, _⟩ => ⟨S32x1x1, .f32⟩
  | .hbm, ⟨44, _⟩ => ⟨S4x32x64x64, .f32⟩
  | .hbm, ⟨45, _⟩ => ⟨S_, .i32⟩
  | .hbm, ⟨46, _⟩ => ⟨S_, .f32⟩
  | .hbm, ⟨47, _⟩ => ⟨S4x32x66x66, .f32⟩
  | .hbm, ⟨48, _⟩ => ⟨S3x3x64x32, .f32⟩
  | .hbm, ⟨49, _⟩ => ⟨S9x64x32, .f32⟩
  | .hbm, ⟨50, _⟩ => ⟨S64x1x1, .f32⟩
  | .hbm, ⟨51, _⟩ => ⟨S4x64x32x32, .f32⟩
  | .hbm, ⟨52, _⟩ => ⟨S_, .i32⟩
  | .hbm, ⟨53, _⟩ => ⟨S_, .f32⟩
  | .hbm, ⟨54, _⟩ => ⟨S4x64x34x34, .f32⟩
  | .hbm, ⟨55, _⟩ => ⟨S3x3x128x64, .f32⟩
  | .hbm, ⟨56, _⟩ => ⟨S9x128x64, .f32⟩
  | .hbm, ⟨57, _⟩ => ⟨S128x1x1, .f32⟩
  | .hbm, ⟨58, _⟩ => ⟨S4x128x16x16, .f32⟩
  | .hbm, ⟨59, _⟩ => ⟨S128x512, .f32⟩
  | .hbm, ⟨60, _⟩ => ⟨S128x1x1, .f32⟩
  | .hbm, ⟨61, _⟩ => ⟨S4x128x32x32, .f32⟩
  | .hbm, ⟨62, _⟩ => ⟨S_, .i32⟩
  | .hbm, ⟨63, _⟩ => ⟨S_, .f32⟩
  | .hbm, ⟨64, _⟩ => ⟨S4x128x34x34, .f32⟩
  | .hbm, ⟨65, _⟩ => ⟨S3x3x64x128, .f32⟩
  | .hbm, ⟨66, _⟩ => ⟨S9x64x128, .f32⟩
  | .hbm, ⟨67, _⟩ => ⟨S64x1x1, .f32⟩
  | .hbm, ⟨68, _⟩ => ⟨S4x64x64x64, .f32⟩
  | .hbm, ⟨69, _⟩ => ⟨S_, .i32⟩
  | .hbm, ⟨70, _⟩ => ⟨S_, .f32⟩
  | .hbm, ⟨71, _⟩ => ⟨S4x64x66x66, .f32⟩
  | .hbm, ⟨72, _⟩ => ⟨S3x3x32x64, .f32⟩
  | .hbm, ⟨73, _⟩ => ⟨S9x32x64, .f32⟩
  | .hbm, ⟨74, _⟩ => ⟨S32x1x1, .f32⟩
  | .hbm, ⟨75, _⟩ => ⟨S4x32x128x128, .f32⟩
  | .hbm, ⟨76, _⟩ => ⟨S_, .i32⟩
  | .hbm, ⟨77, _⟩ => ⟨S_, .f32⟩
  | .hbm, ⟨78, _⟩ => ⟨S4x32x130x130, .f32⟩
  | .hbm, ⟨79, _⟩ => ⟨S3x3x16x32, .f32⟩
  | .hbm, ⟨80, _⟩ => ⟨S9x16x32, .f32⟩
  | .hbm, ⟨81, _⟩ => ⟨S16x1x1, .f32⟩
  | .hbm, ⟨82, _⟩ => ⟨S4x16x256x256, .f32⟩
  | .hbm, ⟨83, _⟩ => ⟨S_, .i32⟩
  | .hbm, ⟨84, _⟩ => ⟨S_, .f32⟩
  | .hbm, ⟨85, _⟩ => ⟨S4x16x258x258, .f32⟩
  | .hbm, ⟨86, _⟩ => ⟨S3x3x8x16, .f32⟩
  | .hbm, ⟨87, _⟩ => ⟨S9x8x16, .f32⟩
  | .hbm, ⟨88, _⟩ => ⟨S8x1x1, .f32⟩
  | .hbm, ⟨89, _⟩ => ⟨S4x8x512x512, .f32⟩
  | .hbm, ⟨90, _⟩ => ⟨S_, .i32⟩
  | .hbm, ⟨91, _⟩ => ⟨S_, .f32⟩
  | .hbm, ⟨92, _⟩ => ⟨S4x8x514x514, .f32⟩
  | .hbm, ⟨93, _⟩ => ⟨S3x3x2x8, .f32⟩
  | .hbm, ⟨94, _⟩ => ⟨S9x2x8, .f32⟩
  | .hbm, ⟨95, _⟩ => ⟨S2x1x1, .f32⟩
  | .hbm, ⟨96, _⟩ => ⟨S4x2x512x512, .f32⟩
  | .local _ .vmem, ⟨0, _⟩ => ⟨S1x3x514x514, .f32⟩
  | .local _ .vmem, ⟨1, _⟩ => ⟨S1x3x514x514, .f32⟩
  | .local _ .vmem, ⟨2, _⟩ => ⟨S9x8x3, .f32⟩
  | .local _ .vmem, ⟨3, _⟩ => ⟨S8x1x1, .f32⟩
  | .local _ .vmem, ⟨4, _⟩ => ⟨S1x8x32x256, .f32⟩
  | .local _ .vmem, ⟨5, _⟩ => ⟨S1x8x32x256, .f32⟩
  | .local _ .vmem, ⟨6, _⟩ => ⟨S1x8x258x258, .f32⟩
  | .local _ .vmem, ⟨7, _⟩ => ⟨S1x8x258x258, .f32⟩
  | .local _ .vmem, ⟨8, _⟩ => ⟨S9x16x8, .f32⟩
  | .local _ .vmem, ⟨9, _⟩ => ⟨S16x1x1, .f32⟩
  | .local _ .vmem, ⟨10, _⟩ => ⟨S1x16x32x128, .f32⟩
  | .local _ .vmem, ⟨11, _⟩ => ⟨S1x16x32x128, .f32⟩
  | .local _ .vmem, ⟨12, _⟩ => ⟨S1x16x130x130, .f32⟩
  | .local _ .vmem, ⟨13, _⟩ => ⟨S1x16x130x130, .f32⟩
  | .local _ .vmem, ⟨14, _⟩ => ⟨S9x32x16, .f32⟩
  | .local _ .vmem, ⟨15, _⟩ => ⟨S32x1x1, .f32⟩
  | .local _ .vmem, ⟨16, _⟩ => ⟨S1x32x64x64, .f32⟩
  | .local _ .vmem, ⟨17, _⟩ => ⟨S1x32x64x64, .f32⟩
  | .local _ .vmem, ⟨18, _⟩ => ⟨S1x32x66x66, .f32⟩
  | .local _ .vmem, ⟨19, _⟩ => ⟨S1x32x66x66, .f32⟩
  | .local _ .vmem, ⟨20, _⟩ => ⟨S9x64x32, .f32⟩
  | .local _ .vmem, ⟨21, _⟩ => ⟨S64x1x1, .f32⟩
  | .local _ .vmem, ⟨22, _⟩ => ⟨S1x64x32x32, .f32⟩
  | .local _ .vmem, ⟨23, _⟩ => ⟨S1x64x32x32, .f32⟩
  | .local _ .vmem, ⟨24, _⟩ => ⟨S1x64x34x34, .f32⟩
  | .local _ .vmem, ⟨25, _⟩ => ⟨S1x64x34x34, .f32⟩
  | .local _ .vmem, ⟨26, _⟩ => ⟨S9x128x64, .f32⟩
  | .local _ .vmem, ⟨27, _⟩ => ⟨S128x1x1, .f32⟩
  | .local _ .vmem, ⟨28, _⟩ => ⟨S1x128x16x16, .f32⟩
  | .local _ .vmem, ⟨29, _⟩ => ⟨S1x128x16x16, .f32⟩
  | .local _ .vmem, ⟨30, _⟩ => ⟨S1x128x16x16, .f32⟩
  | .local _ .vmem, ⟨31, _⟩ => ⟨S1x128x16x16, .f32⟩
  | .local _ .vmem, ⟨32, _⟩ => ⟨S1x512x16x16, .f32⟩
  | .local _ .vmem, ⟨33, _⟩ => ⟨S1x512x16x16, .f32⟩
  | .local _ .vmem, ⟨34, _⟩ => ⟨S128x512, .f32⟩
  | .local _ .vmem, ⟨35, _⟩ => ⟨S128x1x1, .f32⟩
  | .local _ .vmem, ⟨36, _⟩ => ⟨S1x128x32x32, .f32⟩
  | .local _ .vmem, ⟨37, _⟩ => ⟨S1x128x32x32, .f32⟩
  | .local _ .vmem, ⟨38, _⟩ => ⟨S1x128x34x34, .f32⟩
  | .local _ .vmem, ⟨39, _⟩ => ⟨S1x128x34x34, .f32⟩
  | .local _ .vmem, ⟨40, _⟩ => ⟨S1x64x32x32, .f32⟩
  | .local _ .vmem, ⟨41, _⟩ => ⟨S1x64x32x32, .f32⟩
  | .local _ .vmem, ⟨42, _⟩ => ⟨S9x64x128, .f32⟩
  | .local _ .vmem, ⟨43, _⟩ => ⟨S64x1x1, .f32⟩
  | .local _ .vmem, ⟨44, _⟩ => ⟨S1x64x64x64, .f32⟩
  | .local _ .vmem, ⟨45, _⟩ => ⟨S1x64x64x64, .f32⟩
  | .local _ .vmem, ⟨46, _⟩ => ⟨S1x64x66x66, .f32⟩
  | .local _ .vmem, ⟨47, _⟩ => ⟨S1x64x66x66, .f32⟩
  | .local _ .vmem, ⟨48, _⟩ => ⟨S1x32x64x64, .f32⟩
  | .local _ .vmem, ⟨49, _⟩ => ⟨S1x32x64x64, .f32⟩
  | .local _ .vmem, ⟨50, _⟩ => ⟨S9x32x64, .f32⟩
  | .local _ .vmem, ⟨51, _⟩ => ⟨S32x1x1, .f32⟩
  | .local _ .vmem, ⟨52, _⟩ => ⟨S1x32x128x128, .f32⟩
  | .local _ .vmem, ⟨53, _⟩ => ⟨S1x32x128x128, .f32⟩
  | .local _ .vmem, ⟨54, _⟩ => ⟨S1x32x130x130, .f32⟩
  | .local _ .vmem, ⟨55, _⟩ => ⟨S1x32x130x130, .f32⟩
  | .local _ .vmem, ⟨56, _⟩ => ⟨S1x16x128x128, .f32⟩
  | .local _ .vmem, ⟨57, _⟩ => ⟨S1x16x128x128, .f32⟩
  | .local _ .vmem, ⟨58, _⟩ => ⟨S9x16x32, .f32⟩
  | .local _ .vmem, ⟨59, _⟩ => ⟨S16x1x1, .f32⟩
  | .local _ .vmem, ⟨60, _⟩ => ⟨S1x16x256x256, .f32⟩
  | .local _ .vmem, ⟨61, _⟩ => ⟨S1x16x256x256, .f32⟩
  | .local _ .vmem, ⟨62, _⟩ => ⟨S1x16x258x258, .f32⟩
  | .local _ .vmem, ⟨63, _⟩ => ⟨S1x16x258x258, .f32⟩
  | .local _ .vmem, ⟨64, _⟩ => ⟨S1x8x256x256, .f32⟩
  | .local _ .vmem, ⟨65, _⟩ => ⟨S1x8x256x256, .f32⟩
  | .local _ .vmem, ⟨66, _⟩ => ⟨S9x8x16, .f32⟩
  | .local _ .vmem, ⟨67, _⟩ => ⟨S8x1x1, .f32⟩
  | .local _ .vmem, ⟨68, _⟩ => ⟨S1x8x512x512, .f32⟩
  | .local _ .vmem, ⟨69, _⟩ => ⟨S1x8x512x512, .f32⟩
  | .local _ .vmem, ⟨70, _⟩ => ⟨S1x8x514x514, .f32⟩
  | .local _ .vmem, ⟨71, _⟩ => ⟨S1x8x514x514, .f32⟩
  | .local _ .vmem, ⟨72, _⟩ => ⟨S9x2x8, .f32⟩
  | .local _ .vmem, ⟨73, _⟩ => ⟨S2x1x1, .f32⟩
  | .local _ .vmem, ⟨74, _⟩ => ⟨S1x2x64x512, .f32⟩
  | .local _ .vmem, ⟨75, _⟩ => ⟨S1x2x64x512, .f32⟩
  | _, _ => ⟨S4x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_call0_v0 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_c_0 : Ref sig .tc := ⟨.hbm, 31, rfl⟩
abbrev main_call1_v0 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_c_1 : Ref sig .tc := ⟨.hbm, 38, rfl⟩
abbrev main_call2_v0 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_c_2 : Ref sig .tc := ⟨.hbm, 45, rfl⟩
abbrev main_call3_v0 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_c_3 : Ref sig .tc := ⟨.hbm, 52, rfl⟩
abbrev main_call4_v0 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_c_4 : Ref sig .tc := ⟨.hbm, 62, rfl⟩
abbrev main_call5_v0 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_c_5 : Ref sig .tc := ⟨.hbm, 69, rfl⟩
abbrev main_call6_v0 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_c_6 : Ref sig .tc := ⟨.hbm, 76, rfl⟩
abbrev main_call7_v0 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_c_7 : Ref sig .tc := ⟨.hbm, 83, rfl⟩
abbrev main_call8_v0 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_c_8 : Ref sig .tc := ⟨.hbm, 90, rfl⟩
abbrev main_call9_v0 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg4_0 : Ref sig .tc := ⟨.vmem, 36, rfl⟩
abbrev cc5_stg4_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_stg3_0 : Ref sig .tc := ⟨.vmem, 43, rfl⟩
abbrev cc6_stg4_0 : Ref sig .tc := ⟨.vmem, 44, rfl⟩
abbrev cc6_stg4_1 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg1_1 : Ref sig .tc := ⟨.vmem, 49, rfl⟩
abbrev cc7_stg2_0 : Ref sig .tc := ⟨.vmem, 50, rfl⟩
abbrev cc7_stg3_0 : Ref sig .tc := ⟨.vmem, 51, rfl⟩
abbrev cc7_stg4_0 : Ref sig .tc := ⟨.vmem, 52, rfl⟩
abbrev cc7_stg4_1 : Ref sig .tc := ⟨.vmem, 53, rfl⟩
abbrev cc8_stg0_0 : Ref sig .tc := ⟨.vmem, 54, rfl⟩
abbrev cc8_stg0_1 : Ref sig .tc := ⟨.vmem, 55, rfl⟩
abbrev cc8_stg1_0 : Ref sig .tc := ⟨.vmem, 56, rfl⟩
abbrev cc8_stg1_1 : Ref sig .tc := ⟨.vmem, 57, rfl⟩
abbrev cc8_stg2_0 : Ref sig .tc := ⟨.vmem, 58, rfl⟩
abbrev cc8_stg3_0 : Ref sig .tc := ⟨.vmem, 59, rfl⟩
abbrev cc8_stg4_0 : Ref sig .tc := ⟨.vmem, 60, rfl⟩
abbrev cc8_stg4_1 : Ref sig .tc := ⟨.vmem, 61, rfl⟩
abbrev cc9_stg0_0 : Ref sig .tc := ⟨.vmem, 62, rfl⟩
abbrev cc9_stg0_1 : Ref sig .tc := ⟨.vmem, 63, rfl⟩
abbrev cc9_stg1_0 : Ref sig .tc := ⟨.vmem, 64, rfl⟩
abbrev cc9_stg1_1 : Ref sig .tc := ⟨.vmem, 65, rfl⟩
abbrev cc9_stg2_0 : Ref sig .tc := ⟨.vmem, 66, rfl⟩
abbrev cc9_stg3_0 : Ref sig .tc := ⟨.vmem, 67, rfl⟩
abbrev cc9_stg4_0 : Ref sig .tc := ⟨.vmem, 68, rfl⟩
abbrev cc9_stg4_1 : Ref sig .tc := ⟨.vmem, 69, rfl⟩
abbrev cc10_stg0_0 : Ref sig .tc := ⟨.vmem, 70, rfl⟩
abbrev cc10_stg0_1 : Ref sig .tc := ⟨.vmem, 71, rfl⟩
abbrev cc10_stg1_0 : Ref sig .tc := ⟨.vmem, 72, rfl⟩
abbrev cc10_stg2_0 : Ref sig .tc := ⟨.vmem, 73, rfl⟩
abbrev cc10_stg3_0 : Ref sig .tc := ⟨.vmem, 74, rfl⟩
abbrev cc10_stg3_1 : Ref sig .tc := ⟨.vmem, 75, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem3_0 : DmaSem sig := 35
abbrev cc5_sem4_0 : DmaSem sig := 36
abbrev cc5_sem4_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem3_0 : DmaSem sig := 43
abbrev cc6_sem4_0 : DmaSem sig := 44
abbrev cc6_sem4_1 : DmaSem sig := 45
abbrev cc7_sem0_0 : DmaSem sig := 46
abbrev cc7_sem0_1 : DmaSem sig := 47
abbrev cc7_sem1_0 : DmaSem sig := 48
abbrev cc7_sem1_1 : DmaSem sig := 49
abbrev cc7_sem2_0 : DmaSem sig := 50
abbrev cc7_sem3_0 : DmaSem sig := 51
abbrev cc7_sem4_0 : DmaSem sig := 52
abbrev cc7_sem4_1 : DmaSem sig := 53
abbrev cc8_sem0_0 : DmaSem sig := 54
abbrev cc8_sem0_1 : DmaSem sig := 55
abbrev cc8_sem1_0 : DmaSem sig := 56
abbrev cc8_sem1_1 : DmaSem sig := 57
abbrev cc8_sem2_0 : DmaSem sig := 58
abbrev cc8_sem3_0 : DmaSem sig := 59
abbrev cc8_sem4_0 : DmaSem sig := 60
abbrev cc8_sem4_1 : DmaSem sig := 61
abbrev cc9_sem0_0 : DmaSem sig := 62
abbrev cc9_sem0_1 : DmaSem sig := 63
abbrev cc9_sem1_0 : DmaSem sig := 64
abbrev cc9_sem1_1 : DmaSem sig := 65
abbrev cc9_sem2_0 : DmaSem sig := 66
abbrev cc9_sem3_0 : DmaSem sig := 67
abbrev cc9_sem4_0 : DmaSem sig := 68
abbrev cc9_sem4_1 : DmaSem sig := 69
abbrev cc10_sem0_0 : DmaSem sig := 70
abbrev cc10_sem0_1 : DmaSem sig := 71
abbrev cc10_sem1_0 : DmaSem sig := 72
abbrev cc10_sem2_0 : DmaSem sig := 73
abbrev cc10_sem3_0 : DmaSem sig := 74
abbrev cc10_sem3_1 : DmaSem sig := 75

abbrev nD : Nat := 1
abbrev τ : Topo := Topo.v7x

variable {F : FTy → Type} [FloatOps F]

abbrev grid0 : Pipeline.Grid := ⟨2, ![4, 8], ![false, false]⟩

def k0_off1 (i : grid0.Coords) : Fin 4 → Nat :=
  let c0 : Index := 0#32
  let c0_0 : Index := 0#32
  let arg1 : BitVec 32 := BitVec.ofNat 32 (i 1).val
  let c64_i32 : BitVec 32 := 64#32
  let v0 : BitVec 32 := Scalar.muli arg1 c64_i32
  let v1 : Index := Scalar.indexCast v0
  let c0_1 : Index := 0#32
  ![0, 0, v1.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x3x514x514 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S9x8x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 4], ![false, false]⟩

def k1_off1 (i : grid1.Coords) : Fin 4 → Nat :=
  let c0 : Index := 0#32
  let c0_0 : Index := 0#32
  let arg1 : BitVec 32 := BitVec.ofNat 32 (i 1).val
  let c64_i32 : BitVec 32 := 64#32
  let v0 : BitVec 32 := Scalar.muli arg1 c64_i32
  let v1 : Index := Scalar.indexCast v0
  let c0_1 : Index := 0#32
  ![0, 0, v1.toNat, 0]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x8x258x258 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S9x16x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S16x1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x16x32x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![4], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S1x16x130x130 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S9x32x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x32x64x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![4], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 2 → Memref sig .tc .vmem S1x32x66x66 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S9x64x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1x64x32x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![4], ![false]⟩

def cc4_transform_0 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_3 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage4_0 : Fin 2 → Memref sig .tc .vmem S1x64x34x34 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S9x128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1x128x16x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![4], ![false]⟩

def cc5_transform_0 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc5_transform_1 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_4 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage5_0 : Fin 2 → Memref sig .tc .vmem S1x128x16x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x512x16x16 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x1x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S1x128x32x32 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![4], ![false]⟩

def cc6_transform_0 (i : grid6.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc6_transform_1 (i : grid6.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_3 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_4 (i : grid6.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage6_0 : Fin 2 → Memref sig .tc .vmem S1x128x34x34 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x64x32x32 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S9x64x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x1x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S1x64x64x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![4], ![false]⟩

def cc7_transform_0 (i : grid7.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc7_transform_1 (i : grid7.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc7_transform_2 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_3 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_4 (i : grid7.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage7_0 : Fin 2 → Memref sig .tc .vmem S1x64x66x66 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1x32x64x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S9x32x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S32x1x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S1x32x128x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![4], ![false]⟩

def cc8_transform_0 (i : grid8.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc8_transform_1 (i : grid8.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc8_transform_2 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc8_transform_3 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc8_transform_4 (i : grid8.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage8_0 : Fin 2 → Memref sig .tc .vmem S1x32x130x130 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1x16x128x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S9x16x32 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S16x1x1 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S1x16x256x256 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![4], ![false]⟩

def cc9_transform_0 (i : grid9.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc9_transform_1 (i : grid9.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc9_transform_2 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc9_transform_3 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc9_transform_4 (i : grid9.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage9_0 : Fin 2 → Memref sig .tc .vmem S1x16x258x258 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1x8x256x256 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S9x8x16 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S8x1x1 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S1x8x512x512 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨2, ![4, 8], ![false, false]⟩

def k10_off1 (i : grid10.Coords) : Fin 4 → Nat :=
  let c0 : Index := 0#32
  let c0_0 : Index := 0#32
  let arg1 : BitVec 32 := BitVec.ofNat 32 (i 1).val
  let c64_i32 : BitVec 32 := 64#32
  let v0 : BitVec 32 := Scalar.muli arg1 c64_i32
  let v1 : Index := Scalar.indexCast v0
  let c0_1 : Index := 0#32
  ![0, 0, v1.toNat, 0]
def cc10_transform_0 (i : grid10.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc10_transform_1 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc10_transform_2 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc10_transform_3 (i : grid10.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage10_0 : Fin 2 → Memref sig .tc .vmem S1x8x514x514 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false]

abbrev stage10_1 : Fin 1 → Memref sig .tc .vmem S9x2x8 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false, false]

abbrev stage10_2 : Fin 1 → Memref sig .tc .vmem S2x1x1 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false, false]

abbrev stage10_3 : Fin 2 → Memref sig .tc .vmem S1x2x64x512 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, true]
-- ==== ReferenceIdeal.lean ====
abbrev S4x3x512x512 : Shape := ⟨4, ![4, 3, 512, 512]⟩
abbrev S4x512x16x16 : Shape := ⟨4, ![4, 512, 16, 16]⟩
abbrev S8x3x3x3 : Shape := ⟨4, ![8, 3, 3, 3]⟩
abbrev S8 : Shape := ⟨1, ![8]⟩
abbrev S16x8x3x3 : Shape := ⟨4, ![16, 8, 3, 3]⟩
abbrev S16 : Shape := ⟨1, ![16]⟩
abbrev S32x16x3x3 : Shape := ⟨4, ![32, 16, 3, 3]⟩
abbrev S32 : Shape := ⟨1, ![32]⟩
abbrev S64x32x3x3 : Shape := ⟨4, ![64, 32, 3, 3]⟩
abbrev S64 : Shape := ⟨1, ![64]⟩
abbrev S128x64x3x3 : Shape := ⟨4, ![128, 64, 3, 3]⟩
abbrev S128 : Shape := ⟨1, ![128]⟩
abbrev S128x512x1x1 : Shape := ⟨4, ![128, 512, 1, 1]⟩
abbrev S64x128x3x3 : Shape := ⟨4, ![64, 128, 3, 3]⟩
abbrev S32x64x3x3 : Shape := ⟨4, ![32, 64, 3, 3]⟩
abbrev S16x32x3x3 : Shape := ⟨4, ![16, 32, 3, 3]⟩
abbrev S8x16x3x3 : Shape := ⟨4, ![8, 16, 3, 3]⟩
abbrev S2x8x3x3 : Shape := ⟨4, ![2, 8, 3, 3]⟩
abbrev S2 : Shape := ⟨1, ![2]⟩
abbrev S_ : Shape := ⟨0, ![]⟩
abbrev S4x3x514x514 : Shape := ⟨4, ![4, 3, 514, 514]⟩
abbrev S4x8x512x512 : Shape := ⟨4, ![4, 8, 512, 512]⟩
abbrev S8x3x1x1 : Shape := ⟨4, ![8, 3, 1, 1]⟩
abbrev S8x3 : Shape := ⟨2, ![8, 3]⟩
abbrev S8x4x512x512 : Shape := ⟨4, ![8, 4, 512, 512]⟩
abbrev S1x8x1x1 : Shape := ⟨4, ![1, 8, 1, 1]⟩
abbrev S4x8x256x256 : Shape := ⟨4, ![4, 8, 256, 256]⟩
abbrev S4x8x258x258 : Shape := ⟨4, ![4, 8, 258, 258]⟩
abbrev S4x16x256x256 : Shape := ⟨4, ![4, 16, 256, 256]⟩
abbrev S16x8x1x1 : Shape := ⟨4, ![16, 8, 1, 1]⟩
abbrev S16x8 : Shape := ⟨2, ![16, 8]⟩
abbrev S16x4x256x256 : Shape := ⟨4, ![16, 4, 256, 256]⟩
abbrev S1x16x1x1 : Shape := ⟨4, ![1, 16, 1, 1]⟩
abbrev S4x16x128x128 : Shape := ⟨4, ![4, 16, 128, 128]⟩
abbrev S4x16x130x130 : Shape := ⟨4, ![4, 16, 130, 130]⟩
abbrev S4x32x128x128 : Shape := ⟨4, ![4, 32, 128, 128]⟩
abbrev S32x16x1x1 : Shape := ⟨4, ![32, 16, 1, 1]⟩
abbrev S32x16 : Shape := ⟨2, ![32, 16]⟩
abbrev S32x4x128x128 : Shape := ⟨4, ![32, 4, 128, 128]⟩
abbrev S1x32x1x1 : Shape := ⟨4, ![1, 32, 1, 1]⟩
abbrev S4x32x64x64 : Shape := ⟨4, ![4, 32, 64, 64]⟩
abbrev S4x32x66x66 : Shape := ⟨4, ![4, 32, 66, 66]⟩
abbrev S4x64x64x64 : Shape := ⟨4, ![4, 64, 64, 64]⟩
abbrev S64x32x1x1 : Shape := ⟨4, ![64, 32, 1, 1]⟩
abbrev S64x32 : Shape := ⟨2, ![64, 32]⟩
abbrev S64x4x64x64 : Shape := ⟨4, ![64, 4, 64, 64]⟩
abbrev S1x64x1x1 : Shape := ⟨4, ![1, 64, 1, 1]⟩
abbrev S4x64x32x32 : Shape := ⟨4, ![4, 64, 32, 32]⟩
abbrev S4x64x34x34 : Shape := ⟨4, ![4, 64, 34, 34]⟩
abbrev S4x128x32x32 : Shape := ⟨4, ![4, 128, 32, 32]⟩
abbrev S128x64x1x1 : Shape := ⟨4, ![128, 64, 1, 1]⟩
abbrev S128x64 : Shape := ⟨2, ![128, 64]⟩
abbrev S128x4x32x32 : Shape := ⟨4, ![128, 4, 32, 32]⟩
abbrev S1x128x1x1 : Shape := ⟨4, ![1, 128, 1, 1]⟩
abbrev S4x128x16x16 : Shape := ⟨4, ![4, 128, 16, 16]⟩
abbrev S128x512 : Shape := ⟨2, ![128, 512]⟩
abbrev S128x4x16x16 : Shape := ⟨4, ![128, 4, 16, 16]⟩
abbrev S32x1 : Shape := ⟨2, ![32, 1]⟩
abbrev S4x128x32x16 : Shape := ⟨4, ![4, 128, 32, 16]⟩
abbrev S1x1x32x1 : Shape := ⟨4, ![1, 1, 32, 1]⟩
abbrev S1x1x1x32 : Shape := ⟨4, ![1, 1, 1, 32]⟩
abbrev S4x128x34x34 : Shape := ⟨4, ![4, 128, 34, 34]⟩
abbrev S64x128x1x1 : Shape := ⟨4, ![64, 128, 1, 1]⟩
abbrev S64x128 : Shape := ⟨2, ![64, 128]⟩
abbrev S64x4x32x32 : Shape := ⟨4, ![64, 4, 32, 32]⟩
abbrev S64x1 : Shape := ⟨2, ![64, 1]⟩
abbrev S4x64x64x32 : Shape := ⟨4, ![4, 64, 64, 32]⟩
abbrev S1x1x64x1 : Shape := ⟨4, ![1, 1, 64, 1]⟩
abbrev S1x1x1x64 : Shape := ⟨4, ![1, 1, 1, 64]⟩
abbrev S4x64x66x66 : Shape := ⟨4, ![4, 64, 66, 66]⟩
abbrev S32x64x1x1 : Shape := ⟨4, ![32, 64, 1, 1]⟩
abbrev S32x64 : Shape := ⟨2, ![32, 64]⟩
abbrev S32x4x64x64 : Shape := ⟨4, ![32, 4, 64, 64]⟩
abbrev S128x1 : Shape := ⟨2, ![128, 1]⟩
abbrev S4x32x128x64 : Shape := ⟨4, ![4, 32, 128, 64]⟩
abbrev S1x1x128x1 : Shape := ⟨4, ![1, 1, 128, 1]⟩
abbrev S1x1x1x128 : Shape := ⟨4, ![1, 1, 1, 128]⟩
abbrev S4x32x130x130 : Shape := ⟨4, ![4, 32, 130, 130]⟩
abbrev S16x32x1x1 : Shape := ⟨4, ![16, 32, 1, 1]⟩
abbrev S16x32 : Shape := ⟨2, ![16, 32]⟩
abbrev S16x4x128x128 : Shape := ⟨4, ![16, 4, 128, 128]⟩
abbrev S256 : Shape := ⟨1, ![256]⟩
abbrev S256x1 : Shape := ⟨2, ![256, 1]⟩
abbrev S4x16x256x128 : Shape := ⟨4, ![4, 16, 256, 128]⟩
abbrev S1x1x256x1 : Shape := ⟨4, ![1, 1, 256, 1]⟩
abbrev S1x1x1x256 : Shape := ⟨4, ![1, 1, 1, 256]⟩
abbrev S4x16x258x258 : Shape := ⟨4, ![4, 16, 258, 258]⟩
abbrev S8x16x1x1 : Shape := ⟨4, ![8, 16, 1, 1]⟩
abbrev S8x16 : Shape := ⟨2, ![8, 16]⟩
abbrev S8x4x256x256 : Shape := ⟨4, ![8, 4, 256, 256]⟩
abbrev S512 : Shape := ⟨1, ![512]⟩
abbrev S512x1 : Shape := ⟨2, ![512, 1]⟩
abbrev S4x8x512x256 : Shape := ⟨4, ![4, 8, 512, 256]⟩
abbrev S1x1x512x1 : Shape := ⟨4, ![1, 1, 512, 1]⟩
abbrev S1x1x1x512 : Shape := ⟨4, ![1, 1, 1, 512]⟩
abbrev S4x8x514x514 : Shape := ⟨4, ![4, 8, 514, 514]⟩
abbrev S4x2x512x512 : Shape := ⟨4, ![4, 2, 512, 512]⟩
abbrev S2x8x1x1 : Shape := ⟨4, ![2, 8, 1, 1]⟩
abbrev S2x8 : Shape := ⟨2, ![2, 8]⟩
abbrev S2x4x512x512 : Shape := ⟨4, ![2, 4, 512, 512]⟩
abbrev S1x2x1x1 : Shape := ⟨4, ![1, 2, 1, 1]⟩
abbrev S4x512x512 : Shape := ⟨3, ![4, 512, 512]⟩
abbrev S4x1x512x512 : Shape := ⟨4, ![4, 1, 512, 512]⟩

abbrev nBuf : Space → Nat
  | .hbm => 1260
  | .vmem => 0
  | .smem => 0
  | _ => 0

abbrev hbmTy0_0 (i : Nat) : BufTy := match i % 128 with
  | 0 => ⟨S4x3x512x512, .f32⟩
  | 1 => ⟨S4x512x16x16, .f32⟩
  | 2 => ⟨S8x3x3x3, .f32⟩
  | 3 => ⟨S8, .f32⟩
  | 4 => ⟨S16x8x3x3, .f32⟩
  | 5 => ⟨S16, .f32⟩
  | 6 => ⟨S32x16x3x3, .f32⟩
  | 7 => ⟨S32, .f32⟩
  | 8 => ⟨S64x32x3x3, .f32⟩
  | 9 => ⟨S64, .f32⟩
  | 10 => ⟨S128x64x3x3, .f32⟩
  | 11 => ⟨S128, .f32⟩
  | 12 => ⟨S128x512x1x1, .f32⟩
  | 13 => ⟨S128, .f32⟩
  | 14 => ⟨S64x128x3x3, .f32⟩
  | 15 => ⟨S64, .f32⟩
  | 16 => ⟨S32x64x3x3, .f32⟩
  | 17 => ⟨S32, .f32⟩
  | 18 => ⟨S16x32x3x3, .f32⟩
  | 19 => ⟨S16, .f32⟩
  | 20 => ⟨S8x16x3x3, .f32⟩
  | 21 => ⟨S8, .f32⟩
  | 22 => ⟨S2x8x3x3, .f32⟩
  | 23 => ⟨S2, .f32⟩
  | 24 => ⟨S_, .i32⟩
  | 25 => ⟨S_, .f32⟩
  | 26 => ⟨S4x3x514x514, .f32⟩
  | 27 => ⟨S_, .f32⟩
  | 28 => ⟨S4x8x512x512, .f32⟩
  | 29 => ⟨S4x3x512x512, .f32⟩
  | 30 => ⟨S8x3x1x1, .f32⟩
  | 31 => ⟨S8x3, .f32⟩
  | 32 => ⟨S8x4x512x512, .f32⟩
  | 33 => ⟨S4x8x512x512, .f32⟩
  | 34 => ⟨S4x8x512x512, .f32⟩
  | 35 => ⟨S4x3x512x512, .f32⟩
  | 36 => ⟨S8x3x1x1, .f32⟩
  | 37 => ⟨S8x3, .f32⟩
  | 38 => ⟨S8x4x512x512, .f32⟩
  | 39 => ⟨S4x8x512x512, .f32⟩
  | 40 => ⟨S4x8x512x512, .f32⟩
  | 41 => ⟨S4x3x512x512, .f32⟩
  | 42 => ⟨S8x3x1x1, .f32⟩
  | 43 => ⟨S8x3, .f32⟩
  | 44 => ⟨S8x4x512x512, .f32⟩
  | 45 => ⟨S4x8x512x512, .f32⟩
  | 46 => ⟨S4x8x512x512, .f32⟩
  | 47 => ⟨S4x3x512x512, .f32⟩
  | 48 => ⟨S8x3x1x1, .f32⟩
  | 49 => ⟨S8x3, .f32⟩
  | 50 => ⟨S8x4x512x512, .f32⟩
  | 51 => ⟨S4x8x512x512, .f32⟩
  | 52 => ⟨S4x8x512x512, .f32⟩
  | 53 => ⟨S4x3x512x512, .f32⟩
  | 54 => ⟨S8x3x1x1, .f32⟩
  | 55 => ⟨S8x3, .f32⟩
  | 56 => ⟨S8x4x512x512, .f32⟩
  | 57 => ⟨S4x8x512x512, .f32⟩
  | 58 => ⟨S4x8x512x512, .f32⟩
  | 59 => ⟨S4x3x512x512, .f32⟩
  | 60 => ⟨S8x3x1x1, .f32⟩
  | 61 => ⟨S8x3, .f32⟩
  | 62 => ⟨S8x4x512x512, .f32⟩
  | 63 => ⟨S4x8x512x512, .f32⟩
  | 64 => ⟨S4x8x512x512, .f32⟩
  | 65 => ⟨S4x3x512x512, .f32⟩
  | 66 => ⟨S8x3x1x1, .f32⟩
  | 67 => ⟨S8x3, .f32⟩
  | 68 => ⟨S8x4x512x512, .f32⟩
  | 69 => ⟨S4x8x512x512, .f32⟩
  | 70 => ⟨S4x8x512x512, .f32⟩
  | 71 => ⟨S4x3x512x512, .f32⟩
  | 72 => ⟨S8x3x1x1, .f32⟩
  | 73 => ⟨S8x3, .f32⟩
  | 74 => ⟨S8x4x512x512, .f32⟩
  | 75 => ⟨S4x8x512x512, .f32⟩
  | 76 => ⟨S4x8x512x512, .f32⟩
  | 77 => ⟨S4x3x512x512, .f32⟩
  | 78 => ⟨S8x3x1x1, .f32⟩
  | 79 => ⟨S8x3, .f32⟩
  | 80 => ⟨S8x4x512x512, .f32⟩
  | 81 => ⟨S4x8x512x512, .f32⟩
  | 82 => ⟨S4x8x512x512, .f32⟩
  | 83 => ⟨S1x8x1x1, .f32⟩
  | 84 => ⟨S4x8x512x512, .f32⟩
  | 85 => ⟨S4x8x512x512, .f32⟩
  | 86 => ⟨S_, .f32⟩
  | 87 => ⟨S_, .f32⟩
  | 88 => ⟨S4x8x512x512, .f32⟩
  | 89 => ⟨S4x8x512x512, .i1⟩
  | 90 => ⟨S_, .f32⟩
  | 91 => ⟨S4x8x512x512, .f32⟩
  | 92 => ⟨S4x8x512x512, .f32⟩
  | 93 => ⟨S4x8x512x512, .f32⟩
  | 94 => ⟨S_, .f32⟩
  | 95 => ⟨S_, .f32⟩
  | 96 => ⟨S4x8x256x256, .f32⟩
  | 97 => ⟨S_, .i32⟩
  | 98 => ⟨S_, .f32⟩
  | 99 => ⟨S4x8x258x258, .f32⟩
  | 100 => ⟨S_, .f32⟩
  | 101 => ⟨S4x16x256x256, .f32⟩
  | 102 => ⟨S4x8x256x256, .f32⟩
  | 103 => ⟨S16x8x1x1, .f32⟩
  | 104 => ⟨S16x8, .f32⟩
  | 105 => ⟨S16x4x256x256, .f32⟩
  | 106 => ⟨S4x16x256x256, .f32⟩
  | 107 => ⟨S4x16x256x256, .f32⟩
  | 108 => ⟨S4x8x256x256, .f32⟩
  | 109 => ⟨S16x8x1x1, .f32⟩
  | 110 => ⟨S16x8, .f32⟩
  | 111 => ⟨S16x4x256x256, .f32⟩
  | 112 => ⟨S4x16x256x256, .f32⟩
  | 113 => ⟨S4x16x256x256, .f32⟩
  | 114 => ⟨S4x8x256x256, .f32⟩
  | 115 => ⟨S16x8x1x1, .f32⟩
  | 116 => ⟨S16x8, .f32⟩
  | 117 => ⟨S16x4x256x256, .f32⟩
  | 118 => ⟨S4x16x256x256, .f32⟩
  | 119 => ⟨S4x16x256x256, .f32⟩
  | 120 => ⟨S4x8x256x256, .f32⟩
  | 121 => ⟨S16x8x1x1, .f32⟩
  | 122 => ⟨S16x8, .f32⟩
  | 123 => ⟨S16x4x256x256, .f32⟩
  | 124 => ⟨S4x16x256x256, .f32⟩
  | 125 => ⟨S4x16x256x256, .f32⟩
  | 126 => ⟨S4x8x256x256, .f32⟩
  | 127 => ⟨S16x8x1x1, .f32⟩
  | _ => ⟨S4x3x512x512, .f32⟩

abbrev hbmTy0_1 (i : Nat) : BufTy := match i % 128 with
  | 0 => ⟨S16x8, .f32⟩
  | 1 => ⟨S16x4x256x256, .f32⟩
  | 2 => ⟨S4x16x256x256, .f32⟩
  | 3 => ⟨S4x16x256x256, .f32⟩
  | 4 => ⟨S4x8x256x256, .f32⟩
  | 5 => ⟨S16x8x1x1, .f32⟩
  | 6 => ⟨S16x8, .f32⟩
  | 7 => ⟨S16x4x256x256, .f32⟩
  | 8 => ⟨S4x16x256x256, .f32⟩
  | 9 => ⟨S4x16x256x256, .f32⟩
  | 10 => ⟨S4x8x256x256, .f32⟩
  | 11 => ⟨S16x8x1x1, .f32⟩
  | 12 => ⟨S16x8, .f32⟩
  | 13 => ⟨S16x4x256x256, .f32⟩
  | 14 => ⟨S4x16x256x256, .f32⟩
  | 15 => ⟨S4x16x256x256, .f32⟩
  | 16 => ⟨S4x8x256x256, .f32⟩
  | 17 => ⟨S16x8x1x1, .f32⟩
  | 18 => ⟨S16x8, .f32⟩
  | 19 => ⟨S16x4x256x256, .f32⟩
  | 20 => ⟨S4x16x256x256, .f32⟩
  | 21 => ⟨S4x16x256x256, .f32⟩
  | 22 => ⟨S4x8x256x256, .f32⟩
  | 23 => ⟨S16x8x1x1, .f32⟩
  | 24 => ⟨S16x8, .f32⟩
  | 25 => ⟨S16x4x256x256, .f32⟩
  | 26 => ⟨S4x16x256x256, .f32⟩
  | 27 => ⟨S4x16x256x256, .f32⟩
  | 28 => ⟨S1x16x1x1, .f32⟩
  | 29 => ⟨S4x16x256x256, .f32⟩
  | 30 => ⟨S4x16x256x256, .f32⟩
  | 31 => ⟨S_, .f32⟩
  | 32 => ⟨S_, .f32⟩
  | 33 => ⟨S4x16x256x256, .f32⟩
  | 34 => ⟨S4x16x256x256, .i1⟩
  | 35 => ⟨S_, .f32⟩
  | 36 => ⟨S4x16x256x256, .f32⟩
  | 37 => ⟨S4x16x256x256, .f32⟩
  | 38 => ⟨S4x16x256x256, .f32⟩
  | 39 => ⟨S_, .f32⟩
  | 40 => ⟨S_, .f32⟩
  | 41 => ⟨S4x16x128x128, .f32⟩
  | 42 => ⟨S_, .i32⟩
  | 43 => ⟨S_, .f32⟩
  | 44 => ⟨S4x16x130x130, .f32⟩
  | 45 => ⟨S_, .f32⟩
  | 46 => ⟨S4x32x128x128, .f32⟩
  | 47 => ⟨S4x16x128x128, .f32⟩
  | 48 => ⟨S32x16x1x1, .f32⟩
  | 49 => ⟨S32x16, .f32⟩
  | 50 => ⟨S32x4x128x128, .f32⟩
  | 51 => ⟨S4x32x128x128, .f32⟩
  | 52 => ⟨S4x32x128x128, .f32⟩
  | 53 => ⟨S4x16x128x128, .f32⟩
  | 54 => ⟨S32x16x1x1, .f32⟩
  | 55 => ⟨S32x16, .f32⟩
  | 56 => ⟨S32x4x128x128, .f32⟩
  | 57 => ⟨S4x32x128x128, .f32⟩
  | 58 => ⟨S4x32x128x128, .f32⟩
  | 59 => ⟨S4x16x128x128, .f32⟩
  | 60 => ⟨S32x16x1x1, .f32⟩
  | 61 => ⟨S32x16, .f32⟩
  | 62 => ⟨S32x4x128x128, .f32⟩
  | 63 => ⟨S4x32x128x128, .f32⟩
  | 64 => ⟨S4x32x128x128, .f32⟩
  | 65 => ⟨S4x16x128x128, .f32⟩
  | 66 => ⟨S32x16x1x1, .f32⟩
  | 67 => ⟨S32x16, .f32⟩
  | 68 => ⟨S32x4x128x128, .f32⟩
  | 69 => ⟨S4x32x128x128, .f32⟩
  | 70 => ⟨S4x32x128x128, .f32⟩
  | 71 => ⟨S4x16x128x128, .f32⟩
  | 72 => ⟨S32x16x1x1, .f32⟩
  | 73 => ⟨S32x16, .f32⟩
  | 74 => ⟨S32x4x128x128, .f32⟩
  | 75 => ⟨S4x32x128x128, .f32⟩
  | 76 => ⟨S4x32x128x128, .f32⟩
  | 77 => ⟨S4x16x128x128, .f32⟩
  | 78 => ⟨S32x16x1x1, .f32⟩
  | 79 => ⟨S32x16, .f32⟩
  | 80 => ⟨S32x4x128x128, .f32⟩
  | 81 => ⟨S4x32x128x128, .f32⟩
  | 82 => ⟨S4x32x128x128, .f32⟩
  | 83 => ⟨S4x16x128x128, .f32⟩
  | 84 => ⟨S32x16x1x1, .f32⟩
  | 85 => ⟨S32x16, .f32⟩
  | 86 => ⟨S32x4x128x128, .f32⟩
  | 87 => ⟨S4x32x128x128, .f32⟩
  | 88 => ⟨S4x32x128x128, .f32⟩
  | 89 => ⟨S4x16x128x128, .f32⟩
  | 90 => ⟨S32x16x1x1, .f32⟩
  | 91 => ⟨S32x16, .f32⟩
  | 92 => ⟨S32x4x128x128, .f32⟩
  | 93 => ⟨S4x32x128x128, .f32⟩
  | 94 => ⟨S4x32x128x128, .f32⟩
  | 95 => ⟨S4x16x128x128, .f32⟩
  | 96 => ⟨S32x16x1x1, .f32⟩
  | 97 => ⟨S32x16, .f32⟩
  | 98 => ⟨S32x4x128x128, .f32⟩
  | 99 => ⟨S4x32x128x128, .f32⟩
  | 100 => ⟨S4x32x128x128, .f32⟩
  | 101 => ⟨S1x32x1x1, .f32⟩
  | 102 => ⟨S4x32x128x128, .f32⟩
  | 103 => ⟨S4x32x128x128, .f32⟩
  | 104 => ⟨S_, .f32⟩
  | 105 => ⟨S_, .f32⟩
  | 106 => ⟨S4x32x128x128, .f32⟩
  | 107 => ⟨S4x32x128x128, .i1⟩
  | 108 => ⟨S_, .f32⟩
  | 109 => ⟨S4x32x128x128, .f32⟩
  | 110 => ⟨S4x32x128x128, .f32⟩
  | 111 => ⟨S4x32x128x128, .f32⟩
  | 112 => ⟨S_, .f32⟩
  | 113 => ⟨S_, .f32⟩
  | 114 => ⟨S4x32x64x64, .f32⟩
  | 115 => ⟨S_, .i32⟩
  | 116 => ⟨S_, .f32⟩
  | 117 => ⟨S4x32x66x66, .f32⟩
  | 118 => ⟨S_, .f32⟩
  | 119 => ⟨S4x64x64x64, .f32⟩
  | 120 => ⟨S4x32x64x64, .f32⟩
  | 121 => ⟨S64x32x1x1, .f32⟩
  | 122 => ⟨S64x32, .f32⟩
  | 123 => ⟨S64x4x64x64, .f32⟩
  | 124 => ⟨S4x64x64x64, .f32⟩
  | 125 => ⟨S4x64x64x64, .f32⟩
  | 126 => ⟨S4x32x64x64, .f32⟩
  | 127 => ⟨S64x32x1x1, .f32⟩
  | _ => ⟨S4x3x512x512, .f32⟩

abbrev hbmTy0_2 (i : Nat) : BufTy := match i % 128 with
  | 0 => ⟨S64x32, .f32⟩
  | 1 => ⟨S64x4x64x64, .f32⟩
  | 2 => ⟨S4x64x64x64, .f32⟩
  | 3 => ⟨S4x64x64x64, .f32⟩
  | 4 => ⟨S4x32x64x64, .f32⟩
  | 5 => ⟨S64x32x1x1, .f32⟩
  | 6 => ⟨S64x32, .f32⟩
  | 7 => ⟨S64x4x64x64, .f32⟩
  | 8 => ⟨S4x64x64x64, .f32⟩
  | 9 => ⟨S4x64x64x64, .f32⟩
  | 10 => ⟨S4x32x64x64, .f32⟩
  | 11 => ⟨S64x32x1x1, .f32⟩
  | 12 => ⟨S64x32, .f32⟩
  | 13 => ⟨S64x4x64x64, .f32⟩
  | 14 => ⟨S4x64x64x64, .f32⟩
  | 15 => ⟨S4x64x64x64, .f32⟩
  | 16 => ⟨S4x32x64x64, .f32⟩
  | 17 => ⟨S64x32x1x1, .f32⟩
  | 18 => ⟨S64x32, .f32⟩
  | 19 => ⟨S64x4x64x64, .f32⟩
  | 20 => ⟨S4x64x64x64, .f32⟩
  | 21 => ⟨S4x64x64x64, .f32⟩
  | 22 => ⟨S4x32x64x64, .f32⟩
  | 23 => ⟨S64x32x1x1, .f32⟩
  | 24 => ⟨S64x32, .f32⟩
  | 25 => ⟨S64x4x64x64, .f32⟩
  | 26 => ⟨S4x64x64x64, .f32⟩
  | 27 => ⟨S4x64x64x64, .f32⟩
  | 28 => ⟨S4x32x64x64, .f32⟩
  | 29 => ⟨S64x32x1x1, .f32⟩
  | 30 => ⟨S64x32, .f32⟩
  | 31 => ⟨S64x4x64x64, .f32⟩
  | 32 => ⟨S4x64x64x64, .f32⟩
  | 33 => ⟨S4x64x64x64, .f32⟩
  | 34 => ⟨S4x32x64x64, .f32⟩
  | 35 => ⟨S64x32x1x1, .f32⟩
  | 36 => ⟨S64x32, .f32⟩
  | 37 => ⟨S64x4x64x64, .f32⟩
  | 38 => ⟨S4x64x64x64, .f32⟩
  | 39 => ⟨S4x64x64x64, .f32⟩
  | 40 => ⟨S4x32x64x64, .f32⟩
  | 41 => ⟨S64x32x1x1, .f32⟩
  | 42 => ⟨S64x32, .f32⟩
  | 43 => ⟨S64x4x64x64, .f32⟩
  | 44 => ⟨S4x64x64x64, .f32⟩
  | 45 => ⟨S4x64x64x64, .f32⟩
  | 46 => ⟨S1x64x1x1, .f32⟩
  | 47 => ⟨S4x64x64x64, .f32⟩
  | 48 => ⟨S4x64x64x64, .f32⟩
  | 49 => ⟨S_, .f32⟩
  | 50 => ⟨S_, .f32⟩
  | 51 => ⟨S4x64x64x64, .f32⟩
  | 52 => ⟨S4x64x64x64, .i1⟩
  | 53 => ⟨S_, .f32⟩
  | 54 => ⟨S4x64x64x64, .f32⟩
  | 55 => ⟨S4x64x64x64, .f32⟩
  | 56 => ⟨S4x64x64x64, .f32⟩
  | 57 => ⟨S_, .f32⟩
  | 58 => ⟨S_, .f32⟩
  | 59 => ⟨S4x64x32x32, .f32⟩
  | 60 => ⟨S_, .i32⟩
  | 61 => ⟨S_, .f32⟩
  | 62 => ⟨S4x64x34x34, .f32⟩
  | 63 => ⟨S_, .f32⟩
  | 64 => ⟨S4x128x32x32, .f32⟩
  | 65 => ⟨S4x64x32x32, .f32⟩
  | 66 => ⟨S128x64x1x1, .f32⟩
  | 67 => ⟨S128x64, .f32⟩
  | 68 => ⟨S128x4x32x32, .f32⟩
  | 69 => ⟨S4x128x32x32, .f32⟩
  | 70 => ⟨S4x128x32x32, .f32⟩
  | 71 => ⟨S4x64x32x32, .f32⟩
  | 72 => ⟨S128x64x1x1, .f32⟩
  | 73 => ⟨S128x64, .f32⟩
  | 74 => ⟨S128x4x32x32, .f32⟩
  | 75 => ⟨S4x128x32x32, .f32⟩
  | 76 => ⟨S4x128x32x32, .f32⟩
  | 77 => ⟨S4x64x32x32, .f32⟩
  | 78 => ⟨S128x64x1x1, .f32⟩
  | 79 => ⟨S128x64, .f32⟩
  | 80 => ⟨S128x4x32x32, .f32⟩
  | 81 => ⟨S4x128x32x32, .f32⟩
  | 82 => ⟨S4x128x32x32, .f32⟩
  | 83 => ⟨S4x64x32x32, .f32⟩
  | 84 => ⟨S128x64x1x1, .f32⟩
  | 85 => ⟨S128x64, .f32⟩
  | 86 => ⟨S128x4x32x32, .f32⟩
  | 87 => ⟨S4x128x32x32, .f32⟩
  | 88 => ⟨S4x128x32x32, .f32⟩
  | 89 => ⟨S4x64x32x32, .f32⟩
  | 90 => ⟨S128x64x1x1, .f32⟩
  | 91 => ⟨S128x64, .f32⟩
  | 92 => ⟨S128x4x32x32, .f32⟩
  | 93 => ⟨S4x128x32x32, .f32⟩
  | 94 => ⟨S4x128x32x32, .f32⟩
  | 95 => ⟨S4x64x32x32, .f32⟩
  | 96 => ⟨S128x64x1x1, .f32⟩
  | 97 => ⟨S128x64, .f32⟩
  | 98 => ⟨S128x4x32x32, .f32⟩
  | 99 => ⟨S4x128x32x32, .f32⟩
  | 100 => ⟨S4x128x32x32, .f32⟩
  | 101 => ⟨S4x64x32x32, .f32⟩
  | 102 => ⟨S128x64x1x1, .f32⟩
  | 103 => ⟨S128x64, .f32⟩
  | 104 => ⟨S128x4x32x32, .f32⟩
  | 105 => ⟨S4x128x32x32, .f32⟩
  | 106 => ⟨S4x128x32x32, .f32⟩
  | 107 => ⟨S4x64x32x32, .f32⟩
  | 108 => ⟨S128x64x1x1, .f32⟩
  | 109 => ⟨S128x64, .f32⟩
  | 110 => ⟨S128x4x32x32, .f32⟩
  | 111 => ⟨S4x128x32x32, .f32⟩
  | 112 => ⟨S4x128x32x32, .f32⟩
  | 113 => ⟨S4x64x32x32, .f32⟩
  | 114 => ⟨S128x64x1x1, .f32⟩
  | 115 => ⟨S128x64, .f32⟩
  | 116 => ⟨S128x4x32x32, .f32⟩
  | 117 => ⟨S4x128x32x32, .f32⟩
  | 118 => ⟨S4x128x32x32, .f32⟩
  | 119 => ⟨S1x128x1x1, .f32⟩
  | 120 => ⟨S4x128x32x32, .f32⟩
  | 121 => ⟨S4x128x32x32, .f32⟩
  | 122 => ⟨S_, .f32⟩
  | 123 => ⟨S_, .f32⟩
  | 124 => ⟨S4x128x32x32, .f32⟩
  | 125 => ⟨S4x128x32x32, .i1⟩
  | 126 => ⟨S_, .f32⟩
  | 127 => ⟨S4x128x32x32, .f32⟩
  | _ => ⟨S4x3x512x512, .f32⟩

abbrev hbmTy0_3 (i : Nat) : BufTy := match i % 128 with
  | 0 => ⟨S4x128x32x32, .f32⟩
  | 1 => ⟨S4x128x32x32, .f32⟩
  | 2 => ⟨S_, .f32⟩
  | 3 => ⟨S_, .f32⟩
  | 4 => ⟨S4x128x16x16, .f32⟩
  | 5 => ⟨S_, .i32⟩
  | 6 => ⟨S_, .f32⟩
  | 7 => ⟨S4x512x16x16, .f32⟩
  | 8 => ⟨S_, .f32⟩
  | 9 => ⟨S4x128x16x16, .f32⟩
  | 10 => ⟨S128x512, .f32⟩
  | 11 => ⟨S128x4x16x16, .f32⟩
  | 12 => ⟨S4x128x16x16, .f32⟩
  | 13 => ⟨S4x128x16x16, .f32⟩
  | 14 => ⟨S1x128x1x1, .f32⟩
  | 15 => ⟨S4x128x16x16, .f32⟩
  | 16 => ⟨S4x128x16x16, .f32⟩
  | 17 => ⟨S_, .f32⟩
  | 18 => ⟨S_, .f32⟩
  | 19 => ⟨S4x128x16x16, .f32⟩
  | 20 => ⟨S4x128x16x16, .i1⟩
  | 21 => ⟨S_, .f32⟩
  | 22 => ⟨S4x128x16x16, .f32⟩
  | 23 => ⟨S4x128x16x16, .f32⟩
  | 24 => ⟨S4x128x16x16, .f32⟩
  | 25 => ⟨S4x128x16x16, .f32⟩
  | 26 => ⟨S32, .i32⟩
  | 27 => ⟨S32, .f32⟩
  | 28 => ⟨S_, .f32⟩
  | 29 => ⟨S32, .f32⟩
  | 30 => ⟨S32, .f32⟩
  | 31 => ⟨S32, .i32⟩
  | 32 => ⟨S32, .f32⟩
  | 33 => ⟨S_, .f32⟩
  | 34 => ⟨S32, .f32⟩
  | 35 => ⟨S32, .f32⟩
  | 36 => ⟨S32, .f32⟩
  | 37 => ⟨S32, .i32⟩
  | 38 => ⟨S_, .i32⟩
  | 39 => ⟨S32, .i32⟩
  | 40 => ⟨S32, .i32⟩
  | 41 => ⟨S_, .i32⟩
  | 42 => ⟨S_, .i32⟩
  | 43 => ⟨S_, .i32⟩
  | 44 => ⟨S32, .i32⟩
  | 45 => ⟨S32, .i32⟩
  | 46 => ⟨S_, .i32⟩
  | 47 => ⟨S32, .i32⟩
  | 48 => ⟨S32, .i32⟩
  | 49 => ⟨S32, .f32⟩
  | 50 => ⟨S32, .f32⟩
  | 51 => ⟨S32, .f32⟩
  | 52 => ⟨S32, .f32⟩
  | 53 => ⟨S32, .i32⟩
  | 54 => ⟨S_, .i32⟩
  | 55 => ⟨S32, .i32⟩
  | 56 => ⟨S32, .i32⟩
  | 57 => ⟨S_, .i32⟩
  | 58 => ⟨S_, .i32⟩
  | 59 => ⟨S_, .i32⟩
  | 60 => ⟨S32, .i32⟩
  | 61 => ⟨S32, .i32⟩
  | 62 => ⟨S_, .i32⟩
  | 63 => ⟨S32, .i32⟩
  | 64 => ⟨S32, .i32⟩
  | 65 => ⟨S32, .f32⟩
  | 66 => ⟨S32, .f32⟩
  | 67 => ⟨S32, .f32⟩
  | 68 => ⟨S_, .i32⟩
  | 69 => ⟨S32, .i32⟩
  | 70 => ⟨S32, .i1⟩
  | 71 => ⟨S_, .i32⟩
  | 72 => ⟨S32, .i32⟩
  | 73 => ⟨S32, .i32⟩
  | 74 => ⟨S32, .i32⟩
  | 75 => ⟨S32x1, .i32⟩
  | 76 => ⟨S4x128x32x16, .f32⟩
  | 77 => ⟨S_, .i32⟩
  | 78 => ⟨S32, .i32⟩
  | 79 => ⟨S32, .i1⟩
  | 80 => ⟨S_, .i32⟩
  | 81 => ⟨S32, .i32⟩
  | 82 => ⟨S32, .i32⟩
  | 83 => ⟨S32, .i32⟩
  | 84 => ⟨S32x1, .i32⟩
  | 85 => ⟨S4x128x32x16, .f32⟩
  | 86 => ⟨S_, .f32⟩
  | 87 => ⟨S32, .f32⟩
  | 88 => ⟨S32, .f32⟩
  | 89 => ⟨S1x1x32x1, .f32⟩
  | 90 => ⟨S4x128x32x16, .f32⟩
  | 91 => ⟨S4x128x32x16, .f32⟩
  | 92 => ⟨S1x1x32x1, .f32⟩
  | 93 => ⟨S4x128x32x16, .f32⟩
  | 94 => ⟨S4x128x32x16, .f32⟩
  | 95 => ⟨S4x128x32x16, .f32⟩
  | 96 => ⟨S_, .i32⟩
  | 97 => ⟨S32, .i32⟩
  | 98 => ⟨S32, .i1⟩
  | 99 => ⟨S_, .i32⟩
  | 100 => ⟨S32, .i32⟩
  | 101 => ⟨S32, .i32⟩
  | 102 => ⟨S32, .i32⟩
  | 103 => ⟨S32x1, .i32⟩
  | 104 => ⟨S4x128x32x32, .f32⟩
  | 105 => ⟨S_, .i32⟩
  | 106 => ⟨S32, .i32⟩
  | 107 => ⟨S32, .i1⟩
  | 108 => ⟨S_, .i32⟩
  | 109 => ⟨S32, .i32⟩
  | 110 => ⟨S32, .i32⟩
  | 111 => ⟨S32, .i32⟩
  | 112 => ⟨S32x1, .i32⟩
  | 113 => ⟨S4x128x32x32, .f32⟩
  | 114 => ⟨S_, .f32⟩
  | 115 => ⟨S32, .f32⟩
  | 116 => ⟨S32, .f32⟩
  | 117 => ⟨S1x1x1x32, .f32⟩
  | 118 => ⟨S4x128x32x32, .f32⟩
  | 119 => ⟨S4x128x32x32, .f32⟩
  | 120 => ⟨S1x1x1x32, .f32⟩
  | 121 => ⟨S4x128x32x32, .f32⟩
  | 122 => ⟨S4x128x32x32, .f32⟩
  | 123 => ⟨S4x128x32x32, .f32⟩
  | 124 => ⟨S_, .i32⟩
  | 125 => ⟨S_, .f32⟩
  | 126 => ⟨S4x128x34x34, .f32⟩
  | 127 => ⟨S_, .f32⟩
  | _ => ⟨S4x3x512x512, .f32⟩

abbrev hbmTy0_4 (i : Nat) : BufTy := match i % 128 with
  | 0 => ⟨S4x64x32x32, .f32⟩
  | 1 => ⟨S4x128x32x32, .f32⟩
  | 2 => ⟨S64x128x1x1, .f32⟩
  | 3 => ⟨S64x128, .f32⟩
  | 4 => ⟨S64x4x32x32, .f32⟩
  | 5 => ⟨S4x64x32x32, .f32⟩
  | 6 => ⟨S4x64x32x32, .f32⟩
  | 7 => ⟨S4x128x32x32, .f32⟩
  | 8 => ⟨S64x128x1x1, .f32⟩
  | 9 => ⟨S64x128, .f32⟩
  | 10 => ⟨S64x4x32x32, .f32⟩
  | 11 => ⟨S4x64x32x32, .f32⟩
  | 12 => ⟨S4x64x32x32, .f32⟩
  | 13 => ⟨S4x128x32x32, .f32⟩
  | 14 => ⟨S64x128x1x1, .f32⟩
  | 15 => ⟨S64x128, .f32⟩
  | 16 => ⟨S64x4x32x32, .f32⟩
  | 17 => ⟨S4x64x32x32, .f32⟩
  | 18 => ⟨S4x64x32x32, .f32⟩
  | 19 => ⟨S4x128x32x32, .f32⟩
  | 20 => ⟨S64x128x1x1, .f32⟩
  | 21 => ⟨S64x128, .f32⟩
  | 22 => ⟨S64x4x32x32, .f32⟩
  | 23 => ⟨S4x64x32x32, .f32⟩
  | 24 => ⟨S4x64x32x32, .f32⟩
  | 25 => ⟨S4x128x32x32, .f32⟩
  | 26 => ⟨S64x128x1x1, .f32⟩
  | 27 => ⟨S64x128, .f32⟩
  | 28 => ⟨S64x4x32x32, .f32⟩
  | 29 => ⟨S4x64x32x32, .f32⟩
  | 30 => ⟨S4x64x32x32, .f32⟩
  | 31 => ⟨S4x128x32x32, .f32⟩
  | 32 => ⟨S64x128x1x1, .f32⟩
  | 33 => ⟨S64x128, .f32⟩
  | 34 => ⟨S64x4x32x32, .f32⟩
  | 35 => ⟨S4x64x32x32, .f32⟩
  | 36 => ⟨S4x64x32x32, .f32⟩
  | 37 => ⟨S4x128x32x32, .f32⟩
  | 38 => ⟨S64x128x1x1, .f32⟩
  | 39 => ⟨S64x128, .f32⟩
  | 40 => ⟨S64x4x32x32, .f32⟩
  | 41 => ⟨S4x64x32x32, .f32⟩
  | 42 => ⟨S4x64x32x32, .f32⟩
  | 43 => ⟨S4x128x32x32, .f32⟩
  | 44 => ⟨S64x128x1x1, .f32⟩
  | 45 => ⟨S64x128, .f32⟩
  | 46 => ⟨S64x4x32x32, .f32⟩
  | 47 => ⟨S4x64x32x32, .f32⟩
  | 48 => ⟨S4x64x32x32, .f32⟩
  | 49 => ⟨S4x128x32x32, .f32⟩
  | 50 => ⟨S64x128x1x1, .f32⟩
  | 51 => ⟨S64x128, .f32⟩
  | 52 => ⟨S64x4x32x32, .f32⟩
  | 53 => ⟨S4x64x32x32, .f32⟩
  | 54 => ⟨S4x64x32x32, .f32⟩
  | 55 => ⟨S1x64x1x1, .f32⟩
  | 56 => ⟨S4x64x32x32, .f32⟩
  | 57 => ⟨S4x64x32x32, .f32⟩
  | 58 => ⟨S_, .f32⟩
  | 59 => ⟨S_, .f32⟩
  | 60 => ⟨S4x64x32x32, .f32⟩
  | 61 => ⟨S4x64x32x32, .i1⟩
  | 62 => ⟨S_, .f32⟩
  | 63 => ⟨S4x64x32x32, .f32⟩
  | 64 => ⟨S4x64x32x32, .f32⟩
  | 65 => ⟨S4x64x32x32, .f32⟩
  | 66 => ⟨S4x64x32x32, .f32⟩
  | 67 => ⟨S64, .i32⟩
  | 68 => ⟨S64, .f32⟩
  | 69 => ⟨S_, .f32⟩
  | 70 => ⟨S64, .f32⟩
  | 71 => ⟨S64, .f32⟩
  | 72 => ⟨S64, .i32⟩
  | 73 => ⟨S64, .f32⟩
  | 74 => ⟨S_, .f32⟩
  | 75 => ⟨S64, .f32⟩
  | 76 => ⟨S64, .f32⟩
  | 77 => ⟨S64, .f32⟩
  | 78 => ⟨S64, .i32⟩
  | 79 => ⟨S_, .i32⟩
  | 80 => ⟨S64, .i32⟩
  | 81 => ⟨S64, .i32⟩
  | 82 => ⟨S_, .i32⟩
  | 83 => ⟨S_, .i32⟩
  | 84 => ⟨S_, .i32⟩
  | 85 => ⟨S64, .i32⟩
  | 86 => ⟨S64, .i32⟩
  | 87 => ⟨S_, .i32⟩
  | 88 => ⟨S64, .i32⟩
  | 89 => ⟨S64, .i32⟩
  | 90 => ⟨S64, .f32⟩
  | 91 => ⟨S64, .f32⟩
  | 92 => ⟨S64, .f32⟩
  | 93 => ⟨S64, .f32⟩
  | 94 => ⟨S64, .i32⟩
  | 95 => ⟨S_, .i32⟩
  | 96 => ⟨S64, .i32⟩
  | 97 => ⟨S64, .i32⟩
  | 98 => ⟨S_, .i32⟩
  | 99 => ⟨S_, .i32⟩
  | 100 => ⟨S_, .i32⟩
  | 101 => ⟨S64, .i32⟩
  | 102 => ⟨S64, .i32⟩
  | 103 => ⟨S_, .i32⟩
  | 104 => ⟨S64, .i32⟩
  | 105 => ⟨S64, .i32⟩
  | 106 => ⟨S64, .f32⟩
  | 107 => ⟨S64, .f32⟩
  | 108 => ⟨S64, .f32⟩
  | 109 => ⟨S_, .i32⟩
  | 110 => ⟨S64, .i32⟩
  | 111 => ⟨S64, .i1⟩
  | 112 => ⟨S_, .i32⟩
  | 113 => ⟨S64, .i32⟩
  | 114 => ⟨S64, .i32⟩
  | 115 => ⟨S64, .i32⟩
  | 116 => ⟨S64x1, .i32⟩
  | 117 => ⟨S4x64x64x32, .f32⟩
  | 118 => ⟨S_, .i32⟩
  | 119 => ⟨S64, .i32⟩
  | 120 => ⟨S64, .i1⟩
  | 121 => ⟨S_, .i32⟩
  | 122 => ⟨S64, .i32⟩
  | 123 => ⟨S64, .i32⟩
  | 124 => ⟨S64, .i32⟩
  | 125 => ⟨S64x1, .i32⟩
  | 126 => ⟨S4x64x64x32, .f32⟩
  | 127 => ⟨S_, .f32⟩
  | _ => ⟨S4x3x512x512, .f32⟩

abbrev hbmTy0_5 (i : Nat) : BufTy := match i % 128 with
  | 0 => ⟨S64, .f32⟩
  | 1 => ⟨S64, .f32⟩
  | 2 => ⟨S1x1x64x1, .f32⟩
  | 3 => ⟨S4x64x64x32, .f32⟩
  | 4 => ⟨S4x64x64x32, .f32⟩
  | 5 => ⟨S1x1x64x1, .f32⟩
  | 6 => ⟨S4x64x64x32, .f32⟩
  | 7 => ⟨S4x64x64x32, .f32⟩
  | 8 => ⟨S4x64x64x32, .f32⟩
  | 9 => ⟨S_, .i32⟩
  | 10 => ⟨S64, .i32⟩
  | 11 => ⟨S64, .i1⟩
  | 12 => ⟨S_, .i32⟩
  | 13 => ⟨S64, .i32⟩
  | 14 => ⟨S64, .i32⟩
  | 15 => ⟨S64, .i32⟩
  | 16 => ⟨S64x1, .i32⟩
  | 17 => ⟨S4x64x64x64, .f32⟩
  | 18 => ⟨S_, .i32⟩
  | 19 => ⟨S64, .i32⟩
  | 20 => ⟨S64, .i1⟩
  | 21 => ⟨S_, .i32⟩
  | 22 => ⟨S64, .i32⟩
  | 23 => ⟨S64, .i32⟩
  | 24 => ⟨S64, .i32⟩
  | 25 => ⟨S64x1, .i32⟩
  | 26 => ⟨S4x64x64x64, .f32⟩
  | 27 => ⟨S_, .f32⟩
  | 28 => ⟨S64, .f32⟩
  | 29 => ⟨S64, .f32⟩
  | 30 => ⟨S1x1x1x64, .f32⟩
  | 31 => ⟨S4x64x64x64, .f32⟩
  | 32 => ⟨S4x64x64x64, .f32⟩
  | 33 => ⟨S1x1x1x64, .f32⟩
  | 34 => ⟨S4x64x64x64, .f32⟩
  | 35 => ⟨S4x64x64x64, .f32⟩
  | 36 => ⟨S4x64x64x64, .f32⟩
  | 37 => ⟨S_, .i32⟩
  | 38 => ⟨S_, .f32⟩
  | 39 => ⟨S4x64x66x66, .f32⟩
  | 40 => ⟨S_, .f32⟩
  | 41 => ⟨S4x32x64x64, .f32⟩
  | 42 => ⟨S4x64x64x64, .f32⟩
  | 43 => ⟨S32x64x1x1, .f32⟩
  | 44 => ⟨S32x64, .f32⟩
  | 45 => ⟨S32x4x64x64, .f32⟩
  | 46 => ⟨S4x32x64x64, .f32⟩
  | 47 => ⟨S4x32x64x64, .f32⟩
  | 48 => ⟨S4x64x64x64, .f32⟩
  | 49 => ⟨S32x64x1x1, .f32⟩
  | 50 => ⟨S32x64, .f32⟩
  | 51 => ⟨S32x4x64x64, .f32⟩
  | 52 => ⟨S4x32x64x64, .f32⟩
  | 53 => ⟨S4x32x64x64, .f32⟩
  | 54 => ⟨S4x64x64x64, .f32⟩
  | 55 => ⟨S32x64x1x1, .f32⟩
  | 56 => ⟨S32x64, .f32⟩
  | 57 => ⟨S32x4x64x64, .f32⟩
  | 58 => ⟨S4x32x64x64, .f32⟩
  | 59 => ⟨S4x32x64x64, .f32⟩
  | 60 => ⟨S4x64x64x64, .f32⟩
  | 61 => ⟨S32x64x1x1, .f32⟩
  | 62 => ⟨S32x64, .f32⟩
  | 63 => ⟨S32x4x64x64, .f32⟩
  | 64 => ⟨S4x32x64x64, .f32⟩
  | 65 => ⟨S4x32x64x64, .f32⟩
  | 66 => ⟨S4x64x64x64, .f32⟩
  | 67 => ⟨S32x64x1x1, .f32⟩
  | 68 => ⟨S32x64, .f32⟩
  | 69 => ⟨S32x4x64x64, .f32⟩
  | 70 => ⟨S4x32x64x64, .f32⟩
  | 71 => ⟨S4x32x64x64, .f32⟩
  | 72 => ⟨S4x64x64x64, .f32⟩
  | 73 => ⟨S32x64x1x1, .f32⟩
  | 74 => ⟨S32x64, .f32⟩
  | 75 => ⟨S32x4x64x64, .f32⟩
  | 76 => ⟨S4x32x64x64, .f32⟩
  | 77 => ⟨S4x32x64x64, .f32⟩
  | 78 => ⟨S4x64x64x64, .f32⟩
  | 79 => ⟨S32x64x1x1, .f32⟩
  | 80 => ⟨S32x64, .f32⟩
  | 81 => ⟨S32x4x64x64, .f32⟩
  | 82 => ⟨S4x32x64x64, .f32⟩
  | 83 => ⟨S4x32x64x64, .f32⟩
  | 84 => ⟨S4x64x64x64, .f32⟩
  | 85 => ⟨S32x64x1x1, .f32⟩
  | 86 => ⟨S32x64, .f32⟩
  | 87 => ⟨S32x4x64x64, .f32⟩
  | 88 => ⟨S4x32x64x64, .f32⟩
  | 89 => ⟨S4x32x64x64, .f32⟩
  | 90 => ⟨S4x64x64x64, .f32⟩
  | 91 => ⟨S32x64x1x1, .f32⟩
  | 92 => ⟨S32x64, .f32⟩
  | 93 => ⟨S32x4x64x64, .f32⟩
  | 94 => ⟨S4x32x64x64, .f32⟩
  | 95 => ⟨S4x32x64x64, .f32⟩
  | 96 => ⟨S1x32x1x1, .f32⟩
  | 97 => ⟨S4x32x64x64, .f32⟩
  | 98 => ⟨S4x32x64x64, .f32⟩
  | 99 => ⟨S_, .f32⟩
  | 100 => ⟨S_, .f32⟩
  | 101 => ⟨S4x32x64x64, .f32⟩
  | 102 => ⟨S4x32x64x64, .i1⟩
  | 103 => ⟨S_, .f32⟩
  | 104 => ⟨S4x32x64x64, .f32⟩
  | 105 => ⟨S4x32x64x64, .f32⟩
  | 106 => ⟨S4x32x64x64, .f32⟩
  | 107 => ⟨S4x32x64x64, .f32⟩
  | 108 => ⟨S128, .i32⟩
  | 109 => ⟨S128, .f32⟩
  | 110 => ⟨S_, .f32⟩
  | 111 => ⟨S128, .f32⟩
  | 112 => ⟨S128, .f32⟩
  | 113 => ⟨S128, .i32⟩
  | 114 => ⟨S128, .f32⟩
  | 115 => ⟨S_, .f32⟩
  | 116 => ⟨S128, .f32⟩
  | 117 => ⟨S128, .f32⟩
  | 118 => ⟨S128, .f32⟩
  | 119 => ⟨S128, .i32⟩
  | 120 => ⟨S_, .i32⟩
  | 121 => ⟨S128, .i32⟩
  | 122 => ⟨S128, .i32⟩
  | 123 => ⟨S_, .i32⟩
  | 124 => ⟨S_, .i32⟩
  | 125 => ⟨S_, .i32⟩
  | 126 => ⟨S128, .i32⟩
  | 127 => ⟨S128, .i32⟩
  | _ => ⟨S4x3x512x512, .f32⟩

abbrev hbmTy0_6 (i : Nat) : BufTy := match i % 128 with
  | 0 => ⟨S_, .i32⟩
  | 1 => ⟨S128, .i32⟩
  | 2 => ⟨S128, .i32⟩
  | 3 => ⟨S128, .f32⟩
  | 4 => ⟨S128, .f32⟩
  | 5 => ⟨S128, .f32⟩
  | 6 => ⟨S128, .f32⟩
  | 7 => ⟨S128, .i32⟩
  | 8 => ⟨S_, .i32⟩
  | 9 => ⟨S128, .i32⟩
  | 10 => ⟨S128, .i32⟩
  | 11 => ⟨S_, .i32⟩
  | 12 => ⟨S_, .i32⟩
  | 13 => ⟨S_, .i32⟩
  | 14 => ⟨S128, .i32⟩
  | 15 => ⟨S128, .i32⟩
  | 16 => ⟨S_, .i32⟩
  | 17 => ⟨S128, .i32⟩
  | 18 => ⟨S128, .i32⟩
  | 19 => ⟨S128, .f32⟩
  | 20 => ⟨S128, .f32⟩
  | 21 => ⟨S128, .f32⟩
  | 22 => ⟨S_, .i32⟩
  | 23 => ⟨S128, .i32⟩
  | 24 => ⟨S128, .i1⟩
  | 25 => ⟨S_, .i32⟩
  | 26 => ⟨S128, .i32⟩
  | 27 => ⟨S128, .i32⟩
  | 28 => ⟨S128, .i32⟩
  | 29 => ⟨S128x1, .i32⟩
  | 30 => ⟨S4x32x128x64, .f32⟩
  | 31 => ⟨S_, .i32⟩
  | 32 => ⟨S128, .i32⟩
  | 33 => ⟨S128, .i1⟩
  | 34 => ⟨S_, .i32⟩
  | 35 => ⟨S128, .i32⟩
  | 36 => ⟨S128, .i32⟩
  | 37 => ⟨S128, .i32⟩
  | 38 => ⟨S128x1, .i32⟩
  | 39 => ⟨S4x32x128x64, .f32⟩
  | 40 => ⟨S_, .f32⟩
  | 41 => ⟨S128, .f32⟩
  | 42 => ⟨S128, .f32⟩
  | 43 => ⟨S1x1x128x1, .f32⟩
  | 44 => ⟨S4x32x128x64, .f32⟩
  | 45 => ⟨S4x32x128x64, .f32⟩
  | 46 => ⟨S1x1x128x1, .f32⟩
  | 47 => ⟨S4x32x128x64, .f32⟩
  | 48 => ⟨S4x32x128x64, .f32⟩
  | 49 => ⟨S4x32x128x64, .f32⟩
  | 50 => ⟨S_, .i32⟩
  | 51 => ⟨S128, .i32⟩
  | 52 => ⟨S128, .i1⟩
  | 53 => ⟨S_, .i32⟩
  | 54 => ⟨S128, .i32⟩
  | 55 => ⟨S128, .i32⟩
  | 56 => ⟨S128, .i32⟩
  | 57 => ⟨S128x1, .i32⟩
  | 58 => ⟨S4x32x128x128, .f32⟩
  | 59 => ⟨S_, .i32⟩
  | 60 => ⟨S128, .i32⟩
  | 61 => ⟨S128, .i1⟩
  | 62 => ⟨S_, .i32⟩
  | 63 => ⟨S128, .i32⟩
  | 64 => ⟨S128, .i32⟩
  | 65 => ⟨S128, .i32⟩
  | 66 => ⟨S128x1, .i32⟩
  | 67 => ⟨S4x32x128x128, .f32⟩
  | 68 => ⟨S_, .f32⟩
  | 69 => ⟨S128, .f32⟩
  | 70 => ⟨S128, .f32⟩
  | 71 => ⟨S1x1x1x128, .f32⟩
  | 72 => ⟨S4x32x128x128, .f32⟩
  | 73 => ⟨S4x32x128x128, .f32⟩
  | 74 => ⟨S1x1x1x128, .f32⟩
  | 75 => ⟨S4x32x128x128, .f32⟩
  | 76 => ⟨S4x32x128x128, .f32⟩
  | 77 => ⟨S4x32x128x128, .f32⟩
  | 78 => ⟨S_, .i32⟩
  | 79 => ⟨S_, .f32⟩
  | 80 => ⟨S4x32x130x130, .f32⟩
  | 81 => ⟨S_, .f32⟩
  | 82 => ⟨S4x16x128x128, .f32⟩
  | 83 => ⟨S4x32x128x128, .f32⟩
  | 84 => ⟨S16x32x1x1, .f32⟩
  | 85 => ⟨S16x32, .f32⟩
  | 86 => ⟨S16x4x128x128, .f32⟩
  | 87 => ⟨S4x16x128x128, .f32⟩
  | 88 => ⟨S4x16x128x128, .f32⟩
  | 89 => ⟨S4x32x128x128, .f32⟩
  | 90 => ⟨S16x32x1x1, .f32⟩
  | 91 => ⟨S16x32, .f32⟩
  | 92 => ⟨S16x4x128x128, .f32⟩
  | 93 => ⟨S4x16x128x128, .f32⟩
  | 94 => ⟨S4x16x128x128, .f32⟩
  | 95 => ⟨S4x32x128x128, .f32⟩
  | 96 => ⟨S16x32x1x1, .f32⟩
  | 97 => ⟨S16x32, .f32⟩
  | 98 => ⟨S16x4x128x128, .f32⟩
  | 99 => ⟨S4x16x128x128, .f32⟩
  | 100 => ⟨S4x16x128x128, .f32⟩
  | 101 => ⟨S4x32x128x128, .f32⟩
  | 102 => ⟨S16x32x1x1, .f32⟩
  | 103 => ⟨S16x32, .f32⟩
  | 104 => ⟨S16x4x128x128, .f32⟩
  | 105 => ⟨S4x16x128x128, .f32⟩
  | 106 => ⟨S4x16x128x128, .f32⟩
  | 107 => ⟨S4x32x128x128, .f32⟩
  | 108 => ⟨S16x32x1x1, .f32⟩
  | 109 => ⟨S16x32, .f32⟩
  | 110 => ⟨S16x4x128x128, .f32⟩
  | 111 => ⟨S4x16x128x128, .f32⟩
  | 112 => ⟨S4x16x128x128, .f32⟩
  | 113 => ⟨S4x32x128x128, .f32⟩
  | 114 => ⟨S16x32x1x1, .f32⟩
  | 115 => ⟨S16x32, .f32⟩
  | 116 => ⟨S16x4x128x128, .f32⟩
  | 117 => ⟨S4x16x128x128, .f32⟩
  | 118 => ⟨S4x16x128x128, .f32⟩
  | 119 => ⟨S4x32x128x128, .f32⟩
  | 120 => ⟨S16x32x1x1, .f32⟩
  | 121 => ⟨S16x32, .f32⟩
  | 122 => ⟨S16x4x128x128, .f32⟩
  | 123 => ⟨S4x16x128x128, .f32⟩
  | 124 => ⟨S4x16x128x128, .f32⟩
  | 125 => ⟨S4x32x128x128, .f32⟩
  | 126 => ⟨S16x32x1x1, .f32⟩
  | 127 => ⟨S16x32, .f32⟩
  | _ => ⟨S4x3x512x512, .f32⟩

abbrev hbmTy0_7 (i : Nat) : BufTy := match i % 128 with
  | 0 => ⟨S16x4x128x128, .f32⟩
  | 1 => ⟨S4x16x128x128, .f32⟩
  | 2 => ⟨S4x16x128x128, .f32⟩
  | 3 => ⟨S4x32x128x128, .f32⟩
  | 4 => ⟨S16x32x1x1, .f32⟩
  | 5 => ⟨S16x32, .f32⟩
  | 6 => ⟨S16x4x128x128, .f32⟩
  | 7 => ⟨S4x16x128x128, .f32⟩
  | 8 => ⟨S4x16x128x128, .f32⟩
  | 9 => ⟨S1x16x1x1, .f32⟩
  | 10 => ⟨S4x16x128x128, .f32⟩
  | 11 => ⟨S4x16x128x128, .f32⟩
  | 12 => ⟨S_, .f32⟩
  | 13 => ⟨S_, .f32⟩
  | 14 => ⟨S4x16x128x128, .f32⟩
  | 15 => ⟨S4x16x128x128, .i1⟩
  | 16 => ⟨S_, .f32⟩
  | 17 => ⟨S4x16x128x128, .f32⟩
  | 18 => ⟨S4x16x128x128, .f32⟩
  | 19 => ⟨S4x16x128x128, .f32⟩
  | 20 => ⟨S4x16x128x128, .f32⟩
  | 21 => ⟨S256, .i32⟩
  | 22 => ⟨S256, .f32⟩
  | 23 => ⟨S_, .f32⟩
  | 24 => ⟨S256, .f32⟩
  | 25 => ⟨S256, .f32⟩
  | 26 => ⟨S256, .i32⟩
  | 27 => ⟨S256, .f32⟩
  | 28 => ⟨S_, .f32⟩
  | 29 => ⟨S256, .f32⟩
  | 30 => ⟨S256, .f32⟩
  | 31 => ⟨S256, .f32⟩
  | 32 => ⟨S256, .i32⟩
  | 33 => ⟨S_, .i32⟩
  | 34 => ⟨S256, .i32⟩
  | 35 => ⟨S256, .i32⟩
  | 36 => ⟨S_, .i32⟩
  | 37 => ⟨S_, .i32⟩
  | 38 => ⟨S_, .i32⟩
  | 39 => ⟨S256, .i32⟩
  | 40 => ⟨S256, .i32⟩
  | 41 => ⟨S_, .i32⟩
  | 42 => ⟨S256, .i32⟩
  | 43 => ⟨S256, .i32⟩
  | 44 => ⟨S256, .f32⟩
  | 45 => ⟨S256, .f32⟩
  | 46 => ⟨S256, .f32⟩
  | 47 => ⟨S256, .f32⟩
  | 48 => ⟨S256, .i32⟩
  | 49 => ⟨S_, .i32⟩
  | 50 => ⟨S256, .i32⟩
  | 51 => ⟨S256, .i32⟩
  | 52 => ⟨S_, .i32⟩
  | 53 => ⟨S_, .i32⟩
  | 54 => ⟨S_, .i32⟩
  | 55 => ⟨S256, .i32⟩
  | 56 => ⟨S256, .i32⟩
  | 57 => ⟨S_, .i32⟩
  | 58 => ⟨S256, .i32⟩
  | 59 => ⟨S256, .i32⟩
  | 60 => ⟨S256, .f32⟩
  | 61 => ⟨S256, .f32⟩
  | 62 => ⟨S256, .f32⟩
  | 63 => ⟨S_, .i32⟩
  | 64 => ⟨S256, .i32⟩
  | 65 => ⟨S256, .i1⟩
  | 66 => ⟨S_, .i32⟩
  | 67 => ⟨S256, .i32⟩
  | 68 => ⟨S256, .i32⟩
  | 69 => ⟨S256, .i32⟩
  | 70 => ⟨S256x1, .i32⟩
  | 71 => ⟨S4x16x256x128, .f32⟩
  | 72 => ⟨S_, .i32⟩
  | 73 => ⟨S256, .i32⟩
  | 74 => ⟨S256, .i1⟩
  | 75 => ⟨S_, .i32⟩
  | 76 => ⟨S256, .i32⟩
  | 77 => ⟨S256, .i32⟩
  | 78 => ⟨S256, .i32⟩
  | 79 => ⟨S256x1, .i32⟩
  | 80 => ⟨S4x16x256x128, .f32⟩
  | 81 => ⟨S_, .f32⟩
  | 82 => ⟨S256, .f32⟩
  | 83 => ⟨S256, .f32⟩
  | 84 => ⟨S1x1x256x1, .f32⟩
  | 85 => ⟨S4x16x256x128, .f32⟩
  | 86 => ⟨S4x16x256x128, .f32⟩
  | 87 => ⟨S1x1x256x1, .f32⟩
  | 88 => ⟨S4x16x256x128, .f32⟩
  | 89 => ⟨S4x16x256x128, .f32⟩
  | 90 => ⟨S4x16x256x128, .f32⟩
  | 91 => ⟨S_, .i32⟩
  | 92 => ⟨S256, .i32⟩
  | 93 => ⟨S256, .i1⟩
  | 94 => ⟨S_, .i32⟩
  | 95 => ⟨S256, .i32⟩
  | 96 => ⟨S256, .i32⟩
  | 97 => ⟨S256, .i32⟩
  | 98 => ⟨S256x1, .i32⟩
  | 99 => ⟨S4x16x256x256, .f32⟩
  | 100 => ⟨S_, .i32⟩
  | 101 => ⟨S256, .i32⟩
  | 102 => ⟨S256, .i1⟩
  | 103 => ⟨S_, .i32⟩
  | 104 => ⟨S256, .i32⟩
  | 105 => ⟨S256, .i32⟩
  | 106 => ⟨S256, .i32⟩
  | 107 => ⟨S256x1, .i32⟩
  | 108 => ⟨S4x16x256x256, .f32⟩
  | 109 => ⟨S_, .f32⟩
  | 110 => ⟨S256, .f32⟩
  | 111 => ⟨S256, .f32⟩
  | 112 => ⟨S1x1x1x256, .f32⟩
  | 113 => ⟨S4x16x256x256, .f32⟩
  | 114 => ⟨S4x16x256x256, .f32⟩
  | 115 => ⟨S1x1x1x256, .f32⟩
  | 116 => ⟨S4x16x256x256, .f32⟩
  | 117 => ⟨S4x16x256x256, .f32⟩
  | 118 => ⟨S4x16x256x256, .f32⟩
  | 119 => ⟨S_, .i32⟩
  | 120 => ⟨S_, .f32⟩
  | 121 => ⟨S4x16x258x258, .f32⟩
  | 122 => ⟨S_, .f32⟩
  | 123 => ⟨S4x8x256x256, .f32⟩
  | 124 => ⟨S4x16x256x256, .f32⟩
  | 125 => ⟨S8x16x1x1, .f32⟩
  | 126 => ⟨S8x16, .f32⟩
  | 127 => ⟨S8x4x256x256, .f32⟩
  | _ => ⟨S4x3x512x512, .f32⟩

abbrev hbmTy0_8 (i : Nat) : BufTy := match i % 128 with
  | 0 => ⟨S4x8x256x256, .f32⟩
  | 1 => ⟨S4x8x256x256, .f32⟩
  | 2 => ⟨S4x16x256x256, .f32⟩
  | 3 => ⟨S8x16x1x1, .f32⟩
  | 4 => ⟨S8x16, .f32⟩
  | 5 => ⟨S8x4x256x256, .f32⟩
  | 6 => ⟨S4x8x256x256, .f32⟩
  | 7 => ⟨S4x8x256x256, .f32⟩
  | 8 => ⟨S4x16x256x256, .f32⟩
  | 9 => ⟨S8x16x1x1, .f32⟩
  | 10 => ⟨S8x16, .f32⟩
  | 11 => ⟨S8x4x256x256, .f32⟩
  | 12 => ⟨S4x8x256x256, .f32⟩
  | 13 => ⟨S4x8x256x256, .f32⟩
  | 14 => ⟨S4x16x256x256, .f32⟩
  | 15 => ⟨S8x16x1x1, .f32⟩
  | 16 => ⟨S8x16, .f32⟩
  | 17 => ⟨S8x4x256x256, .f32⟩
  | 18 => ⟨S4x8x256x256, .f32⟩
  | 19 => ⟨S4x8x256x256, .f32⟩
  | 20 => ⟨S4x16x256x256, .f32⟩
  | 21 => ⟨S8x16x1x1, .f32⟩
  | 22 => ⟨S8x16, .f32⟩
  | 23 => ⟨S8x4x256x256, .f32⟩
  | 24 => ⟨S4x8x256x256, .f32⟩
  | 25 => ⟨S4x8x256x256, .f32⟩
  | 26 => ⟨S4x16x256x256, .f32⟩
  | 27 => ⟨S8x16x1x1, .f32⟩
  | 28 => ⟨S8x16, .f32⟩
  | 29 => ⟨S8x4x256x256, .f32⟩
  | 30 => ⟨S4x8x256x256, .f32⟩
  | 31 => ⟨S4x8x256x256, .f32⟩
  | 32 => ⟨S4x16x256x256, .f32⟩
  | 33 => ⟨S8x16x1x1, .f32⟩
  | 34 => ⟨S8x16, .f32⟩
  | 35 => ⟨S8x4x256x256, .f32⟩
  | 36 => ⟨S4x8x256x256, .f32⟩
  | 37 => ⟨S4x8x256x256, .f32⟩
  | 38 => ⟨S4x16x256x256, .f32⟩
  | 39 => ⟨S8x16x1x1, .f32⟩
  | 40 => ⟨S8x16, .f32⟩
  | 41 => ⟨S8x4x256x256, .f32⟩
  | 42 => ⟨S4x8x256x256, .f32⟩
  | 43 => ⟨S4x8x256x256, .f32⟩
  | 44 => ⟨S4x16x256x256, .f32⟩
  | 45 => ⟨S8x16x1x1, .f32⟩
  | 46 => ⟨S8x16, .f32⟩
  | 47 => ⟨S8x4x256x256, .f32⟩
  | 48 => ⟨S4x8x256x256, .f32⟩
  | 49 => ⟨S4x8x256x256, .f32⟩
  | 50 => ⟨S1x8x1x1, .f32⟩
  | 51 => ⟨S4x8x256x256, .f32⟩
  | 52 => ⟨S4x8x256x256, .f32⟩
  | 53 => ⟨S_, .f32⟩
  | 54 => ⟨S_, .f32⟩
  | 55 => ⟨S4x8x256x256, .f32⟩
  | 56 => ⟨S4x8x256x256, .i1⟩
  | 57 => ⟨S_, .f32⟩
  | 58 => ⟨S4x8x256x256, .f32⟩
  | 59 => ⟨S4x8x256x256, .f32⟩
  | 60 => ⟨S4x8x256x256, .f32⟩
  | 61 => ⟨S4x8x256x256, .f32⟩
  | 62 => ⟨S512, .i32⟩
  | 63 => ⟨S512, .f32⟩
  | 64 => ⟨S_, .f32⟩
  | 65 => ⟨S512, .f32⟩
  | 66 => ⟨S512, .f32⟩
  | 67 => ⟨S512, .i32⟩
  | 68 => ⟨S512, .f32⟩
  | 69 => ⟨S_, .f32⟩
  | 70 => ⟨S512, .f32⟩
  | 71 => ⟨S512, .f32⟩
  | 72 => ⟨S512, .f32⟩
  | 73 => ⟨S512, .i32⟩
  | 74 => ⟨S_, .i32⟩
  | 75 => ⟨S512, .i32⟩
  | 76 => ⟨S512, .i32⟩
  | 77 => ⟨S_, .i32⟩
  | 78 => ⟨S_, .i32⟩
  | 79 => ⟨S_, .i32⟩
  | 80 => ⟨S512, .i32⟩
  | 81 => ⟨S512, .i32⟩
  | 82 => ⟨S_, .i32⟩
  | 83 => ⟨S512, .i32⟩
  | 84 => ⟨S512, .i32⟩
  | 85 => ⟨S512, .f32⟩
  | 86 => ⟨S512, .f32⟩
  | 87 => ⟨S512, .f32⟩
  | 88 => ⟨S512, .f32⟩
  | 89 => ⟨S512, .i32⟩
  | 90 => ⟨S_, .i32⟩
  | 91 => ⟨S512, .i32⟩
  | 92 => ⟨S512, .i32⟩
  | 93 => ⟨S_, .i32⟩
  | 94 => ⟨S_, .i32⟩
  | 95 => ⟨S_, .i32⟩
  | 96 => ⟨S512, .i32⟩
  | 97 => ⟨S512, .i32⟩
  | 98 => ⟨S_, .i32⟩
  | 99 => ⟨S512, .i32⟩
  | 100 => ⟨S512, .i32⟩
  | 101 => ⟨S512, .f32⟩
  | 102 => ⟨S512, .f32⟩
  | 103 => ⟨S512, .f32⟩
  | 104 => ⟨S_, .i32⟩
  | 105 => ⟨S512, .i32⟩
  | 106 => ⟨S512, .i1⟩
  | 107 => ⟨S_, .i32⟩
  | 108 => ⟨S512, .i32⟩
  | 109 => ⟨S512, .i32⟩
  | 110 => ⟨S512, .i32⟩
  | 111 => ⟨S512x1, .i32⟩
  | 112 => ⟨S4x8x512x256, .f32⟩
  | 113 => ⟨S_, .i32⟩
  | 114 => ⟨S512, .i32⟩
  | 115 => ⟨S512, .i1⟩
  | 116 => ⟨S_, .i32⟩
  | 117 => ⟨S512, .i32⟩
  | 118 => ⟨S512, .i32⟩
  | 119 => ⟨S512, .i32⟩
  | 120 => ⟨S512x1, .i32⟩
  | 121 => ⟨S4x8x512x256, .f32⟩
  | 122 => ⟨S_, .f32⟩
  | 123 => ⟨S512, .f32⟩
  | 124 => ⟨S512, .f32⟩
  | 125 => ⟨S1x1x512x1, .f32⟩
  | 126 => ⟨S4x8x512x256, .f32⟩
  | 127 => ⟨S4x8x512x256, .f32⟩
  | _ => ⟨S4x3x512x512, .f32⟩

abbrev hbmTy0_9 (i : Nat) : BufTy := match i % 128 with
  | 0 => ⟨S1x1x512x1, .f32⟩
  | 1 => ⟨S4x8x512x256, .f32⟩
  | 2 => ⟨S4x8x512x256, .f32⟩
  | 3 => ⟨S4x8x512x256, .f32⟩
  | 4 => ⟨S_, .i32⟩
  | 5 => ⟨S512, .i32⟩
  | 6 => ⟨S512, .i1⟩
  | 7 => ⟨S_, .i32⟩
  | 8 => ⟨S512, .i32⟩
  | 9 => ⟨S512, .i32⟩
  | 10 => ⟨S512, .i32⟩
  | 11 => ⟨S512x1, .i32⟩
  | 12 => ⟨S4x8x512x512, .f32⟩
  | 13 => ⟨S_, .i32⟩
  | 14 => ⟨S512, .i32⟩
  | 15 => ⟨S512, .i1⟩
  | 16 => ⟨S_, .i32⟩
  | 17 => ⟨S512, .i32⟩
  | 18 => ⟨S512, .i32⟩
  | 19 => ⟨S512, .i32⟩
  | 20 => ⟨S512x1, .i32⟩
  | 21 => ⟨S4x8x512x512, .f32⟩
  | 22 => ⟨S_, .f32⟩
  | 23 => ⟨S512, .f32⟩
  | 24 => ⟨S512, .f32⟩
  | 25 => ⟨S1x1x1x512, .f32⟩
  | 26 => ⟨S4x8x512x512, .f32⟩
  | 27 => ⟨S4x8x512x512, .f32⟩
  | 28 => ⟨S1x1x1x512, .f32⟩
  | 29 => ⟨S4x8x512x512, .f32⟩
  | 30 => ⟨S4x8x512x512, .f32⟩
  | 31 => ⟨S4x8x512x512, .f32⟩
  | 32 => ⟨S_, .i32⟩
  | 33 => ⟨S_, .f32⟩
  | 34 => ⟨S4x8x514x514, .f32⟩
  | 35 => ⟨S_, .f32⟩
  | 36 => ⟨S4x2x512x512, .f32⟩
  | 37 => ⟨S4x8x512x512, .f32⟩
  | 38 => ⟨S2x8x1x1, .f32⟩
  | 39 => ⟨S2x8, .f32⟩
  | 40 => ⟨S2x4x512x512, .f32⟩
  | 41 => ⟨S4x2x512x512, .f32⟩
  | 42 => ⟨S4x2x512x512, .f32⟩
  | 43 => ⟨S4x8x512x512, .f32⟩
  | 44 => ⟨S2x8x1x1, .f32⟩
  | 45 => ⟨S2x8, .f32⟩
  | 46 => ⟨S2x4x512x512, .f32⟩
  | 47 => ⟨S4x2x512x512, .f32⟩
  | 48 => ⟨S4x2x512x512, .f32⟩
  | 49 => ⟨S4x8x512x512, .f32⟩
  | 50 => ⟨S2x8x1x1, .f32⟩
  | 51 => ⟨S2x8, .f32⟩
  | 52 => ⟨S2x4x512x512, .f32⟩
  | 53 => ⟨S4x2x512x512, .f32⟩
  | 54 => ⟨S4x2x512x512, .f32⟩
  | 55 => ⟨S4x8x512x512, .f32⟩
  | 56 => ⟨S2x8x1x1, .f32⟩
  | 57 => ⟨S2x8, .f32⟩
  | 58 => ⟨S2x4x512x512, .f32⟩
  | 59 => ⟨S4x2x512x512, .f32⟩
  | 60 => ⟨S4x2x512x512, .f32⟩
  | 61 => ⟨S4x8x512x512, .f32⟩
  | 62 => ⟨S2x8x1x1, .f32⟩
  | 63 => ⟨S2x8, .f32⟩
  | 64 => ⟨S2x4x512x512, .f32⟩
  | 65 => ⟨S4x2x512x512, .f32⟩
  | 66 => ⟨S4x2x512x512, .f32⟩
  | 67 => ⟨S4x8x512x512, .f32⟩
  | 68 => ⟨S2x8x1x1, .f32⟩
  | 69 => ⟨S2x8, .f32⟩
  | 70 => ⟨S2x4x512x512, .f32⟩
  | 71 => ⟨S4x2x512x512, .f32⟩
  | 72 => ⟨S4x2x512x512, .f32⟩
  | 73 => ⟨S4x8x512x512, .f32⟩
  | 74 => ⟨S2x8x1x1, .f32⟩
  | 75 => ⟨S2x8, .f32⟩
  | 76 => ⟨S2x4x512x512, .f32⟩
  | 77 => ⟨S4x2x512x512, .f32⟩
  | 78 => ⟨S4x2x512x512, .f32⟩
  | 79 => ⟨S4x8x512x512, .f32⟩
  | 80 => ⟨S2x8x1x1, .f32⟩
  | 81 => ⟨S2x8, .f32⟩
  | 82 => ⟨S2x4x512x512, .f32⟩
  | 83 => ⟨S4x2x512x512, .f32⟩
  | 84 => ⟨S4x2x512x512, .f32⟩
  | 85 => ⟨S4x8x512x512, .f32⟩
  | 86 => ⟨S2x8x1x1, .f32⟩
  | 87 => ⟨S2x8, .f32⟩
  | 88 => ⟨S2x4x512x512, .f32⟩
  | 89 => ⟨S4x2x512x512, .f32⟩
  | 90 => ⟨S4x2x512x512, .f32⟩
  | 91 => ⟨S1x2x1x1, .f32⟩
  | 92 => ⟨S4x2x512x512, .f32⟩
  | 93 => ⟨S4x2x512x512, .f32⟩
  | 94 => ⟨S_, .f32⟩
  | 95 => ⟨S4x512x512, .f32⟩
  | 96 => ⟨S_, .f32⟩
  | 97 => ⟨S4x512x512, .f32⟩
  | 98 => ⟨S4x512x512, .f32⟩
  | 99 => ⟨S4x1x512x512, .f32⟩
  | 100 => ⟨S4x2x512x512, .f32⟩
  | 101 => ⟨S4x2x512x512, .f32⟩
  | 102 => ⟨S4x2x512x512, .f32⟩
  | 103 => ⟨S_, .f32⟩
  | 104 => ⟨S4x512x512, .f32⟩
  | 105 => ⟨S4x1x512x512, .f32⟩
  | 106 => ⟨S4x2x512x512, .f32⟩
  | 107 => ⟨S4x2x512x512, .f32⟩
  | _ => ⟨S4x3x512x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S4x3x512x512, .f32⟩

abbrev bufTy : (tb : Table) → Fin (tcTables nBuf tb) → BufTy
  | .hbm, ⟨i, _⟩ => hbmTy i
  | _, _ => ⟨S4x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_call0_v0 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_0 : Ref sig .tc := ⟨.hbm, 86, rfl⟩
abbrev main_call1_cst : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_v59 : Ref sig .tc := ⟨.hbm, 93, rfl⟩
abbrev main_cst_1 : Ref sig .tc := ⟨.hbm, 94, rfl⟩
abbrev main_v60 : Ref sig .tc := ⟨.hbm, 95, rfl⟩
abbrev main_v61 : Ref sig .tc := ⟨.hbm, 96, rfl⟩
abbrev main_c_2 : Ref sig .tc := ⟨.hbm, 97, rfl⟩
abbrev main_call2_v0 : Ref sig .tc := ⟨.hbm, 98, rfl⟩
abbrev main_v62 : Ref sig .tc := ⟨.hbm, 99, rfl⟩
abbrev main_cst_3 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_cst_4 : Ref sig .tc := ⟨.hbm, 159, rfl⟩
abbrev main_call3_cst : Ref sig .tc := ⟨.hbm, 160, rfl⟩
abbrev main_call3_v0 : Ref sig .tc := ⟨.hbm, 161, rfl⟩
abbrev main_call3_v1 : Ref sig .tc := ⟨.hbm, 162, rfl⟩
abbrev main_call3_v2 : Ref sig .tc := ⟨.hbm, 163, rfl⟩
abbrev main_call3_v3 : Ref sig .tc := ⟨.hbm, 164, rfl⟩
abbrev main_call3_v4 : Ref sig .tc := ⟨.hbm, 165, rfl⟩
abbrev main_v121 : Ref sig .tc := ⟨.hbm, 166, rfl⟩
abbrev main_cst_5 : Ref sig .tc := ⟨.hbm, 167, rfl⟩
abbrev main_v122 : Ref sig .tc := ⟨.hbm, 168, rfl⟩
abbrev main_v123 : Ref sig .tc := ⟨.hbm, 169, rfl⟩
abbrev main_c_6 : Ref sig .tc := ⟨.hbm, 170, rfl⟩
abbrev main_call4_v0 : Ref sig .tc := ⟨.hbm, 171, rfl⟩
abbrev main_v124 : Ref sig .tc := ⟨.hbm, 172, rfl⟩
abbrev main_cst_7 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_cst_8 : Ref sig .tc := ⟨.hbm, 232, rfl⟩
abbrev main_call5_cst : Ref sig .tc := ⟨.hbm, 233, rfl⟩
abbrev main_call5_v0 : Ref sig .tc := ⟨.hbm, 234, rfl⟩
abbrev main_call5_v1 : Ref sig .tc := ⟨.hbm, 235, rfl⟩
abbrev main_call5_v2 : Ref sig .tc := ⟨.hbm, 236, rfl⟩
abbrev main_call5_v3 : Ref sig .tc := ⟨.hbm, 237, rfl⟩
abbrev main_call5_v4 : Ref sig .tc := ⟨.hbm, 238, rfl⟩
abbrev main_v183 : Ref sig .tc := ⟨.hbm, 239, rfl⟩
abbrev main_cst_9 : Ref sig .tc := ⟨.hbm, 240, rfl⟩
abbrev main_v184 : Ref sig .tc := ⟨.hbm, 241, rfl⟩
abbrev main_v185 : Ref sig .tc := ⟨.hbm, 242, rfl⟩
abbrev main_c_10 : Ref sig .tc := ⟨.hbm, 243, rfl⟩
abbrev main_call6_v0 : Ref sig .tc := ⟨.hbm, 244, rfl⟩
abbrev main_v186 : Ref sig .tc := ⟨.hbm, 245, rfl⟩
abbrev main_cst_11 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev main_v214 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_v239 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_cst_12 : Ref sig .tc := ⟨.hbm, 305, rfl⟩
abbrev main_call7_cst : Ref sig .tc := ⟨.hbm, 306, rfl⟩
abbrev main_call7_v0 : Ref sig .tc := ⟨.hbm, 307, rfl⟩
abbrev main_call7_v1 : Ref sig .tc := ⟨.hbm, 308, rfl⟩
abbrev main_call7_v2 : Ref sig .tc := ⟨.hbm, 309, rfl⟩
abbrev main_call7_v3 : Ref sig .tc := ⟨.hbm, 310, rfl⟩
abbrev main_call7_v4 : Ref sig .tc := ⟨.hbm, 311, rfl⟩
abbrev main_v245 : Ref sig .tc := ⟨.hbm, 312, rfl⟩
abbrev main_cst_13 : Ref sig .tc := ⟨.hbm, 313, rfl⟩
abbrev main_v246 : Ref sig .tc := ⟨.hbm, 314, rfl⟩
abbrev main_v247 : Ref sig .tc := ⟨.hbm, 315, rfl⟩
abbrev main_c_14 : Ref sig .tc := ⟨.hbm, 316, rfl⟩
abbrev main_call8_v0 : Ref sig .tc := ⟨.hbm, 317, rfl⟩
abbrev main_v248 : Ref sig .tc := ⟨.hbm, 318, rfl⟩
abbrev main_cst_15 : Ref sig .tc := ⟨.hbm, 319, rfl⟩
abbrev main_v249 : Ref sig .tc := ⟨.hbm, 320, rfl⟩
abbrev main_v250 : Ref sig .tc := ⟨.hbm, 321, rfl⟩
abbrev main_v251 : Ref sig .tc := ⟨.hbm, 322, rfl⟩
abbrev main_v252 : Ref sig .tc := ⟨.hbm, 323, rfl⟩
abbrev main_v253 : Ref sig .tc := ⟨.hbm, 324, rfl⟩
abbrev main_v254 : Ref sig .tc := ⟨.hbm, 325, rfl⟩
abbrev main_v255 : Ref sig .tc := ⟨.hbm, 326, rfl⟩
abbrev main_v256 : Ref sig .tc := ⟨.hbm, 327, rfl⟩
abbrev main_v257 : Ref sig .tc := ⟨.hbm, 328, rfl⟩
abbrev main_v258 : Ref sig .tc := ⟨.hbm, 329, rfl⟩
abbrev main_v259 : Ref sig .tc := ⟨.hbm, 330, rfl⟩
abbrev main_v260 : Ref sig .tc := ⟨.hbm, 331, rfl⟩
abbrev main_v261 : Ref sig .tc := ⟨.hbm, 332, rfl⟩
abbrev main_v262 : Ref sig .tc := ⟨.hbm, 333, rfl⟩
abbrev main_v263 : Ref sig .tc := ⟨.hbm, 334, rfl⟩
abbrev main_v264 : Ref sig .tc := ⟨.hbm, 335, rfl⟩
abbrev main_v265 : Ref sig .tc := ⟨.hbm, 336, rfl⟩
abbrev main_v266 : Ref sig .tc := ⟨.hbm, 337, rfl⟩
abbrev main_v267 : Ref sig .tc := ⟨.hbm, 338, rfl⟩
abbrev main_v268 : Ref sig .tc := ⟨.hbm, 339, rfl⟩
abbrev main_v269 : Ref sig .tc := ⟨.hbm, 340, rfl⟩
abbrev main_v270 : Ref sig .tc := ⟨.hbm, 341, rfl⟩
abbrev main_v271 : Ref sig .tc := ⟨.hbm, 342, rfl⟩
abbrev main_v272 : Ref sig .tc := ⟨.hbm, 343, rfl⟩
abbrev main_v273 : Ref sig .tc := ⟨.hbm, 344, rfl⟩
abbrev main_v274 : Ref sig .tc := ⟨.hbm, 345, rfl⟩
abbrev main_v275 : Ref sig .tc := ⟨.hbm, 346, rfl⟩
abbrev main_v276 : Ref sig .tc := ⟨.hbm, 347, rfl⟩
abbrev main_v277 : Ref sig .tc := ⟨.hbm, 348, rfl⟩
abbrev main_v278 : Ref sig .tc := ⟨.hbm, 349, rfl⟩
abbrev main_v279 : Ref sig .tc := ⟨.hbm, 350, rfl⟩
abbrev main_v280 : Ref sig .tc := ⟨.hbm, 351, rfl⟩
abbrev main_v281 : Ref sig .tc := ⟨.hbm, 352, rfl⟩
abbrev main_v282 : Ref sig .tc := ⟨.hbm, 353, rfl⟩
abbrev main_v283 : Ref sig .tc := ⟨.hbm, 354, rfl⟩
abbrev main_v284 : Ref sig .tc := ⟨.hbm, 355, rfl⟩
abbrev main_v285 : Ref sig .tc := ⟨.hbm, 356, rfl⟩
abbrev main_v286 : Ref sig .tc := ⟨.hbm, 357, rfl⟩
abbrev main_v287 : Ref sig .tc := ⟨.hbm, 358, rfl⟩
abbrev main_v288 : Ref sig .tc := ⟨.hbm, 359, rfl⟩
abbrev main_v289 : Ref sig .tc := ⟨.hbm, 360, rfl⟩
abbrev main_v290 : Ref sig .tc := ⟨.hbm, 361, rfl⟩
abbrev main_v291 : Ref sig .tc := ⟨.hbm, 362, rfl⟩
abbrev main_v292 : Ref sig .tc := ⟨.hbm, 363, rfl⟩
abbrev main_v293 : Ref sig .tc := ⟨.hbm, 364, rfl⟩
abbrev main_v294 : Ref sig .tc := ⟨.hbm, 365, rfl⟩
abbrev main_v295 : Ref sig .tc := ⟨.hbm, 366, rfl⟩
abbrev main_v296 : Ref sig .tc := ⟨.hbm, 367, rfl⟩
abbrev main_v297 : Ref sig .tc := ⟨.hbm, 368, rfl⟩
abbrev main_v298 : Ref sig .tc := ⟨.hbm, 369, rfl⟩
abbrev main_v299 : Ref sig .tc := ⟨.hbm, 370, rfl⟩
abbrev main_v300 : Ref sig .tc := ⟨.hbm, 371, rfl⟩
abbrev main_v301 : Ref sig .tc := ⟨.hbm, 372, rfl⟩
abbrev main_v302 : Ref sig .tc := ⟨.hbm, 373, rfl⟩
abbrev main_v303 : Ref sig .tc := ⟨.hbm, 374, rfl⟩
abbrev main_v304 : Ref sig .tc := ⟨.hbm, 375, rfl⟩
abbrev main_v305 : Ref sig .tc := ⟨.hbm, 376, rfl⟩
abbrev main_v306 : Ref sig .tc := ⟨.hbm, 377, rfl⟩
abbrev main_cst_16 : Ref sig .tc := ⟨.hbm, 378, rfl⟩
abbrev main_call9_cst : Ref sig .tc := ⟨.hbm, 379, rfl⟩
abbrev main_call9_v0 : Ref sig .tc := ⟨.hbm, 380, rfl⟩
abbrev main_call9_v1 : Ref sig .tc := ⟨.hbm, 381, rfl⟩
abbrev main_call9_v2 : Ref sig .tc := ⟨.hbm, 382, rfl⟩
abbrev main_call9_v3 : Ref sig .tc := ⟨.hbm, 383, rfl⟩
abbrev main_call9_v4 : Ref sig .tc := ⟨.hbm, 384, rfl⟩
abbrev main_v307 : Ref sig .tc := ⟨.hbm, 385, rfl⟩
abbrev main_cst_17 : Ref sig .tc := ⟨.hbm, 386, rfl⟩
abbrev main_v308 : Ref sig .tc := ⟨.hbm, 387, rfl⟩
abbrev main_v309 : Ref sig .tc := ⟨.hbm, 388, rfl⟩
abbrev main_c_18 : Ref sig .tc := ⟨.hbm, 389, rfl⟩
abbrev main_call10_v0 : Ref sig .tc := ⟨.hbm, 390, rfl⟩
abbrev main_v310 : Ref sig .tc := ⟨.hbm, 391, rfl⟩
abbrev main_cst_19 : Ref sig .tc := ⟨.hbm, 392, rfl⟩
abbrev main_v311 : Ref sig .tc := ⟨.hbm, 393, rfl⟩
abbrev main_v312 : Ref sig .tc := ⟨.hbm, 394, rfl⟩
abbrev main_v313 : Ref sig .tc := ⟨.hbm, 395, rfl⟩
abbrev main_v314 : Ref sig .tc := ⟨.hbm, 396, rfl⟩
abbrev main_v315 : Ref sig .tc := ⟨.hbm, 397, rfl⟩
abbrev main_v316 : Ref sig .tc := ⟨.hbm, 398, rfl⟩
abbrev main_v317 : Ref sig .tc := ⟨.hbm, 399, rfl⟩
abbrev main_v318 : Ref sig .tc := ⟨.hbm, 400, rfl⟩
abbrev main_cst_20 : Ref sig .tc := ⟨.hbm, 401, rfl⟩
abbrev main_call11_cst : Ref sig .tc := ⟨.hbm, 402, rfl⟩
abbrev main_call11_v0 : Ref sig .tc := ⟨.hbm, 403, rfl⟩
abbrev main_call11_v1 : Ref sig .tc := ⟨.hbm, 404, rfl⟩
abbrev main_call11_v2 : Ref sig .tc := ⟨.hbm, 405, rfl⟩
abbrev main_call11_v3 : Ref sig .tc := ⟨.hbm, 406, rfl⟩
abbrev main_call11_v4 : Ref sig .tc := ⟨.hbm, 407, rfl⟩
abbrev main_v319 : Ref sig .tc := ⟨.hbm, 408, rfl⟩
abbrev main_v320 : Ref sig .tc := ⟨.hbm, 409, rfl⟩
abbrev main_v321 : Ref sig .tc := ⟨.hbm, 410, rfl⟩
abbrev main_v322 : Ref sig .tc := ⟨.hbm, 411, rfl⟩
abbrev main_cst_21 : Ref sig .tc := ⟨.hbm, 412, rfl⟩
abbrev main_v323 : Ref sig .tc := ⟨.hbm, 413, rfl⟩
abbrev main_v324 : Ref sig .tc := ⟨.hbm, 414, rfl⟩
abbrev main_v325 : Ref sig .tc := ⟨.hbm, 415, rfl⟩
abbrev main_v326 : Ref sig .tc := ⟨.hbm, 416, rfl⟩
abbrev main_cst_22 : Ref sig .tc := ⟨.hbm, 417, rfl⟩
abbrev main_v327 : Ref sig .tc := ⟨.hbm, 418, rfl⟩
abbrev main_v328 : Ref sig .tc := ⟨.hbm, 419, rfl⟩
abbrev main_v329 : Ref sig .tc := ⟨.hbm, 420, rfl⟩
abbrev main_v330 : Ref sig .tc := ⟨.hbm, 421, rfl⟩
abbrev main_c_23 : Ref sig .tc := ⟨.hbm, 422, rfl⟩
abbrev main_v331 : Ref sig .tc := ⟨.hbm, 423, rfl⟩
abbrev main_v332 : Ref sig .tc := ⟨.hbm, 424, rfl⟩
abbrev main_c_24 : Ref sig .tc := ⟨.hbm, 425, rfl⟩
abbrev main_c_25 : Ref sig .tc := ⟨.hbm, 426, rfl⟩
abbrev main_call12_v0 : Ref sig .tc := ⟨.hbm, 427, rfl⟩
abbrev main_call12_v1 : Ref sig .tc := ⟨.hbm, 428, rfl⟩
abbrev main_call12_v2 : Ref sig .tc := ⟨.hbm, 429, rfl⟩
abbrev main_call12_v3 : Ref sig .tc := ⟨.hbm, 430, rfl⟩
abbrev main_call12_v4 : Ref sig .tc := ⟨.hbm, 431, rfl⟩
abbrev main_v333 : Ref sig .tc := ⟨.hbm, 432, rfl⟩
abbrev main_v334 : Ref sig .tc := ⟨.hbm, 433, rfl⟩
abbrev main_v335 : Ref sig .tc := ⟨.hbm, 434, rfl⟩
abbrev main_v336 : Ref sig .tc := ⟨.hbm, 435, rfl⟩
abbrev main_v337 : Ref sig .tc := ⟨.hbm, 436, rfl⟩
abbrev main_v338 : Ref sig .tc := ⟨.hbm, 437, rfl⟩
abbrev main_c_26 : Ref sig .tc := ⟨.hbm, 438, rfl⟩
abbrev main_v339 : Ref sig .tc := ⟨.hbm, 439, rfl⟩
abbrev main_v340 : Ref sig .tc := ⟨.hbm, 440, rfl⟩
abbrev main_c_27 : Ref sig .tc := ⟨.hbm, 441, rfl⟩
abbrev main_c_28 : Ref sig .tc := ⟨.hbm, 442, rfl⟩
abbrev main_call13_v0 : Ref sig .tc := ⟨.hbm, 443, rfl⟩
abbrev main_call13_v1 : Ref sig .tc := ⟨.hbm, 444, rfl⟩
abbrev main_call13_v2 : Ref sig .tc := ⟨.hbm, 445, rfl⟩
abbrev main_call13_v3 : Ref sig .tc := ⟨.hbm, 446, rfl⟩
abbrev main_call13_v4 : Ref sig .tc := ⟨.hbm, 447, rfl⟩
abbrev main_v341 : Ref sig .tc := ⟨.hbm, 448, rfl⟩
abbrev main_v342 : Ref sig .tc := ⟨.hbm, 449, rfl⟩
abbrev main_v343 : Ref sig .tc := ⟨.hbm, 450, rfl⟩
abbrev main_v344 : Ref sig .tc := ⟨.hbm, 451, rfl⟩
abbrev main_c_29 : Ref sig .tc := ⟨.hbm, 452, rfl⟩
abbrev main_v345 : Ref sig .tc := ⟨.hbm, 453, rfl⟩
abbrev main_v346 : Ref sig .tc := ⟨.hbm, 454, rfl⟩
abbrev main_c_30 : Ref sig .tc := ⟨.hbm, 455, rfl⟩
abbrev main_v347 : Ref sig .tc := ⟨.hbm, 456, rfl⟩
abbrev main_v348 : Ref sig .tc := ⟨.hbm, 457, rfl⟩
abbrev main_v349 : Ref sig .tc := ⟨.hbm, 458, rfl⟩
abbrev main_v350 : Ref sig .tc := ⟨.hbm, 459, rfl⟩
abbrev main_v351 : Ref sig .tc := ⟨.hbm, 460, rfl⟩
abbrev main_c_31 : Ref sig .tc := ⟨.hbm, 461, rfl⟩
abbrev main_v352 : Ref sig .tc := ⟨.hbm, 462, rfl⟩
abbrev main_v353 : Ref sig .tc := ⟨.hbm, 463, rfl⟩
abbrev main_c_32 : Ref sig .tc := ⟨.hbm, 464, rfl⟩
abbrev main_v354 : Ref sig .tc := ⟨.hbm, 465, rfl⟩
abbrev main_v355 : Ref sig .tc := ⟨.hbm, 466, rfl⟩
abbrev main_v356 : Ref sig .tc := ⟨.hbm, 467, rfl⟩
abbrev main_v357 : Ref sig .tc := ⟨.hbm, 468, rfl⟩
abbrev main_v358 : Ref sig .tc := ⟨.hbm, 469, rfl⟩
abbrev main_cst_33 : Ref sig .tc := ⟨.hbm, 470, rfl⟩
abbrev main_v359 : Ref sig .tc := ⟨.hbm, 471, rfl⟩
abbrev main_v360 : Ref sig .tc := ⟨.hbm, 472, rfl⟩
abbrev main_v361 : Ref sig .tc := ⟨.hbm, 473, rfl⟩
abbrev main_v362 : Ref sig .tc := ⟨.hbm, 474, rfl⟩
abbrev main_v363 : Ref sig .tc := ⟨.hbm, 475, rfl⟩
abbrev main_v364 : Ref sig .tc := ⟨.hbm, 476, rfl⟩
abbrev main_v365 : Ref sig .tc := ⟨.hbm, 477, rfl⟩
abbrev main_v366 : Ref sig .tc := ⟨.hbm, 478, rfl⟩
abbrev main_v367 : Ref sig .tc := ⟨.hbm, 479, rfl⟩
abbrev main_c_34 : Ref sig .tc := ⟨.hbm, 480, rfl⟩
abbrev main_v368 : Ref sig .tc := ⟨.hbm, 481, rfl⟩
abbrev main_v369 : Ref sig .tc := ⟨.hbm, 482, rfl⟩
abbrev main_c_35 : Ref sig .tc := ⟨.hbm, 483, rfl⟩
abbrev main_v370 : Ref sig .tc := ⟨.hbm, 484, rfl⟩
abbrev main_v371 : Ref sig .tc := ⟨.hbm, 485, rfl⟩
abbrev main_v372 : Ref sig .tc := ⟨.hbm, 486, rfl⟩
abbrev main_v373 : Ref sig .tc := ⟨.hbm, 487, rfl⟩
abbrev main_v374 : Ref sig .tc := ⟨.hbm, 488, rfl⟩
abbrev main_c_36 : Ref sig .tc := ⟨.hbm, 489, rfl⟩
abbrev main_v375 : Ref sig .tc := ⟨.hbm, 490, rfl⟩
abbrev main_v376 : Ref sig .tc := ⟨.hbm, 491, rfl⟩
abbrev main_c_37 : Ref sig .tc := ⟨.hbm, 492, rfl⟩
abbrev main_v377 : Ref sig .tc := ⟨.hbm, 493, rfl⟩
abbrev main_v378 : Ref sig .tc := ⟨.hbm, 494, rfl⟩
abbrev main_v379 : Ref sig .tc := ⟨.hbm, 495, rfl⟩
abbrev main_v380 : Ref sig .tc := ⟨.hbm, 496, rfl⟩
abbrev main_v381 : Ref sig .tc := ⟨.hbm, 497, rfl⟩
abbrev main_cst_38 : Ref sig .tc := ⟨.hbm, 498, rfl⟩
abbrev main_v382 : Ref sig .tc := ⟨.hbm, 499, rfl⟩
abbrev main_v383 : Ref sig .tc := ⟨.hbm, 500, rfl⟩
abbrev main_v384 : Ref sig .tc := ⟨.hbm, 501, rfl⟩
abbrev main_v385 : Ref sig .tc := ⟨.hbm, 502, rfl⟩
abbrev main_v386 : Ref sig .tc := ⟨.hbm, 503, rfl⟩
abbrev main_v387 : Ref sig .tc := ⟨.hbm, 504, rfl⟩
abbrev main_v388 : Ref sig .tc := ⟨.hbm, 505, rfl⟩
abbrev main_v389 : Ref sig .tc := ⟨.hbm, 506, rfl⟩
abbrev main_v390 : Ref sig .tc := ⟨.hbm, 507, rfl⟩
abbrev main_c_39 : Ref sig .tc := ⟨.hbm, 508, rfl⟩
abbrev main_call14_v0 : Ref sig .tc := ⟨.hbm, 509, rfl⟩
abbrev main_v391 : Ref sig .tc := ⟨.hbm, 510, rfl⟩
abbrev main_cst_40 : Ref sig .tc := ⟨.hbm, 511, rfl⟩
abbrev main_v392 : Ref sig .tc := ⟨.hbm, 512, rfl⟩
abbrev main_v393 : Ref sig .tc := ⟨.hbm, 513, rfl⟩
abbrev main_v394 : Ref sig .tc := ⟨.hbm, 514, rfl⟩
abbrev main_v395 : Ref sig .tc := ⟨.hbm, 515, rfl⟩
abbrev main_v396 : Ref sig .tc := ⟨.hbm, 516, rfl⟩
abbrev main_v397 : Ref sig .tc := ⟨.hbm, 517, rfl⟩
abbrev main_v398 : Ref sig .tc := ⟨.hbm, 518, rfl⟩
abbrev main_v399 : Ref sig .tc := ⟨.hbm, 519, rfl⟩
abbrev main_v400 : Ref sig .tc := ⟨.hbm, 520, rfl⟩
abbrev main_v401 : Ref sig .tc := ⟨.hbm, 521, rfl⟩
abbrev main_v402 : Ref sig .tc := ⟨.hbm, 522, rfl⟩
abbrev main_v403 : Ref sig .tc := ⟨.hbm, 523, rfl⟩
abbrev main_v404 : Ref sig .tc := ⟨.hbm, 524, rfl⟩
abbrev main_v405 : Ref sig .tc := ⟨.hbm, 525, rfl⟩
abbrev main_v406 : Ref sig .tc := ⟨.hbm, 526, rfl⟩
abbrev main_v407 : Ref sig .tc := ⟨.hbm, 527, rfl⟩
abbrev main_v408 : Ref sig .tc := ⟨.hbm, 528, rfl⟩
abbrev main_v409 : Ref sig .tc := ⟨.hbm, 529, rfl⟩
abbrev main_v410 : Ref sig .tc := ⟨.hbm, 530, rfl⟩
abbrev main_v411 : Ref sig .tc := ⟨.hbm, 531, rfl⟩
abbrev main_v412 : Ref sig .tc := ⟨.hbm, 532, rfl⟩
abbrev main_v413 : Ref sig .tc := ⟨.hbm, 533, rfl⟩
abbrev main_v414 : Ref sig .tc := ⟨.hbm, 534, rfl⟩
abbrev main_v415 : Ref sig .tc := ⟨.hbm, 535, rfl⟩
abbrev main_v416 : Ref sig .tc := ⟨.hbm, 536, rfl⟩
abbrev main_v417 : Ref sig .tc := ⟨.hbm, 537, rfl⟩
abbrev main_v418 : Ref sig .tc := ⟨.hbm, 538, rfl⟩
abbrev main_v419 : Ref sig .tc := ⟨.hbm, 539, rfl⟩
abbrev main_v420 : Ref sig .tc := ⟨.hbm, 540, rfl⟩
abbrev main_v421 : Ref sig .tc := ⟨.hbm, 541, rfl⟩
abbrev main_v422 : Ref sig .tc := ⟨.hbm, 542, rfl⟩
abbrev main_v423 : Ref sig .tc := ⟨.hbm, 543, rfl⟩
abbrev main_v424 : Ref sig .tc := ⟨.hbm, 544, rfl⟩
abbrev main_v425 : Ref sig .tc := ⟨.hbm, 545, rfl⟩
abbrev main_v426 : Ref sig .tc := ⟨.hbm, 546, rfl⟩
abbrev main_v427 : Ref sig .tc := ⟨.hbm, 547, rfl⟩
abbrev main_v428 : Ref sig .tc := ⟨.hbm, 548, rfl⟩
abbrev main_v429 : Ref sig .tc := ⟨.hbm, 549, rfl⟩
abbrev main_v430 : Ref sig .tc := ⟨.hbm, 550, rfl⟩
abbrev main_v431 : Ref sig .tc := ⟨.hbm, 551, rfl⟩
abbrev main_v432 : Ref sig .tc := ⟨.hbm, 552, rfl⟩
abbrev main_v433 : Ref sig .tc := ⟨.hbm, 553, rfl⟩
abbrev main_v434 : Ref sig .tc := ⟨.hbm, 554, rfl⟩
abbrev main_v435 : Ref sig .tc := ⟨.hbm, 555, rfl⟩
abbrev main_v436 : Ref sig .tc := ⟨.hbm, 556, rfl⟩
abbrev main_v437 : Ref sig .tc := ⟨.hbm, 557, rfl⟩
abbrev main_v438 : Ref sig .tc := ⟨.hbm, 558, rfl⟩
abbrev main_v439 : Ref sig .tc := ⟨.hbm, 559, rfl⟩
abbrev main_v440 : Ref sig .tc := ⟨.hbm, 560, rfl⟩
abbrev main_v441 : Ref sig .tc := ⟨.hbm, 561, rfl⟩
abbrev main_v442 : Ref sig .tc := ⟨.hbm, 562, rfl⟩
abbrev main_v443 : Ref sig .tc := ⟨.hbm, 563, rfl⟩
abbrev main_v444 : Ref sig .tc := ⟨.hbm, 564, rfl⟩
abbrev main_v445 : Ref sig .tc := ⟨.hbm, 565, rfl⟩
abbrev main_v446 : Ref sig .tc := ⟨.hbm, 566, rfl⟩
abbrev main_v447 : Ref sig .tc := ⟨.hbm, 567, rfl⟩
abbrev main_v448 : Ref sig .tc := ⟨.hbm, 568, rfl⟩
abbrev main_v449 : Ref sig .tc := ⟨.hbm, 569, rfl⟩
abbrev main_cst_41 : Ref sig .tc := ⟨.hbm, 570, rfl⟩
abbrev main_call15_cst : Ref sig .tc := ⟨.hbm, 571, rfl⟩
abbrev main_call15_v0 : Ref sig .tc := ⟨.hbm, 572, rfl⟩
abbrev main_call15_v1 : Ref sig .tc := ⟨.hbm, 573, rfl⟩
abbrev main_call15_v2 : Ref sig .tc := ⟨.hbm, 574, rfl⟩
abbrev main_call15_v3 : Ref sig .tc := ⟨.hbm, 575, rfl⟩
abbrev main_call15_v4 : Ref sig .tc := ⟨.hbm, 576, rfl⟩
abbrev main_v450 : Ref sig .tc := ⟨.hbm, 577, rfl⟩
abbrev main_v451 : Ref sig .tc := ⟨.hbm, 578, rfl⟩
abbrev main_v452 : Ref sig .tc := ⟨.hbm, 579, rfl⟩
abbrev main_v453 : Ref sig .tc := ⟨.hbm, 580, rfl⟩
abbrev main_cst_42 : Ref sig .tc := ⟨.hbm, 581, rfl⟩
abbrev main_v454 : Ref sig .tc := ⟨.hbm, 582, rfl⟩
abbrev main_v455 : Ref sig .tc := ⟨.hbm, 583, rfl⟩
abbrev main_v456 : Ref sig .tc := ⟨.hbm, 584, rfl⟩
abbrev main_v457 : Ref sig .tc := ⟨.hbm, 585, rfl⟩
abbrev main_cst_43 : Ref sig .tc := ⟨.hbm, 586, rfl⟩
abbrev main_v458 : Ref sig .tc := ⟨.hbm, 587, rfl⟩
abbrev main_v459 : Ref sig .tc := ⟨.hbm, 588, rfl⟩
abbrev main_v460 : Ref sig .tc := ⟨.hbm, 589, rfl⟩
abbrev main_v461 : Ref sig .tc := ⟨.hbm, 590, rfl⟩
abbrev main_c_44 : Ref sig .tc := ⟨.hbm, 591, rfl⟩
abbrev main_v462 : Ref sig .tc := ⟨.hbm, 592, rfl⟩
abbrev main_v463 : Ref sig .tc := ⟨.hbm, 593, rfl⟩
abbrev main_c_45 : Ref sig .tc := ⟨.hbm, 594, rfl⟩
abbrev main_c_46 : Ref sig .tc := ⟨.hbm, 595, rfl⟩
abbrev main_call16_v0 : Ref sig .tc := ⟨.hbm, 596, rfl⟩
abbrev main_call16_v1 : Ref sig .tc := ⟨.hbm, 597, rfl⟩
abbrev main_call16_v2 : Ref sig .tc := ⟨.hbm, 598, rfl⟩
abbrev main_call16_v3 : Ref sig .tc := ⟨.hbm, 599, rfl⟩
abbrev main_call16_v4 : Ref sig .tc := ⟨.hbm, 600, rfl⟩
abbrev main_v464 : Ref sig .tc := ⟨.hbm, 601, rfl⟩
abbrev main_v465 : Ref sig .tc := ⟨.hbm, 602, rfl⟩
abbrev main_v466 : Ref sig .tc := ⟨.hbm, 603, rfl⟩
abbrev main_v467 : Ref sig .tc := ⟨.hbm, 604, rfl⟩
abbrev main_v468 : Ref sig .tc := ⟨.hbm, 605, rfl⟩
abbrev main_v469 : Ref sig .tc := ⟨.hbm, 606, rfl⟩
abbrev main_c_47 : Ref sig .tc := ⟨.hbm, 607, rfl⟩
abbrev main_v470 : Ref sig .tc := ⟨.hbm, 608, rfl⟩
abbrev main_v471 : Ref sig .tc := ⟨.hbm, 609, rfl⟩
abbrev main_c_48 : Ref sig .tc := ⟨.hbm, 610, rfl⟩
abbrev main_c_49 : Ref sig .tc := ⟨.hbm, 611, rfl⟩
abbrev main_call17_v0 : Ref sig .tc := ⟨.hbm, 612, rfl⟩
abbrev main_call17_v1 : Ref sig .tc := ⟨.hbm, 613, rfl⟩
abbrev main_call17_v2 : Ref sig .tc := ⟨.hbm, 614, rfl⟩
abbrev main_call17_v3 : Ref sig .tc := ⟨.hbm, 615, rfl⟩
abbrev main_call17_v4 : Ref sig .tc := ⟨.hbm, 616, rfl⟩
abbrev main_v472 : Ref sig .tc := ⟨.hbm, 617, rfl⟩
abbrev main_v473 : Ref sig .tc := ⟨.hbm, 618, rfl⟩
abbrev main_v474 : Ref sig .tc := ⟨.hbm, 619, rfl⟩
abbrev main_v475 : Ref sig .tc := ⟨.hbm, 620, rfl⟩
abbrev main_c_50 : Ref sig .tc := ⟨.hbm, 621, rfl⟩
abbrev main_v476 : Ref sig .tc := ⟨.hbm, 622, rfl⟩
abbrev main_v477 : Ref sig .tc := ⟨.hbm, 623, rfl⟩
abbrev main_c_51 : Ref sig .tc := ⟨.hbm, 624, rfl⟩
abbrev main_v478 : Ref sig .tc := ⟨.hbm, 625, rfl⟩
abbrev main_v479 : Ref sig .tc := ⟨.hbm, 626, rfl⟩
abbrev main_v480 : Ref sig .tc := ⟨.hbm, 627, rfl⟩
abbrev main_v481 : Ref sig .tc := ⟨.hbm, 628, rfl⟩
abbrev main_v482 : Ref sig .tc := ⟨.hbm, 629, rfl⟩
abbrev main_c_52 : Ref sig .tc := ⟨.hbm, 630, rfl⟩
abbrev main_v483 : Ref sig .tc := ⟨.hbm, 631, rfl⟩
abbrev main_v484 : Ref sig .tc := ⟨.hbm, 632, rfl⟩
abbrev main_c_53 : Ref sig .tc := ⟨.hbm, 633, rfl⟩
abbrev main_v485 : Ref sig .tc := ⟨.hbm, 634, rfl⟩
abbrev main_v486 : Ref sig .tc := ⟨.hbm, 635, rfl⟩
abbrev main_v487 : Ref sig .tc := ⟨.hbm, 636, rfl⟩
abbrev main_v488 : Ref sig .tc := ⟨.hbm, 637, rfl⟩
abbrev main_v489 : Ref sig .tc := ⟨.hbm, 638, rfl⟩
abbrev main_cst_54 : Ref sig .tc := ⟨.hbm, 639, rfl⟩
abbrev main_v490 : Ref sig .tc := ⟨.hbm, 640, rfl⟩
abbrev main_v491 : Ref sig .tc := ⟨.hbm, 641, rfl⟩
abbrev main_v492 : Ref sig .tc := ⟨.hbm, 642, rfl⟩
abbrev main_v493 : Ref sig .tc := ⟨.hbm, 643, rfl⟩
abbrev main_v494 : Ref sig .tc := ⟨.hbm, 644, rfl⟩
abbrev main_v495 : Ref sig .tc := ⟨.hbm, 645, rfl⟩
abbrev main_v496 : Ref sig .tc := ⟨.hbm, 646, rfl⟩
abbrev main_v497 : Ref sig .tc := ⟨.hbm, 647, rfl⟩
abbrev main_v498 : Ref sig .tc := ⟨.hbm, 648, rfl⟩
abbrev main_c_55 : Ref sig .tc := ⟨.hbm, 649, rfl⟩
abbrev main_v499 : Ref sig .tc := ⟨.hbm, 650, rfl⟩
abbrev main_v500 : Ref sig .tc := ⟨.hbm, 651, rfl⟩
abbrev main_c_56 : Ref sig .tc := ⟨.hbm, 652, rfl⟩
abbrev main_v501 : Ref sig .tc := ⟨.hbm, 653, rfl⟩
abbrev main_v502 : Ref sig .tc := ⟨.hbm, 654, rfl⟩
abbrev main_v503 : Ref sig .tc := ⟨.hbm, 655, rfl⟩
abbrev main_v504 : Ref sig .tc := ⟨.hbm, 656, rfl⟩
abbrev main_v505 : Ref sig .tc := ⟨.hbm, 657, rfl⟩
abbrev main_c_57 : Ref sig .tc := ⟨.hbm, 658, rfl⟩
abbrev main_v506 : Ref sig .tc := ⟨.hbm, 659, rfl⟩
abbrev main_v507 : Ref sig .tc := ⟨.hbm, 660, rfl⟩
abbrev main_c_58 : Ref sig .tc := ⟨.hbm, 661, rfl⟩
abbrev main_v508 : Ref sig .tc := ⟨.hbm, 662, rfl⟩
abbrev main_v509 : Ref sig .tc := ⟨.hbm, 663, rfl⟩
abbrev main_v510 : Ref sig .tc := ⟨.hbm, 664, rfl⟩
abbrev main_v511 : Ref sig .tc := ⟨.hbm, 665, rfl⟩
abbrev main_v512 : Ref sig .tc := ⟨.hbm, 666, rfl⟩
abbrev main_cst_59 : Ref sig .tc := ⟨.hbm, 667, rfl⟩
abbrev main_v513 : Ref sig .tc := ⟨.hbm, 668, rfl⟩
abbrev main_v514 : Ref sig .tc := ⟨.hbm, 669, rfl⟩
abbrev main_v515 : Ref sig .tc := ⟨.hbm, 670, rfl⟩
abbrev main_v516 : Ref sig .tc := ⟨.hbm, 671, rfl⟩
abbrev main_v517 : Ref sig .tc := ⟨.hbm, 672, rfl⟩
abbrev main_v518 : Ref sig .tc := ⟨.hbm, 673, rfl⟩
abbrev main_v519 : Ref sig .tc := ⟨.hbm, 674, rfl⟩
abbrev main_v520 : Ref sig .tc := ⟨.hbm, 675, rfl⟩
abbrev main_v521 : Ref sig .tc := ⟨.hbm, 676, rfl⟩
abbrev main_c_60 : Ref sig .tc := ⟨.hbm, 677, rfl⟩
abbrev main_call18_v0 : Ref sig .tc := ⟨.hbm, 678, rfl⟩
abbrev main_v522 : Ref sig .tc := ⟨.hbm, 679, rfl⟩
abbrev main_cst_61 : Ref sig .tc := ⟨.hbm, 680, rfl⟩
abbrev main_v523 : Ref sig .tc := ⟨.hbm, 681, rfl⟩
abbrev main_v524 : Ref sig .tc := ⟨.hbm, 682, rfl⟩
abbrev main_v525 : Ref sig .tc := ⟨.hbm, 683, rfl⟩
abbrev main_v526 : Ref sig .tc := ⟨.hbm, 684, rfl⟩
abbrev main_v527 : Ref sig .tc := ⟨.hbm, 685, rfl⟩
abbrev main_v528 : Ref sig .tc := ⟨.hbm, 686, rfl⟩
abbrev main_v529 : Ref sig .tc := ⟨.hbm, 687, rfl⟩
abbrev main_v530 : Ref sig .tc := ⟨.hbm, 688, rfl⟩
abbrev main_v531 : Ref sig .tc := ⟨.hbm, 689, rfl⟩
abbrev main_v532 : Ref sig .tc := ⟨.hbm, 690, rfl⟩
abbrev main_v533 : Ref sig .tc := ⟨.hbm, 691, rfl⟩
abbrev main_v534 : Ref sig .tc := ⟨.hbm, 692, rfl⟩
abbrev main_v535 : Ref sig .tc := ⟨.hbm, 693, rfl⟩
abbrev main_v536 : Ref sig .tc := ⟨.hbm, 694, rfl⟩
abbrev main_v537 : Ref sig .tc := ⟨.hbm, 695, rfl⟩
abbrev main_v538 : Ref sig .tc := ⟨.hbm, 696, rfl⟩
abbrev main_v539 : Ref sig .tc := ⟨.hbm, 697, rfl⟩
abbrev main_v540 : Ref sig .tc := ⟨.hbm, 698, rfl⟩
abbrev main_v541 : Ref sig .tc := ⟨.hbm, 699, rfl⟩
abbrev main_v542 : Ref sig .tc := ⟨.hbm, 700, rfl⟩
abbrev main_v543 : Ref sig .tc := ⟨.hbm, 701, rfl⟩
abbrev main_v544 : Ref sig .tc := ⟨.hbm, 702, rfl⟩
abbrev main_v545 : Ref sig .tc := ⟨.hbm, 703, rfl⟩
abbrev main_v546 : Ref sig .tc := ⟨.hbm, 704, rfl⟩
abbrev main_v547 : Ref sig .tc := ⟨.hbm, 705, rfl⟩
abbrev main_v548 : Ref sig .tc := ⟨.hbm, 706, rfl⟩
abbrev main_v549 : Ref sig .tc := ⟨.hbm, 707, rfl⟩
abbrev main_v550 : Ref sig .tc := ⟨.hbm, 708, rfl⟩
abbrev main_v551 : Ref sig .tc := ⟨.hbm, 709, rfl⟩
abbrev main_v552 : Ref sig .tc := ⟨.hbm, 710, rfl⟩
abbrev main_v553 : Ref sig .tc := ⟨.hbm, 711, rfl⟩
abbrev main_v554 : Ref sig .tc := ⟨.hbm, 712, rfl⟩
abbrev main_v555 : Ref sig .tc := ⟨.hbm, 713, rfl⟩
abbrev main_v556 : Ref sig .tc := ⟨.hbm, 714, rfl⟩
abbrev main_v557 : Ref sig .tc := ⟨.hbm, 715, rfl⟩
abbrev main_v558 : Ref sig .tc := ⟨.hbm, 716, rfl⟩
abbrev main_v559 : Ref sig .tc := ⟨.hbm, 717, rfl⟩
abbrev main_v560 : Ref sig .tc := ⟨.hbm, 718, rfl⟩
abbrev main_v561 : Ref sig .tc := ⟨.hbm, 719, rfl⟩
abbrev main_v562 : Ref sig .tc := ⟨.hbm, 720, rfl⟩
abbrev main_v563 : Ref sig .tc := ⟨.hbm, 721, rfl⟩
abbrev main_v564 : Ref sig .tc := ⟨.hbm, 722, rfl⟩
abbrev main_v565 : Ref sig .tc := ⟨.hbm, 723, rfl⟩
abbrev main_v566 : Ref sig .tc := ⟨.hbm, 724, rfl⟩
abbrev main_v567 : Ref sig .tc := ⟨.hbm, 725, rfl⟩
abbrev main_v568 : Ref sig .tc := ⟨.hbm, 726, rfl⟩
abbrev main_v569 : Ref sig .tc := ⟨.hbm, 727, rfl⟩
abbrev main_v570 : Ref sig .tc := ⟨.hbm, 728, rfl⟩
abbrev main_v571 : Ref sig .tc := ⟨.hbm, 729, rfl⟩
abbrev main_v572 : Ref sig .tc := ⟨.hbm, 730, rfl⟩
abbrev main_v573 : Ref sig .tc := ⟨.hbm, 731, rfl⟩
abbrev main_v574 : Ref sig .tc := ⟨.hbm, 732, rfl⟩
abbrev main_v575 : Ref sig .tc := ⟨.hbm, 733, rfl⟩
abbrev main_v576 : Ref sig .tc := ⟨.hbm, 734, rfl⟩
abbrev main_v577 : Ref sig .tc := ⟨.hbm, 735, rfl⟩
abbrev main_v578 : Ref sig .tc := ⟨.hbm, 736, rfl⟩
abbrev main_v579 : Ref sig .tc := ⟨.hbm, 737, rfl⟩
abbrev main_v580 : Ref sig .tc := ⟨.hbm, 738, rfl⟩
abbrev main_cst_62 : Ref sig .tc := ⟨.hbm, 739, rfl⟩
abbrev main_call19_cst : Ref sig .tc := ⟨.hbm, 740, rfl⟩
abbrev main_call19_v0 : Ref sig .tc := ⟨.hbm, 741, rfl⟩
abbrev main_call19_v1 : Ref sig .tc := ⟨.hbm, 742, rfl⟩
abbrev main_call19_v2 : Ref sig .tc := ⟨.hbm, 743, rfl⟩
abbrev main_call19_v3 : Ref sig .tc := ⟨.hbm, 744, rfl⟩
abbrev main_call19_v4 : Ref sig .tc := ⟨.hbm, 745, rfl⟩
abbrev main_v581 : Ref sig .tc := ⟨.hbm, 746, rfl⟩
abbrev main_v582 : Ref sig .tc := ⟨.hbm, 747, rfl⟩
abbrev main_v583 : Ref sig .tc := ⟨.hbm, 748, rfl⟩
abbrev main_v584 : Ref sig .tc := ⟨.hbm, 749, rfl⟩
abbrev main_cst_63 : Ref sig .tc := ⟨.hbm, 750, rfl⟩
abbrev main_v585 : Ref sig .tc := ⟨.hbm, 751, rfl⟩
abbrev main_v586 : Ref sig .tc := ⟨.hbm, 752, rfl⟩
abbrev main_v587 : Ref sig .tc := ⟨.hbm, 753, rfl⟩
abbrev main_v588 : Ref sig .tc := ⟨.hbm, 754, rfl⟩
abbrev main_cst_64 : Ref sig .tc := ⟨.hbm, 755, rfl⟩
abbrev main_v589 : Ref sig .tc := ⟨.hbm, 756, rfl⟩
abbrev main_v590 : Ref sig .tc := ⟨.hbm, 757, rfl⟩
abbrev main_v591 : Ref sig .tc := ⟨.hbm, 758, rfl⟩
abbrev main_v592 : Ref sig .tc := ⟨.hbm, 759, rfl⟩
abbrev main_c_65 : Ref sig .tc := ⟨.hbm, 760, rfl⟩
abbrev main_v593 : Ref sig .tc := ⟨.hbm, 761, rfl⟩
abbrev main_v594 : Ref sig .tc := ⟨.hbm, 762, rfl⟩
abbrev main_c_66 : Ref sig .tc := ⟨.hbm, 763, rfl⟩
abbrev main_c_67 : Ref sig .tc := ⟨.hbm, 764, rfl⟩
abbrev main_call20_v0 : Ref sig .tc := ⟨.hbm, 765, rfl⟩
abbrev main_call20_v1 : Ref sig .tc := ⟨.hbm, 766, rfl⟩
abbrev main_call20_v2 : Ref sig .tc := ⟨.hbm, 767, rfl⟩
abbrev main_call20_v3 : Ref sig .tc := ⟨.hbm, 768, rfl⟩
abbrev main_call20_v4 : Ref sig .tc := ⟨.hbm, 769, rfl⟩
abbrev main_v595 : Ref sig .tc := ⟨.hbm, 770, rfl⟩
abbrev main_v596 : Ref sig .tc := ⟨.hbm, 771, rfl⟩
abbrev main_v597 : Ref sig .tc := ⟨.hbm, 772, rfl⟩
abbrev main_v598 : Ref sig .tc := ⟨.hbm, 773, rfl⟩
abbrev main_v599 : Ref sig .tc := ⟨.hbm, 774, rfl⟩
abbrev main_v600 : Ref sig .tc := ⟨.hbm, 775, rfl⟩
abbrev main_c_68 : Ref sig .tc := ⟨.hbm, 776, rfl⟩
abbrev main_v601 : Ref sig .tc := ⟨.hbm, 777, rfl⟩
abbrev main_v602 : Ref sig .tc := ⟨.hbm, 778, rfl⟩
abbrev main_c_69 : Ref sig .tc := ⟨.hbm, 779, rfl⟩
abbrev main_c_70 : Ref sig .tc := ⟨.hbm, 780, rfl⟩
abbrev main_call21_v0 : Ref sig .tc := ⟨.hbm, 781, rfl⟩
abbrev main_call21_v1 : Ref sig .tc := ⟨.hbm, 782, rfl⟩
abbrev main_call21_v2 : Ref sig .tc := ⟨.hbm, 783, rfl⟩
abbrev main_call21_v3 : Ref sig .tc := ⟨.hbm, 784, rfl⟩
abbrev main_call21_v4 : Ref sig .tc := ⟨.hbm, 785, rfl⟩
abbrev main_v603 : Ref sig .tc := ⟨.hbm, 786, rfl⟩
abbrev main_v604 : Ref sig .tc := ⟨.hbm, 787, rfl⟩
abbrev main_v605 : Ref sig .tc := ⟨.hbm, 788, rfl⟩
abbrev main_v606 : Ref sig .tc := ⟨.hbm, 789, rfl⟩
abbrev main_c_71 : Ref sig .tc := ⟨.hbm, 790, rfl⟩
abbrev main_v607 : Ref sig .tc := ⟨.hbm, 791, rfl⟩
abbrev main_v608 : Ref sig .tc := ⟨.hbm, 792, rfl⟩
abbrev main_c_72 : Ref sig .tc := ⟨.hbm, 793, rfl⟩
abbrev main_v609 : Ref sig .tc := ⟨.hbm, 794, rfl⟩
abbrev main_v610 : Ref sig .tc := ⟨.hbm, 795, rfl⟩
abbrev main_v611 : Ref sig .tc := ⟨.hbm, 796, rfl⟩
abbrev main_v612 : Ref sig .tc := ⟨.hbm, 797, rfl⟩
abbrev main_v613 : Ref sig .tc := ⟨.hbm, 798, rfl⟩
abbrev main_c_73 : Ref sig .tc := ⟨.hbm, 799, rfl⟩
abbrev main_v614 : Ref sig .tc := ⟨.hbm, 800, rfl⟩
abbrev main_v615 : Ref sig .tc := ⟨.hbm, 801, rfl⟩
abbrev main_c_74 : Ref sig .tc := ⟨.hbm, 802, rfl⟩
abbrev main_v616 : Ref sig .tc := ⟨.hbm, 803, rfl⟩
abbrev main_v617 : Ref sig .tc := ⟨.hbm, 804, rfl⟩
abbrev main_v618 : Ref sig .tc := ⟨.hbm, 805, rfl⟩
abbrev main_v619 : Ref sig .tc := ⟨.hbm, 806, rfl⟩
abbrev main_v620 : Ref sig .tc := ⟨.hbm, 807, rfl⟩
abbrev main_cst_75 : Ref sig .tc := ⟨.hbm, 808, rfl⟩
abbrev main_v621 : Ref sig .tc := ⟨.hbm, 809, rfl⟩
abbrev main_v622 : Ref sig .tc := ⟨.hbm, 810, rfl⟩
abbrev main_v623 : Ref sig .tc := ⟨.hbm, 811, rfl⟩
abbrev main_v624 : Ref sig .tc := ⟨.hbm, 812, rfl⟩
abbrev main_v625 : Ref sig .tc := ⟨.hbm, 813, rfl⟩
abbrev main_v626 : Ref sig .tc := ⟨.hbm, 814, rfl⟩
abbrev main_v627 : Ref sig .tc := ⟨.hbm, 815, rfl⟩
abbrev main_v628 : Ref sig .tc := ⟨.hbm, 816, rfl⟩
abbrev main_v629 : Ref sig .tc := ⟨.hbm, 817, rfl⟩
abbrev main_c_76 : Ref sig .tc := ⟨.hbm, 818, rfl⟩
abbrev main_v630 : Ref sig .tc := ⟨.hbm, 819, rfl⟩
abbrev main_v631 : Ref sig .tc := ⟨.hbm, 820, rfl⟩
abbrev main_c_77 : Ref sig .tc := ⟨.hbm, 821, rfl⟩
abbrev main_v632 : Ref sig .tc := ⟨.hbm, 822, rfl⟩
abbrev main_v633 : Ref sig .tc := ⟨.hbm, 823, rfl⟩
abbrev main_v634 : Ref sig .tc := ⟨.hbm, 824, rfl⟩
abbrev main_v635 : Ref sig .tc := ⟨.hbm, 825, rfl⟩
abbrev main_v636 : Ref sig .tc := ⟨.hbm, 826, rfl⟩
abbrev main_c_78 : Ref sig .tc := ⟨.hbm, 827, rfl⟩
abbrev main_v637 : Ref sig .tc := ⟨.hbm, 828, rfl⟩
abbrev main_v638 : Ref sig .tc := ⟨.hbm, 829, rfl⟩
abbrev main_c_79 : Ref sig .tc := ⟨.hbm, 830, rfl⟩
abbrev main_v639 : Ref sig .tc := ⟨.hbm, 831, rfl⟩
abbrev main_v640 : Ref sig .tc := ⟨.hbm, 832, rfl⟩
abbrev main_v641 : Ref sig .tc := ⟨.hbm, 833, rfl⟩
abbrev main_v642 : Ref sig .tc := ⟨.hbm, 834, rfl⟩
abbrev main_v643 : Ref sig .tc := ⟨.hbm, 835, rfl⟩
abbrev main_cst_80 : Ref sig .tc := ⟨.hbm, 836, rfl⟩
abbrev main_v644 : Ref sig .tc := ⟨.hbm, 837, rfl⟩
abbrev main_v645 : Ref sig .tc := ⟨.hbm, 838, rfl⟩
abbrev main_v646 : Ref sig .tc := ⟨.hbm, 839, rfl⟩
abbrev main_v647 : Ref sig .tc := ⟨.hbm, 840, rfl⟩
abbrev main_v648 : Ref sig .tc := ⟨.hbm, 841, rfl⟩
abbrev main_v649 : Ref sig .tc := ⟨.hbm, 842, rfl⟩
abbrev main_v650 : Ref sig .tc := ⟨.hbm, 843, rfl⟩
abbrev main_v651 : Ref sig .tc := ⟨.hbm, 844, rfl⟩
abbrev main_v652 : Ref sig .tc := ⟨.hbm, 845, rfl⟩
abbrev main_c_81 : Ref sig .tc := ⟨.hbm, 846, rfl⟩
abbrev main_call22_v0 : Ref sig .tc := ⟨.hbm, 847, rfl⟩
abbrev main_v653 : Ref sig .tc := ⟨.hbm, 848, rfl⟩
abbrev main_cst_82 : Ref sig .tc := ⟨.hbm, 849, rfl⟩
abbrev main_v654 : Ref sig .tc := ⟨.hbm, 850, rfl⟩
abbrev main_v655 : Ref sig .tc := ⟨.hbm, 851, rfl⟩
abbrev main_v656 : Ref sig .tc := ⟨.hbm, 852, rfl⟩
abbrev main_v657 : Ref sig .tc := ⟨.hbm, 853, rfl⟩
abbrev main_v658 : Ref sig .tc := ⟨.hbm, 854, rfl⟩
abbrev main_v659 : Ref sig .tc := ⟨.hbm, 855, rfl⟩
abbrev main_v660 : Ref sig .tc := ⟨.hbm, 856, rfl⟩
abbrev main_v661 : Ref sig .tc := ⟨.hbm, 857, rfl⟩
abbrev main_v662 : Ref sig .tc := ⟨.hbm, 858, rfl⟩
abbrev main_v663 : Ref sig .tc := ⟨.hbm, 859, rfl⟩
abbrev main_v664 : Ref sig .tc := ⟨.hbm, 860, rfl⟩
abbrev main_v665 : Ref sig .tc := ⟨.hbm, 861, rfl⟩
abbrev main_v666 : Ref sig .tc := ⟨.hbm, 862, rfl⟩
abbrev main_v667 : Ref sig .tc := ⟨.hbm, 863, rfl⟩
abbrev main_v668 : Ref sig .tc := ⟨.hbm, 864, rfl⟩
abbrev main_v669 : Ref sig .tc := ⟨.hbm, 865, rfl⟩
abbrev main_v670 : Ref sig .tc := ⟨.hbm, 866, rfl⟩
abbrev main_v671 : Ref sig .tc := ⟨.hbm, 867, rfl⟩
abbrev main_v672 : Ref sig .tc := ⟨.hbm, 868, rfl⟩
abbrev main_v673 : Ref sig .tc := ⟨.hbm, 869, rfl⟩
abbrev main_v674 : Ref sig .tc := ⟨.hbm, 870, rfl⟩
abbrev main_v675 : Ref sig .tc := ⟨.hbm, 871, rfl⟩
abbrev main_v676 : Ref sig .tc := ⟨.hbm, 872, rfl⟩
abbrev main_v677 : Ref sig .tc := ⟨.hbm, 873, rfl⟩
abbrev main_v678 : Ref sig .tc := ⟨.hbm, 874, rfl⟩
abbrev main_v679 : Ref sig .tc := ⟨.hbm, 875, rfl⟩
abbrev main_v680 : Ref sig .tc := ⟨.hbm, 876, rfl⟩
abbrev main_v681 : Ref sig .tc := ⟨.hbm, 877, rfl⟩
abbrev main_v682 : Ref sig .tc := ⟨.hbm, 878, rfl⟩
abbrev main_v683 : Ref sig .tc := ⟨.hbm, 879, rfl⟩
abbrev main_v684 : Ref sig .tc := ⟨.hbm, 880, rfl⟩
abbrev main_v685 : Ref sig .tc := ⟨.hbm, 881, rfl⟩
abbrev main_v686 : Ref sig .tc := ⟨.hbm, 882, rfl⟩
abbrev main_v687 : Ref sig .tc := ⟨.hbm, 883, rfl⟩
abbrev main_v688 : Ref sig .tc := ⟨.hbm, 884, rfl⟩
abbrev main_v689 : Ref sig .tc := ⟨.hbm, 885, rfl⟩
abbrev main_v690 : Ref sig .tc := ⟨.hbm, 886, rfl⟩
abbrev main_v691 : Ref sig .tc := ⟨.hbm, 887, rfl⟩
abbrev main_v692 : Ref sig .tc := ⟨.hbm, 888, rfl⟩
abbrev main_v693 : Ref sig .tc := ⟨.hbm, 889, rfl⟩
abbrev main_v694 : Ref sig .tc := ⟨.hbm, 890, rfl⟩
abbrev main_v695 : Ref sig .tc := ⟨.hbm, 891, rfl⟩
abbrev main_v696 : Ref sig .tc := ⟨.hbm, 892, rfl⟩
abbrev main_v697 : Ref sig .tc := ⟨.hbm, 893, rfl⟩
abbrev main_v698 : Ref sig .tc := ⟨.hbm, 894, rfl⟩
abbrev main_v699 : Ref sig .tc := ⟨.hbm, 895, rfl⟩
abbrev main_v700 : Ref sig .tc := ⟨.hbm, 896, rfl⟩
abbrev main_v701 : Ref sig .tc := ⟨.hbm, 897, rfl⟩
abbrev main_v702 : Ref sig .tc := ⟨.hbm, 898, rfl⟩
abbrev main_v703 : Ref sig .tc := ⟨.hbm, 899, rfl⟩
abbrev main_v704 : Ref sig .tc := ⟨.hbm, 900, rfl⟩
abbrev main_v705 : Ref sig .tc := ⟨.hbm, 901, rfl⟩
abbrev main_v706 : Ref sig .tc := ⟨.hbm, 902, rfl⟩
abbrev main_v707 : Ref sig .tc := ⟨.hbm, 903, rfl⟩
abbrev main_v708 : Ref sig .tc := ⟨.hbm, 904, rfl⟩
abbrev main_v709 : Ref sig .tc := ⟨.hbm, 905, rfl⟩
abbrev main_v710 : Ref sig .tc := ⟨.hbm, 906, rfl⟩
abbrev main_v711 : Ref sig .tc := ⟨.hbm, 907, rfl⟩
abbrev main_cst_83 : Ref sig .tc := ⟨.hbm, 908, rfl⟩
abbrev main_call23_cst : Ref sig .tc := ⟨.hbm, 909, rfl⟩
abbrev main_call23_v0 : Ref sig .tc := ⟨.hbm, 910, rfl⟩
abbrev main_call23_v1 : Ref sig .tc := ⟨.hbm, 911, rfl⟩
abbrev main_call23_v2 : Ref sig .tc := ⟨.hbm, 912, rfl⟩
abbrev main_call23_v3 : Ref sig .tc := ⟨.hbm, 913, rfl⟩
abbrev main_call23_v4 : Ref sig .tc := ⟨.hbm, 914, rfl⟩
abbrev main_v712 : Ref sig .tc := ⟨.hbm, 915, rfl⟩
abbrev main_v713 : Ref sig .tc := ⟨.hbm, 916, rfl⟩
abbrev main_v714 : Ref sig .tc := ⟨.hbm, 917, rfl⟩
abbrev main_v715 : Ref sig .tc := ⟨.hbm, 918, rfl⟩
abbrev main_cst_84 : Ref sig .tc := ⟨.hbm, 919, rfl⟩
abbrev main_v716 : Ref sig .tc := ⟨.hbm, 920, rfl⟩
abbrev main_v717 : Ref sig .tc := ⟨.hbm, 921, rfl⟩
abbrev main_v718 : Ref sig .tc := ⟨.hbm, 922, rfl⟩
abbrev main_v719 : Ref sig .tc := ⟨.hbm, 923, rfl⟩
abbrev main_cst_85 : Ref sig .tc := ⟨.hbm, 924, rfl⟩
abbrev main_v720 : Ref sig .tc := ⟨.hbm, 925, rfl⟩
abbrev main_v721 : Ref sig .tc := ⟨.hbm, 926, rfl⟩
abbrev main_v722 : Ref sig .tc := ⟨.hbm, 927, rfl⟩
abbrev main_v723 : Ref sig .tc := ⟨.hbm, 928, rfl⟩
abbrev main_c_86 : Ref sig .tc := ⟨.hbm, 929, rfl⟩
abbrev main_v724 : Ref sig .tc := ⟨.hbm, 930, rfl⟩
abbrev main_v725 : Ref sig .tc := ⟨.hbm, 931, rfl⟩
abbrev main_c_87 : Ref sig .tc := ⟨.hbm, 932, rfl⟩
abbrev main_c_88 : Ref sig .tc := ⟨.hbm, 933, rfl⟩
abbrev main_call24_v0 : Ref sig .tc := ⟨.hbm, 934, rfl⟩
abbrev main_call24_v1 : Ref sig .tc := ⟨.hbm, 935, rfl⟩
abbrev main_call24_v2 : Ref sig .tc := ⟨.hbm, 936, rfl⟩
abbrev main_call24_v3 : Ref sig .tc := ⟨.hbm, 937, rfl⟩
abbrev main_call24_v4 : Ref sig .tc := ⟨.hbm, 938, rfl⟩
abbrev main_v726 : Ref sig .tc := ⟨.hbm, 939, rfl⟩
abbrev main_v727 : Ref sig .tc := ⟨.hbm, 940, rfl⟩
abbrev main_v728 : Ref sig .tc := ⟨.hbm, 941, rfl⟩
abbrev main_v729 : Ref sig .tc := ⟨.hbm, 942, rfl⟩
abbrev main_v730 : Ref sig .tc := ⟨.hbm, 943, rfl⟩
abbrev main_v731 : Ref sig .tc := ⟨.hbm, 944, rfl⟩
abbrev main_c_89 : Ref sig .tc := ⟨.hbm, 945, rfl⟩
abbrev main_v732 : Ref sig .tc := ⟨.hbm, 946, rfl⟩
abbrev main_v733 : Ref sig .tc := ⟨.hbm, 947, rfl⟩
abbrev main_c_90 : Ref sig .tc := ⟨.hbm, 948, rfl⟩
abbrev main_c_91 : Ref sig .tc := ⟨.hbm, 949, rfl⟩
abbrev main_call25_v0 : Ref sig .tc := ⟨.hbm, 950, rfl⟩
abbrev main_call25_v1 : Ref sig .tc := ⟨.hbm, 951, rfl⟩
abbrev main_call25_v2 : Ref sig .tc := ⟨.hbm, 952, rfl⟩
abbrev main_call25_v3 : Ref sig .tc := ⟨.hbm, 953, rfl⟩
abbrev main_call25_v4 : Ref sig .tc := ⟨.hbm, 954, rfl⟩
abbrev main_v734 : Ref sig .tc := ⟨.hbm, 955, rfl⟩
abbrev main_v735 : Ref sig .tc := ⟨.hbm, 956, rfl⟩
abbrev main_v736 : Ref sig .tc := ⟨.hbm, 957, rfl⟩
abbrev main_v737 : Ref sig .tc := ⟨.hbm, 958, rfl⟩
abbrev main_c_92 : Ref sig .tc := ⟨.hbm, 959, rfl⟩
abbrev main_v738 : Ref sig .tc := ⟨.hbm, 960, rfl⟩
abbrev main_v739 : Ref sig .tc := ⟨.hbm, 961, rfl⟩
abbrev main_c_93 : Ref sig .tc := ⟨.hbm, 962, rfl⟩
abbrev main_v740 : Ref sig .tc := ⟨.hbm, 963, rfl⟩
abbrev main_v741 : Ref sig .tc := ⟨.hbm, 964, rfl⟩
abbrev main_v742 : Ref sig .tc := ⟨.hbm, 965, rfl⟩
abbrev main_v743 : Ref sig .tc := ⟨.hbm, 966, rfl⟩
abbrev main_v744 : Ref sig .tc := ⟨.hbm, 967, rfl⟩
abbrev main_c_94 : Ref sig .tc := ⟨.hbm, 968, rfl⟩
abbrev main_v745 : Ref sig .tc := ⟨.hbm, 969, rfl⟩
abbrev main_v746 : Ref sig .tc := ⟨.hbm, 970, rfl⟩
abbrev main_c_95 : Ref sig .tc := ⟨.hbm, 971, rfl⟩
abbrev main_v747 : Ref sig .tc := ⟨.hbm, 972, rfl⟩
abbrev main_v748 : Ref sig .tc := ⟨.hbm, 973, rfl⟩
abbrev main_v749 : Ref sig .tc := ⟨.hbm, 974, rfl⟩
abbrev main_v750 : Ref sig .tc := ⟨.hbm, 975, rfl⟩
abbrev main_v751 : Ref sig .tc := ⟨.hbm, 976, rfl⟩
abbrev main_cst_96 : Ref sig .tc := ⟨.hbm, 977, rfl⟩
abbrev main_v752 : Ref sig .tc := ⟨.hbm, 978, rfl⟩
abbrev main_v753 : Ref sig .tc := ⟨.hbm, 979, rfl⟩
abbrev main_v754 : Ref sig .tc := ⟨.hbm, 980, rfl⟩
abbrev main_v755 : Ref sig .tc := ⟨.hbm, 981, rfl⟩
abbrev main_v756 : Ref sig .tc := ⟨.hbm, 982, rfl⟩
abbrev main_v757 : Ref sig .tc := ⟨.hbm, 983, rfl⟩
abbrev main_v758 : Ref sig .tc := ⟨.hbm, 984, rfl⟩
abbrev main_v759 : Ref sig .tc := ⟨.hbm, 985, rfl⟩
abbrev main_v760 : Ref sig .tc := ⟨.hbm, 986, rfl⟩
abbrev main_c_97 : Ref sig .tc := ⟨.hbm, 987, rfl⟩
abbrev main_v761 : Ref sig .tc := ⟨.hbm, 988, rfl⟩
abbrev main_v762 : Ref sig .tc := ⟨.hbm, 989, rfl⟩
abbrev main_c_98 : Ref sig .tc := ⟨.hbm, 990, rfl⟩
abbrev main_v763 : Ref sig .tc := ⟨.hbm, 991, rfl⟩
abbrev main_v764 : Ref sig .tc := ⟨.hbm, 992, rfl⟩
abbrev main_v765 : Ref sig .tc := ⟨.hbm, 993, rfl⟩
abbrev main_v766 : Ref sig .tc := ⟨.hbm, 994, rfl⟩
abbrev main_v767 : Ref sig .tc := ⟨.hbm, 995, rfl⟩
abbrev main_c_99 : Ref sig .tc := ⟨.hbm, 996, rfl⟩
abbrev main_v768 : Ref sig .tc := ⟨.hbm, 997, rfl⟩
abbrev main_v769 : Ref sig .tc := ⟨.hbm, 998, rfl⟩
abbrev main_c_100 : Ref sig .tc := ⟨.hbm, 999, rfl⟩
abbrev main_v770 : Ref sig .tc := ⟨.hbm, 1000, rfl⟩
abbrev main_v771 : Ref sig .tc := ⟨.hbm, 1001, rfl⟩
abbrev main_v772 : Ref sig .tc := ⟨.hbm, 1002, rfl⟩
abbrev main_v773 : Ref sig .tc := ⟨.hbm, 1003, rfl⟩
abbrev main_v774 : Ref sig .tc := ⟨.hbm, 1004, rfl⟩
abbrev main_cst_101 : Ref sig .tc := ⟨.hbm, 1005, rfl⟩
abbrev main_v775 : Ref sig .tc := ⟨.hbm, 1006, rfl⟩
abbrev main_v776 : Ref sig .tc := ⟨.hbm, 1007, rfl⟩
abbrev main_v777 : Ref sig .tc := ⟨.hbm, 1008, rfl⟩
abbrev main_v778 : Ref sig .tc := ⟨.hbm, 1009, rfl⟩
abbrev main_v779 : Ref sig .tc := ⟨.hbm, 1010, rfl⟩
abbrev main_v780 : Ref sig .tc := ⟨.hbm, 1011, rfl⟩
abbrev main_v781 : Ref sig .tc := ⟨.hbm, 1012, rfl⟩
abbrev main_v782 : Ref sig .tc := ⟨.hbm, 1013, rfl⟩
abbrev main_v783 : Ref sig .tc := ⟨.hbm, 1014, rfl⟩
abbrev main_c_102 : Ref sig .tc := ⟨.hbm, 1015, rfl⟩
abbrev main_call26_v0 : Ref sig .tc := ⟨.hbm, 1016, rfl⟩
abbrev main_v784 : Ref sig .tc := ⟨.hbm, 1017, rfl⟩
abbrev main_cst_103 : Ref sig .tc := ⟨.hbm, 1018, rfl⟩
abbrev main_v785 : Ref sig .tc := ⟨.hbm, 1019, rfl⟩
abbrev main_v786 : Ref sig .tc := ⟨.hbm, 1020, rfl⟩
abbrev main_v787 : Ref sig .tc := ⟨.hbm, 1021, rfl⟩
abbrev main_v788 : Ref sig .tc := ⟨.hbm, 1022, rfl⟩
abbrev main_v789 : Ref sig .tc := ⟨.hbm, 1023, rfl⟩
abbrev main_v790 : Ref sig .tc := ⟨.hbm, 1024, rfl⟩
abbrev main_v791 : Ref sig .tc := ⟨.hbm, 1025, rfl⟩
abbrev main_v792 : Ref sig .tc := ⟨.hbm, 1026, rfl⟩
abbrev main_v793 : Ref sig .tc := ⟨.hbm, 1027, rfl⟩
abbrev main_v794 : Ref sig .tc := ⟨.hbm, 1028, rfl⟩
abbrev main_v795 : Ref sig .tc := ⟨.hbm, 1029, rfl⟩
abbrev main_v796 : Ref sig .tc := ⟨.hbm, 1030, rfl⟩
abbrev main_v797 : Ref sig .tc := ⟨.hbm, 1031, rfl⟩
abbrev main_v798 : Ref sig .tc := ⟨.hbm, 1032, rfl⟩
abbrev main_v799 : Ref sig .tc := ⟨.hbm, 1033, rfl⟩
abbrev main_v800 : Ref sig .tc := ⟨.hbm, 1034, rfl⟩
abbrev main_v801 : Ref sig .tc := ⟨.hbm, 1035, rfl⟩
abbrev main_v802 : Ref sig .tc := ⟨.hbm, 1036, rfl⟩
abbrev main_v803 : Ref sig .tc := ⟨.hbm, 1037, rfl⟩
abbrev main_v804 : Ref sig .tc := ⟨.hbm, 1038, rfl⟩
abbrev main_v805 : Ref sig .tc := ⟨.hbm, 1039, rfl⟩
abbrev main_v806 : Ref sig .tc := ⟨.hbm, 1040, rfl⟩
abbrev main_v807 : Ref sig .tc := ⟨.hbm, 1041, rfl⟩
abbrev main_v808 : Ref sig .tc := ⟨.hbm, 1042, rfl⟩
abbrev main_v809 : Ref sig .tc := ⟨.hbm, 1043, rfl⟩
abbrev main_v810 : Ref sig .tc := ⟨.hbm, 1044, rfl⟩
abbrev main_v811 : Ref sig .tc := ⟨.hbm, 1045, rfl⟩
abbrev main_v812 : Ref sig .tc := ⟨.hbm, 1046, rfl⟩
abbrev main_v813 : Ref sig .tc := ⟨.hbm, 1047, rfl⟩
abbrev main_v814 : Ref sig .tc := ⟨.hbm, 1048, rfl⟩
abbrev main_v815 : Ref sig .tc := ⟨.hbm, 1049, rfl⟩
abbrev main_v816 : Ref sig .tc := ⟨.hbm, 1050, rfl⟩
abbrev main_v817 : Ref sig .tc := ⟨.hbm, 1051, rfl⟩
abbrev main_v818 : Ref sig .tc := ⟨.hbm, 1052, rfl⟩
abbrev main_v819 : Ref sig .tc := ⟨.hbm, 1053, rfl⟩
abbrev main_v820 : Ref sig .tc := ⟨.hbm, 1054, rfl⟩
abbrev main_v821 : Ref sig .tc := ⟨.hbm, 1055, rfl⟩
abbrev main_v822 : Ref sig .tc := ⟨.hbm, 1056, rfl⟩
abbrev main_v823 : Ref sig .tc := ⟨.hbm, 1057, rfl⟩
abbrev main_v824 : Ref sig .tc := ⟨.hbm, 1058, rfl⟩
abbrev main_v825 : Ref sig .tc := ⟨.hbm, 1059, rfl⟩
abbrev main_v826 : Ref sig .tc := ⟨.hbm, 1060, rfl⟩
abbrev main_v827 : Ref sig .tc := ⟨.hbm, 1061, rfl⟩
abbrev main_v828 : Ref sig .tc := ⟨.hbm, 1062, rfl⟩
abbrev main_v829 : Ref sig .tc := ⟨.hbm, 1063, rfl⟩
abbrev main_v830 : Ref sig .tc := ⟨.hbm, 1064, rfl⟩
abbrev main_v831 : Ref sig .tc := ⟨.hbm, 1065, rfl⟩
abbrev main_v832 : Ref sig .tc := ⟨.hbm, 1066, rfl⟩
abbrev main_v833 : Ref sig .tc := ⟨.hbm, 1067, rfl⟩
abbrev main_v834 : Ref sig .tc := ⟨.hbm, 1068, rfl⟩
abbrev main_v835 : Ref sig .tc := ⟨.hbm, 1069, rfl⟩
abbrev main_v836 : Ref sig .tc := ⟨.hbm, 1070, rfl⟩
abbrev main_v837 : Ref sig .tc := ⟨.hbm, 1071, rfl⟩
abbrev main_v838 : Ref sig .tc := ⟨.hbm, 1072, rfl⟩
abbrev main_v839 : Ref sig .tc := ⟨.hbm, 1073, rfl⟩
abbrev main_v840 : Ref sig .tc := ⟨.hbm, 1074, rfl⟩
abbrev main_v841 : Ref sig .tc := ⟨.hbm, 1075, rfl⟩
abbrev main_v842 : Ref sig .tc := ⟨.hbm, 1076, rfl⟩
abbrev main_cst_104 : Ref sig .tc := ⟨.hbm, 1077, rfl⟩
abbrev main_call27_cst : Ref sig .tc := ⟨.hbm, 1078, rfl⟩
abbrev main_call27_v0 : Ref sig .tc := ⟨.hbm, 1079, rfl⟩
abbrev main_call27_v1 : Ref sig .tc := ⟨.hbm, 1080, rfl⟩
abbrev main_call27_v2 : Ref sig .tc := ⟨.hbm, 1081, rfl⟩
abbrev main_call27_v3 : Ref sig .tc := ⟨.hbm, 1082, rfl⟩
abbrev main_call27_v4 : Ref sig .tc := ⟨.hbm, 1083, rfl⟩
abbrev main_v843 : Ref sig .tc := ⟨.hbm, 1084, rfl⟩
abbrev main_v844 : Ref sig .tc := ⟨.hbm, 1085, rfl⟩
abbrev main_v845 : Ref sig .tc := ⟨.hbm, 1086, rfl⟩
abbrev main_v846 : Ref sig .tc := ⟨.hbm, 1087, rfl⟩
abbrev main_cst_105 : Ref sig .tc := ⟨.hbm, 1088, rfl⟩
abbrev main_v847 : Ref sig .tc := ⟨.hbm, 1089, rfl⟩
abbrev main_v848 : Ref sig .tc := ⟨.hbm, 1090, rfl⟩
abbrev main_v849 : Ref sig .tc := ⟨.hbm, 1091, rfl⟩
abbrev main_v850 : Ref sig .tc := ⟨.hbm, 1092, rfl⟩
abbrev main_cst_106 : Ref sig .tc := ⟨.hbm, 1093, rfl⟩
abbrev main_v851 : Ref sig .tc := ⟨.hbm, 1094, rfl⟩
abbrev main_v852 : Ref sig .tc := ⟨.hbm, 1095, rfl⟩
abbrev main_v853 : Ref sig .tc := ⟨.hbm, 1096, rfl⟩
abbrev main_v854 : Ref sig .tc := ⟨.hbm, 1097, rfl⟩
abbrev main_c_107 : Ref sig .tc := ⟨.hbm, 1098, rfl⟩
abbrev main_v855 : Ref sig .tc := ⟨.hbm, 1099, rfl⟩
abbrev main_v856 : Ref sig .tc := ⟨.hbm, 1100, rfl⟩
abbrev main_c_108 : Ref sig .tc := ⟨.hbm, 1101, rfl⟩
abbrev main_c_109 : Ref sig .tc := ⟨.hbm, 1102, rfl⟩
abbrev main_call28_v0 : Ref sig .tc := ⟨.hbm, 1103, rfl⟩
abbrev main_call28_v1 : Ref sig .tc := ⟨.hbm, 1104, rfl⟩
abbrev main_call28_v2 : Ref sig .tc := ⟨.hbm, 1105, rfl⟩
abbrev main_call28_v3 : Ref sig .tc := ⟨.hbm, 1106, rfl⟩
abbrev main_call28_v4 : Ref sig .tc := ⟨.hbm, 1107, rfl⟩
abbrev main_v857 : Ref sig .tc := ⟨.hbm, 1108, rfl⟩
abbrev main_v858 : Ref sig .tc := ⟨.hbm, 1109, rfl⟩
abbrev main_v859 : Ref sig .tc := ⟨.hbm, 1110, rfl⟩
abbrev main_v860 : Ref sig .tc := ⟨.hbm, 1111, rfl⟩
abbrev main_v861 : Ref sig .tc := ⟨.hbm, 1112, rfl⟩
abbrev main_v862 : Ref sig .tc := ⟨.hbm, 1113, rfl⟩
abbrev main_c_110 : Ref sig .tc := ⟨.hbm, 1114, rfl⟩
abbrev main_v863 : Ref sig .tc := ⟨.hbm, 1115, rfl⟩
abbrev main_v864 : Ref sig .tc := ⟨.hbm, 1116, rfl⟩
abbrev main_c_111 : Ref sig .tc := ⟨.hbm, 1117, rfl⟩
abbrev main_c_112 : Ref sig .tc := ⟨.hbm, 1118, rfl⟩
abbrev main_call29_v0 : Ref sig .tc := ⟨.hbm, 1119, rfl⟩
abbrev main_call29_v1 : Ref sig .tc := ⟨.hbm, 1120, rfl⟩
abbrev main_call29_v2 : Ref sig .tc := ⟨.hbm, 1121, rfl⟩
abbrev main_call29_v3 : Ref sig .tc := ⟨.hbm, 1122, rfl⟩
abbrev main_call29_v4 : Ref sig .tc := ⟨.hbm, 1123, rfl⟩
abbrev main_v865 : Ref sig .tc := ⟨.hbm, 1124, rfl⟩
abbrev main_v866 : Ref sig .tc := ⟨.hbm, 1125, rfl⟩
abbrev main_v867 : Ref sig .tc := ⟨.hbm, 1126, rfl⟩
abbrev main_v868 : Ref sig .tc := ⟨.hbm, 1127, rfl⟩
abbrev main_c_113 : Ref sig .tc := ⟨.hbm, 1128, rfl⟩
abbrev main_v869 : Ref sig .tc := ⟨.hbm, 1129, rfl⟩
abbrev main_v870 : Ref sig .tc := ⟨.hbm, 1130, rfl⟩
abbrev main_c_114 : Ref sig .tc := ⟨.hbm, 1131, rfl⟩
abbrev main_v871 : Ref sig .tc := ⟨.hbm, 1132, rfl⟩
abbrev main_v872 : Ref sig .tc := ⟨.hbm, 1133, rfl⟩
abbrev main_v873 : Ref sig .tc := ⟨.hbm, 1134, rfl⟩
abbrev main_v874 : Ref sig .tc := ⟨.hbm, 1135, rfl⟩
abbrev main_v875 : Ref sig .tc := ⟨.hbm, 1136, rfl⟩
abbrev main_c_115 : Ref sig .tc := ⟨.hbm, 1137, rfl⟩
abbrev main_v876 : Ref sig .tc := ⟨.hbm, 1138, rfl⟩
abbrev main_v877 : Ref sig .tc := ⟨.hbm, 1139, rfl⟩
abbrev main_c_116 : Ref sig .tc := ⟨.hbm, 1140, rfl⟩
abbrev main_v878 : Ref sig .tc := ⟨.hbm, 1141, rfl⟩
abbrev main_v879 : Ref sig .tc := ⟨.hbm, 1142, rfl⟩
abbrev main_v880 : Ref sig .tc := ⟨.hbm, 1143, rfl⟩
abbrev main_v881 : Ref sig .tc := ⟨.hbm, 1144, rfl⟩
abbrev main_v882 : Ref sig .tc := ⟨.hbm, 1145, rfl⟩
abbrev main_cst_117 : Ref sig .tc := ⟨.hbm, 1146, rfl⟩
abbrev main_v883 : Ref sig .tc := ⟨.hbm, 1147, rfl⟩
abbrev main_v884 : Ref sig .tc := ⟨.hbm, 1148, rfl⟩
abbrev main_v885 : Ref sig .tc := ⟨.hbm, 1149, rfl⟩
abbrev main_v886 : Ref sig .tc := ⟨.hbm, 1150, rfl⟩
abbrev main_v887 : Ref sig .tc := ⟨.hbm, 1151, rfl⟩
abbrev main_v888 : Ref sig .tc := ⟨.hbm, 1152, rfl⟩
abbrev main_v889 : Ref sig .tc := ⟨.hbm, 1153, rfl⟩
abbrev main_v890 : Ref sig .tc := ⟨.hbm, 1154, rfl⟩
abbrev main_v891 : Ref sig .tc := ⟨.hbm, 1155, rfl⟩
abbrev main_c_118 : Ref sig .tc := ⟨.hbm, 1156, rfl⟩
abbrev main_v892 : Ref sig .tc := ⟨.hbm, 1157, rfl⟩
abbrev main_v893 : Ref sig .tc := ⟨.hbm, 1158, rfl⟩
abbrev main_c_119 : Ref sig .tc := ⟨.hbm, 1159, rfl⟩
abbrev main_v894 : Ref sig .tc := ⟨.hbm, 1160, rfl⟩
abbrev main_v895 : Ref sig .tc := ⟨.hbm, 1161, rfl⟩
abbrev main_v896 : Ref sig .tc := ⟨.hbm, 1162, rfl⟩
abbrev main_v897 : Ref sig .tc := ⟨.hbm, 1163, rfl⟩
abbrev main_v898 : Ref sig .tc := ⟨.hbm, 1164, rfl⟩
abbrev main_c_120 : Ref sig .tc := ⟨.hbm, 1165, rfl⟩
abbrev main_v899 : Ref sig .tc := ⟨.hbm, 1166, rfl⟩
abbrev main_v900 : Ref sig .tc := ⟨.hbm, 1167, rfl⟩
abbrev main_c_121 : Ref sig .tc := ⟨.hbm, 1168, rfl⟩
abbrev main_v901 : Ref sig .tc := ⟨.hbm, 1169, rfl⟩
abbrev main_v902 : Ref sig .tc := ⟨.hbm, 1170, rfl⟩
abbrev main_v903 : Ref sig .tc := ⟨.hbm, 1171, rfl⟩
abbrev main_v904 : Ref sig .tc := ⟨.hbm, 1172, rfl⟩
abbrev main_v905 : Ref sig .tc := ⟨.hbm, 1173, rfl⟩
abbrev main_cst_122 : Ref sig .tc := ⟨.hbm, 1174, rfl⟩
abbrev main_v906 : Ref sig .tc := ⟨.hbm, 1175, rfl⟩
abbrev main_v907 : Ref sig .tc := ⟨.hbm, 1176, rfl⟩
abbrev main_v908 : Ref sig .tc := ⟨.hbm, 1177, rfl⟩
abbrev main_v909 : Ref sig .tc := ⟨.hbm, 1178, rfl⟩
abbrev main_v910 : Ref sig .tc := ⟨.hbm, 1179, rfl⟩
abbrev main_v911 : Ref sig .tc := ⟨.hbm, 1180, rfl⟩
abbrev main_v912 : Ref sig .tc := ⟨.hbm, 1181, rfl⟩
abbrev main_v913 : Ref sig .tc := ⟨.hbm, 1182, rfl⟩
abbrev main_v914 : Ref sig .tc := ⟨.hbm, 1183, rfl⟩
abbrev main_c_123 : Ref sig .tc := ⟨.hbm, 1184, rfl⟩
abbrev main_call30_v0 : Ref sig .tc := ⟨.hbm, 1185, rfl⟩
abbrev main_v915 : Ref sig .tc := ⟨.hbm, 1186, rfl⟩
abbrev main_cst_124 : Ref sig .tc := ⟨.hbm, 1187, rfl⟩
abbrev main_v916 : Ref sig .tc := ⟨.hbm, 1188, rfl⟩
abbrev main_v917 : Ref sig .tc := ⟨.hbm, 1189, rfl⟩
abbrev main_v918 : Ref sig .tc := ⟨.hbm, 1190, rfl⟩
abbrev main_v919 : Ref sig .tc := ⟨.hbm, 1191, rfl⟩
abbrev main_v920 : Ref sig .tc := ⟨.hbm, 1192, rfl⟩
abbrev main_v921 : Ref sig .tc := ⟨.hbm, 1193, rfl⟩
abbrev main_v922 : Ref sig .tc := ⟨.hbm, 1194, rfl⟩
abbrev main_v923 : Ref sig .tc := ⟨.hbm, 1195, rfl⟩
abbrev main_v924 : Ref sig .tc := ⟨.hbm, 1196, rfl⟩
abbrev main_v925 : Ref sig .tc := ⟨.hbm, 1197, rfl⟩
abbrev main_v926 : Ref sig .tc := ⟨.hbm, 1198, rfl⟩
abbrev main_v927 : Ref sig .tc := ⟨.hbm, 1199, rfl⟩
abbrev main_v928 : Ref sig .tc := ⟨.hbm, 1200, rfl⟩
abbrev main_v929 : Ref sig .tc := ⟨.hbm, 1201, rfl⟩
abbrev main_v930 : Ref sig .tc := ⟨.hbm, 1202, rfl⟩
abbrev main_v931 : Ref sig .tc := ⟨.hbm, 1203, rfl⟩
abbrev main_v932 : Ref sig .tc := ⟨.hbm, 1204, rfl⟩
abbrev main_v933 : Ref sig .tc := ⟨.hbm, 1205, rfl⟩
abbrev main_v934 : Ref sig .tc := ⟨.hbm, 1206, rfl⟩
abbrev main_v935 : Ref sig .tc := ⟨.hbm, 1207, rfl⟩
abbrev main_v936 : Ref sig .tc := ⟨.hbm, 1208, rfl⟩
abbrev main_v937 : Ref sig .tc := ⟨.hbm, 1209, rfl⟩
abbrev main_v938 : Ref sig .tc := ⟨.hbm, 1210, rfl⟩
abbrev main_v939 : Ref sig .tc := ⟨.hbm, 1211, rfl⟩
abbrev main_v940 : Ref sig .tc := ⟨.hbm, 1212, rfl⟩
abbrev main_v941 : Ref sig .tc := ⟨.hbm, 1213, rfl⟩
abbrev main_v942 : Ref sig .tc := ⟨.hbm, 1214, rfl⟩
abbrev main_v943 : Ref sig .tc := ⟨.hbm, 1215, rfl⟩
abbrev main_v944 : Ref sig .tc := ⟨.hbm, 1216, rfl⟩
abbrev main_v945 : Ref sig .tc := ⟨.hbm, 1217, rfl⟩
abbrev main_v946 : Ref sig .tc := ⟨.hbm, 1218, rfl⟩
abbrev main_v947 : Ref sig .tc := ⟨.hbm, 1219, rfl⟩
abbrev main_v948 : Ref sig .tc := ⟨.hbm, 1220, rfl⟩
abbrev main_v949 : Ref sig .tc := ⟨.hbm, 1221, rfl⟩
abbrev main_v950 : Ref sig .tc := ⟨.hbm, 1222, rfl⟩
abbrev main_v951 : Ref sig .tc := ⟨.hbm, 1223, rfl⟩
abbrev main_v952 : Ref sig .tc := ⟨.hbm, 1224, rfl⟩
abbrev main_v953 : Ref sig .tc := ⟨.hbm, 1225, rfl⟩
abbrev main_v954 : Ref sig .tc := ⟨.hbm, 1226, rfl⟩
abbrev main_v955 : Ref sig .tc := ⟨.hbm, 1227, rfl⟩
abbrev main_v956 : Ref sig .tc := ⟨.hbm, 1228, rfl⟩
abbrev main_v957 : Ref sig .tc := ⟨.hbm, 1229, rfl⟩
abbrev main_v958 : Ref sig .tc := ⟨.hbm, 1230, rfl⟩
abbrev main_v959 : Ref sig .tc := ⟨.hbm, 1231, rfl⟩
abbrev main_v960 : Ref sig .tc := ⟨.hbm, 1232, rfl⟩
abbrev main_v961 : Ref sig .tc := ⟨.hbm, 1233, rfl⟩
abbrev main_v962 : Ref sig .tc := ⟨.hbm, 1234, rfl⟩
abbrev main_v963 : Ref sig .tc := ⟨.hbm, 1235, rfl⟩
abbrev main_v964 : Ref sig .tc := ⟨.hbm, 1236, rfl⟩
abbrev main_v965 : Ref sig .tc := ⟨.hbm, 1237, rfl⟩
abbrev main_v966 : Ref sig .tc := ⟨.hbm, 1238, rfl⟩
abbrev main_v967 : Ref sig .tc := ⟨.hbm, 1239, rfl⟩
abbrev main_v968 : Ref sig .tc := ⟨.hbm, 1240, rfl⟩
abbrev main_v969 : Ref sig .tc := ⟨.hbm, 1241, rfl⟩
abbrev main_v970 : Ref sig .tc := ⟨.hbm, 1242, rfl⟩
abbrev main_v971 : Ref sig .tc := ⟨.hbm, 1243, rfl⟩
abbrev main_v972 : Ref sig .tc := ⟨.hbm, 1244, rfl⟩
abbrev main_v973 : Ref sig .tc := ⟨.hbm, 1245, rfl⟩
abbrev main_cst_125 : Ref sig .tc := ⟨.hbm, 1246, rfl⟩
abbrev main_v974 : Ref sig .tc := ⟨.hbm, 1247, rfl⟩
abbrev main_cst_126 : Ref sig .tc := ⟨.hbm, 1248, rfl⟩
abbrev main_v975 : Ref sig .tc := ⟨.hbm, 1249, rfl⟩
abbrev main_v976 : Ref sig .tc := ⟨.hbm, 1250, rfl⟩
abbrev main_v977 : Ref sig .tc := ⟨.hbm, 1251, rfl⟩
abbrev main_v978 : Ref sig .tc := ⟨.hbm, 1252, rfl⟩
abbrev main_v979 : Ref sig .tc := ⟨.hbm, 1253, rfl⟩
abbrev main_v980 : Ref sig .tc := ⟨.hbm, 1254, rfl⟩
abbrev main_cst_127 : Ref sig .tc := ⟨.hbm, 1255, rfl⟩
abbrev main_v981 : Ref sig .tc := ⟨.hbm, 1256, rfl⟩
abbrev main_v982 : Ref sig .tc := ⟨.hbm, 1257, rfl⟩
abbrev main_v983 : Ref sig .tc := ⟨.hbm, 1258, rfl⟩
abbrev main_v984 : Ref sig .tc := ⟨.hbm, 1259, rfl⟩

abbrev nD : Nat := 1
abbrev τ : Topo := Topo.v7x

variable {F : FTy → Type} [FloatOps F]
-- ==== Proof.KernelRun.lean ====
/-
  The run of the kernel's ideal program, read at every buffer that outlives it: what the segments leave.
-/
module

public import proofs.«01_k».proof.Proof.Gen.KernelIdeal.Frame
public import Idealize.ShloMosaic.PureOps.Ideal

@[expose] public section

set_option maxRecDepth 16384

noncomputable section

namespace Unet.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends with the result array at the contents the fold over the segments gives it. -/
theorem result : θ_run (defs (F := Ideal)) (onTc (τ := τ) (main (F := Ideal))) ⟨m, fun _ => 0, ρ⟩ (fun r => ∀ c : Dev nD,
      r.2.mem ((c.tc : Thread nD τ).loc main_v52) = W42 m ρ c main_v52) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W42 m ρ c b)
    (hfin := fun c s' => by
      iintro ⟨⟨Hh, -⟩, HSI⟩
      unfold StableHlo.held
      imodintro
      iapply (pointsTo_read_all (Pipeline.ucRefs τ sig) (fun b => (((c : Thread nD τ)).1, b)) (W42 m ρ c) s')
      isplitl [Hh] <;> iassumption)
    (hQ := fun s h _ c => h c _ (mem_uc main_v52 (by decide)))

end Unet.Run
-- ==== Proof.Spec.lean ====
/-
  The mathematics of the network's stages, on images with natural-number coordinates and extended-real values: the
  three-by-three convolution, the leaky rectifier, the two-by-two maximum, the bilinear doubling and the softmax of two
  channels. Both programs are read against these functions.
-/
module

public import Idealize.ShloMosaic.PureOps.Ideal
public import Idealize.ShloMosaic.Lib.Pointwise.Index

@[expose] public section

noncomputable section

namespace Unet

open Idealize.ShloMosaic

/-- An image: a value at every pair of natural coordinates. -/
abbrev Img := ℕ → ℕ → EReal

/-- Channel `c` of member `n` of a batch of images, as an image that is zero outside the array. -/
def img {N C H W : ℕ} (X : (⟨4, ![N, C, H, W]⟩ : Shape).Idx → EReal) (n : Fin N) (c : Fin C) : Img :=
  fun i j => if h : i < H ∧ j < W then X (ix4 n c ⟨i, h.1⟩ ⟨j, h.2⟩) else 0

/-- Channel `c` of a stack of images, as an image that is zero outside the array. -/
def img3 {C H W : ℕ} (X : (⟨3, ![C, H, W]⟩ : Shape).Idx → EReal) (c : Fin C) : Img :=
  fun i j => if h : i < H ∧ j < W then X (ix3 c ⟨i, h.1⟩ ⟨j, h.2⟩) else 0

/-- Inside the array the image of a batch is the array's element. -/
theorem img_of {N C H W : ℕ} (X : (⟨4, ![N, C, H, W]⟩ : Shape).Idx → EReal) (n : Fin N) (c : Fin C) {i j : ℕ}
    (hi : i < H) (hj : j < W) : img X n c i j = X (ix4 n c ⟨i, hi⟩ ⟨j, hj⟩) := dif_pos ⟨hi, hj⟩

/-- Inside the array the image of a stack is the array's element. -/
theorem img3_of {C H W : ℕ} (X : (⟨3, ![C, H, W]⟩ : Shape).Idx → EReal) (c : Fin C) {i j : ℕ}
    (hi : i < H) (hj : j < W) : img3 X c i j = X (ix3 c ⟨i, hi⟩ ⟨j, hj⟩) := dif_pos ⟨hi, hj⟩

/-- The sum of nine terms in the order in which both programs add them. -/
def sum9 (f : Fin 9 → EReal) : EReal := f 0 + f 1 + f 2 + f 3 + f 4 + f 5 + f 6 + f 7 + f 8

/-- The three-by-three convolution of the images `x` with the weights `w` (tap `t` is row `t / 3`, column `t % 3`) plus
    the bias `b`, at output channel `o`. -/
def conv {O C : ℕ} (w : Fin 9 → Fin O → Fin C → EReal) (b : Fin O → EReal) (x : Fin C → Img) (o : Fin O) : Img :=
  fun i j => sum9 (fun t => ∑ c : Fin C, w t o c * x c (i + t.val / 3) (j + t.val % 3)) + b o

/-- The one-by-one convolution. -/
def conv1 {O C : ℕ} (w : Fin O → Fin C → EReal) (b : Fin O → EReal) (x : Fin C → Img) (o : Fin O) : Img :=
  fun i j => (∑ c : Fin C, w o c * x c i j) + b o

/-- The slope of the rectifier below zero, as both programs spell it. -/
def slope : EReal := Ideal.ofBits .f32 0x3C23D70A#32

/-- The leaky rectifier. -/
def leaky (y : EReal) : EReal := if 0 < y then y else y * slope

/-- The maximum over two-by-two squares. -/
def pool (y : Img) : Img := fun i j =>
  max (max (y (2 * i) (2 * j)) (y (2 * i + 1) (2 * j))) (max (y (2 * i) (2 * j + 1)) (y (2 * i + 1) (2 * j + 1)))

/-- One encoder stage: convolution, rectifier, pooling. -/
def enc {O C : ℕ} (w : Fin 9 → Fin O → Fin C → EReal) (b : Fin O → EReal) (x : Fin C → Img) (o : Fin O) : Img :=
  pool fun i j => leaky (conv w b x o i j)

/-- Where row `i` of the doubled image falls between the rows of the source, for the step `c`. -/
def pos (c : ℝ) (i : ℕ) : ℝ := i * c

/-- The source row at or below it. -/
def lo (c : ℝ) (i : ℕ) : ℕ := ⌊pos c i⌋₊

/-- The next source row, held at the last of `h` rows. -/
def hi (h : ℕ) (c : ℝ) (i : ℕ) : ℕ := min (lo c i + 1) (h - 1)

/-- The weight of the next row. -/
def frac (c : ℝ) (i : ℕ) : ℝ := pos c i - lo c i

/-- Linear interpolation of a sequence of `h` values at row `i` of the doubled image. -/
def lerp (h : ℕ) (c : ℝ) (f : ℕ → EReal) (i : ℕ) : EReal :=
  f (lo c i) * ((1 - frac c i : ℝ) : EReal) + f (hi h c i) * ((frac c i : ℝ) : EReal)

/-- The doubled image: rows first, then columns. -/
def up (h : ℕ) (c : ℝ) (x : Img) : Img := fun i j => lerp h c (fun s => lerp h c (fun r => x r s) i) j

/-- One decoder stage: convolution, rectifier, the skip connection `s`, doubling. -/
def dec {O C : ℕ} (h : ℕ) (c : ℝ) (w : Fin 9 → Fin O → Fin C → EReal) (b : Fin O → EReal) (x : Fin C → Img)
    (s : Fin O → Img) (o : Fin O) : Img := up h c fun i j => leaky (conv w b x o i j) + s o i j

/-- The bottom stage: the deepest encoder images plus the rectified one-by-one convolution of the features, doubled. -/
def bot {O C : ℕ} (h : ℕ) (c : ℝ) (w : Fin O → Fin C → EReal) (b : Fin O → EReal) (x : Fin C → Img)
    (s : Fin O → Img) (o : Fin O) : Img := up h c fun i j => s o i j + leaky (conv1 w b x o i j)

/-- The encoder stage of a batch of padded images, as an array. -/
def encArr {N C HP WP : ℕ} (O H W : ℕ) (w : Fin 9 → Fin O → Fin C → EReal) (b : Fin O → EReal)
    (X : (⟨4, ![N, C, HP, WP]⟩ : Shape).Idx → EReal) : (⟨4, ![N, O, H, W]⟩ : Shape).Idx → EReal :=
  fun y => enc w b (img X (y 0)) (y 1) (y 2).val (y 3).val

/-- The decoder stage of a batch of padded images and skip connections, as an array. -/
def decArr {N C HP WP H W : ℕ} (O M h : ℕ) (c : ℝ) (w : Fin 9 → Fin O → Fin C → EReal) (b : Fin O → EReal)
    (X : (⟨4, ![N, C, HP, WP]⟩ : Shape).Idx → EReal) (S : (⟨4, ![N, O, H, W]⟩ : Shape).Idx → EReal) :
    (⟨4, ![N, O, M, M]⟩ : Shape).Idx → EReal :=
  fun y => dec h c w b (img X (y 0)) (img S (y 0)) (y 1) (y 2).val (y 3).val

/-- The bottom stage of a batch, as an array. -/
def botArr {N C H W : ℕ} (O M h : ℕ) (c : ℝ) (w : Fin O → Fin C → EReal) (b : Fin O → EReal)
    (X : (⟨4, ![N, C, H, W]⟩ : Shape).Idx → EReal) (S : (⟨4, ![N, O, H, W]⟩ : Shape).Idx → EReal) :
    (⟨4, ![N, O, M, M]⟩ : Shape).Idx → EReal :=
  fun y => bot h c w b (img X (y 0)) (img S (y 0)) (y 1) (y 2).val (y 3).val

/-- The softmax of two values, at the value `a` of the two. -/
def soft (a x y : EReal) : EReal :=
  Ideal.div (Ideal.exp (a - max x y)) (Ideal.exp (x - max x y) + Ideal.exp (y - max x y))

/-- The final stage of a batch: the convolution to two channels and their softmax. -/
def finArr {N C HP WP : ℕ} (H W : ℕ) (w : Fin 9 → Fin 2 → Fin C → EReal) (b : Fin 2 → EReal)
    (X : (⟨4, ![N, C, HP, WP]⟩ : Shape).Idx → EReal) : (⟨4, ![N, 2, H, W]⟩ : Shape).Idx → EReal :=
  fun y => soft (conv w b (img X (y 0)) (y 1) (y 2).val (y 3).val) (conv w b (img X (y 0)) 0 (y 2).val (y 3).val)
    (conv w b (img X (y 0)) 1 (y 2).val (y 3).val)

end Unet
-- ==== Proof.Interp.lean ====
/-
  The row positions of the bilinear doubling: bounds on them, and a sum against the two interpolation weights.
-/
module

public import proofs.«01_k».proof.Proof.Spec
public import Idealize.ShloMosaic.Lib.IdealHost

@[expose] public section

noncomputable section

namespace Unet

open Idealize.ShloMosaic

/-- What a step of the doubling of `h` rows has to satisfy: the positions of the `2 h` rows are between `0` and `h`. -/
structure Step (h : ℕ) (c : ℝ) : Prop where
  pos : 0 < h
  small : h < 2 ^ 20
  nonneg : 0 ≤ c
  last : (2 * h - 1) * c < h

section
variable {h : ℕ} {c : ℝ} (hs : Step h c)
include hs

/-- Positions are not negative. -/
theorem Step.pos_nonneg (i : ℕ) : 0 ≤ Unet.pos c i := mul_nonneg (Nat.cast_nonneg i) hs.nonneg

/-- Positions are below the number of rows. -/
theorem Step.pos_lt {i : ℕ} (hi : i < 2 * h) : Unet.pos c i < h := by
  refine lt_of_le_of_lt (mul_le_mul_of_nonneg_right ?_ hs.nonneg) hs.last
  have : (i : ℝ) + 1 ≤ 2 * h := by exact_mod_cast hi
  linarith

/-- The integer part of a position. -/
theorem Step.floor_pos (i : ℕ) : ⌊Unet.pos c i⌋ = (lo c i : ℤ) :=
  (Int.natCast_floor_eq_floor (hs.pos_nonneg i)).symm

/-- The row below a position is a row. -/
theorem Step.lo_lt {i : ℕ} (hi : i < 2 * h) : lo c i < h :=
  (Nat.floor_lt (hs.pos_nonneg i)).2 (hs.pos_lt hi)

/-- The row above a position is a row. -/
theorem Step.hi_lt (i : ℕ) : hi h c i < h := by
  have := hs.pos
  unfold hi; omega

/-- The weight of the next row is not negative. -/
theorem Step.frac_nonneg (i : ℕ) : 0 ≤ frac c i :=
  sub_nonneg.2 (Nat.floor_le (hs.pos_nonneg i))

/-- The weight of the next row is at most one. -/
theorem Step.frac_le (i : ℕ) : frac c i ≤ 1 := by
  have := (Nat.lt_floor_add_one (Unet.pos c i)).le
  unfold frac lo; linarith

/-- The doubling depends on the rows and columns of the source alone. -/
theorem up_congr {N : ℕ} (hN : N = 2 * h) {x y : Img} (hxy : ∀ i j, i < h → j < h → x i j = y i j) {i j : ℕ} (hi : i < N)
    (hj : j < N) : up h c x i j = up h c y i j := by
  subst hN
  unfold up lerp
  beta_reduce
  rw [hxy _ _ (hs.lo_lt hi) (hs.lo_lt hj), hxy _ _ (hs.hi_lt i) (hs.lo_lt hj), hxy _ _ (hs.lo_lt hi) (hs.hi_lt j),
    hxy _ _ (hs.hi_lt i) (hs.hi_lt j)]

end

/-- A sum against two weights that sit at two rows. -/
theorem sum_two {h p q : ℕ} (hp : p < h) (hq : q < h) {a b : ℝ} (ha : 0 ≤ a) (hb : 0 ≤ b) (f : ℕ → EReal) :
    ∑ x : Fin h, f x * ((if x.val = p then (a : EReal) else 0) + (if x.val = q then (b : EReal) else 0))
      = f p * a + f q * b := by
  have key : ∀ x : Fin h, f x * ((if x.val = p then (a : EReal) else 0) + (if x.val = q then (b : EReal) else 0))
      = (if x = ⟨p, hp⟩ then f p * a else 0) + (if x = ⟨q, hq⟩ then f q * b else 0) := fun x => by
    by_cases h1 : x.val = p <;> by_cases h2 : x.val = q
    · rw [if_pos h1, if_pos h2, if_pos (Fin.ext h1), if_pos (Fin.ext h2),
        EReal.left_distrib_of_nonneg (EReal.coe_nonneg.2 ha) (EReal.coe_nonneg.2 hb), ← h1, h2, ← h2]
    · rw [if_pos h1, if_neg h2, if_pos (Fin.ext h1), if_neg fun e => h2 (congrArg Fin.val e), add_zero, add_zero, h1]
    · rw [if_neg h1, if_pos h2, if_neg (fun e => h1 (congrArg Fin.val e)), if_pos (Fin.ext h2), zero_add, zero_add, h2]
    · rw [if_neg h1, if_neg h2, if_neg (fun e => h1 (congrArg Fin.val e)), if_neg fun e => h2 (congrArg Fin.val e),
        add_zero, mul_zero]
  rw [Finset.sum_congr rfl fun x _ => key x, Finset.sum_add_distrib]
  simp

/-! ## The five steps, and the number of the last row, as the programs' words spell them -/

/-- The step of the doubling of 16 rows. -/
def step16 : ℝ := 16236015 / 33554432

/-- Its word. -/
theorem word16 : Ideal.ofBits .f32 0x3EF7BDEF#32 = (step16 : EReal) := by
  simp [Ideal.ofBits, Ideal.ieee, -EReal.coe_mul, step16]; norm_num

/-- The word of the last row's number. -/
theorem last16 : Ideal.ofBits .f32 0x41700000#32 = ((16 - 1 : ℕ) : ℝ) := by
  simp [Ideal.ofBits, Ideal.ieee, -EReal.coe_mul]; norm_num

/-- The positions it gives are between the rows. -/
theorem ok16 : Step 16 step16 := ⟨by norm_num, by norm_num, by norm_num [step16], by norm_num [step16]⟩

/-- The step of the doubling of 32 rows. -/
def step32 : ℝ := 16510911 / 33554432

/-- Its word. -/
theorem word32 : Ideal.ofBits .f32 0x3EFBEFBF#32 = (step32 : EReal) := by
  simp [Ideal.ofBits, Ideal.ieee, -EReal.coe_mul, step32]; norm_num

/-- The word of the last row's number. -/
theorem last32 : Ideal.ofBits .f32 0x41F80000#32 = ((32 - 1 : ℕ) : ℝ) := by
  simp [Ideal.ofBits, Ideal.ieee, -EReal.coe_mul]; norm_num

/-- The positions it gives are between the rows. -/
theorem ok32 : Step 32 step32 := ⟨by norm_num, by norm_num, by norm_num [step32], by norm_num [step32]⟩

/-- The step of the doubling of 64 rows. -/
def step64 : ℝ := 16645112 / 33554432

/-- Its word. -/
theorem word64 : Ideal.ofBits .f32 0x3EFDFBF8#32 = (step64 : EReal) := by
  simp [Ideal.ofBits, Ideal.ieee, -EReal.coe_mul, step64]; norm_num

/-- The word of the last row's number. -/
theorem last64 : Ideal.ofBits .f32 0x427C0000#32 = ((64 - 1 : ℕ) : ℝ) := by
  simp [Ideal.ofBits, Ideal.ieee, -EReal.coe_mul]; norm_num

/-- The positions it gives are between the rows. -/
theorem ok64 : Step 64 step64 := ⟨by norm_num, by norm_num, by norm_num [step64], by norm_num [step64]⟩

/-- The step of the doubling of 128 rows. -/
def step128 : ℝ := 16711423 / 33554432

/-- Its word. -/
theorem word128 : Ideal.ofBits .f32 0x3EFEFEFF#32 = (step128 : EReal) := by
  simp [Ideal.ofBits, Ideal.ieee, -EReal.coe_mul, step128]; norm_num

/-- The word of the last row's number. -/
theorem last128 : Ideal.ofBits .f32 0x42FE0000#32 = ((128 - 1 : ℕ) : ℝ) := by
  simp [Ideal.ofBits, Ideal.ieee, -EReal.coe_mul]; norm_num

/-- The positions it gives are between the rows. -/
theorem ok128 : Step 128 step128 := ⟨by norm_num, by norm_num, by norm_num [step128], by norm_num [step128]⟩

/-- The step of the doubling of 256 rows. -/
def step256 : ℝ := 16744384 / 33554432

/-- Its word. -/
theorem word256 : Ideal.ofBits .f32 0x3EFF7FC0#32 = (step256 : EReal) := by
  simp [Ideal.ofBits, Ideal.ieee, -EReal.coe_mul, step256]; norm_num

/-- The word of the last row's number. -/
theorem last256 : Ideal.ofBits .f32 0x437F0000#32 = ((256 - 1 : ℕ) : ℝ) := by
  simp [Ideal.ofBits, Ideal.ieee, -EReal.coe_mul]; norm_num

/-- The positions it gives are between the rows. -/
theorem ok256 : Step 256 step256 := ⟨by norm_num, by norm_num, by norm_num [step256], by norm_num [step256]⟩

end Unet
-- ==== Proof.Net.lean ====
/-
  The whole network as one function of its arguments: the encoder stages, the bottom stage, the decoder stages with their
  skip connections, and the final stage, each on the padded result of the stage before.
-/
module

public import proofs.«01_k».proof.Proof.Interp

@[expose] public section

noncomputable section

namespace Unet

open Idealize.ShloMosaic

/-- The arrays the network is given: the input, the features, and the weights and bias of every convolution. -/
structure Args where
  x : (⟨4, ![4, 3, 512, 512]⟩ : Shape).Idx → EReal
  fmap : (⟨4, ![4, 512, 16, 16]⟩ : Shape).Idx → EReal
  W1 : (⟨4, ![8, 3, 3, 3]⟩ : Shape).Idx → EReal
  b1 : (⟨1, ![8]⟩ : Shape).Idx → EReal
  W2 : (⟨4, ![16, 8, 3, 3]⟩ : Shape).Idx → EReal
  b2 : (⟨1, ![16]⟩ : Shape).Idx → EReal
  W3 : (⟨4, ![32, 16, 3, 3]⟩ : Shape).Idx → EReal
  b3 : (⟨1, ![32]⟩ : Shape).Idx → EReal
  W4 : (⟨4, ![64, 32, 3, 3]⟩ : Shape).Idx → EReal
  b4 : (⟨1, ![64]⟩ : Shape).Idx → EReal
  W5 : (⟨4, ![128, 64, 3, 3]⟩ : Shape).Idx → EReal
  b5 : (⟨1, ![128]⟩ : Shape).Idx → EReal
  W6 : (⟨4, ![128, 512, 1, 1]⟩ : Shape).Idx → EReal
  b6 : (⟨1, ![128]⟩ : Shape).Idx → EReal
  U5 : (⟨4, ![64, 128, 3, 3]⟩ : Shape).Idx → EReal
  c5 : (⟨1, ![64]⟩ : Shape).Idx → EReal
  U4 : (⟨4, ![32, 64, 3, 3]⟩ : Shape).Idx → EReal
  c4 : (⟨1, ![32]⟩ : Shape).Idx → EReal
  U3 : (⟨4, ![16, 32, 3, 3]⟩ : Shape).Idx → EReal
  c3 : (⟨1, ![16]⟩ : Shape).Idx → EReal
  U2 : (⟨4, ![8, 16, 3, 3]⟩ : Shape).Idx → EReal
  c2 : (⟨1, ![8]⟩ : Shape).Idx → EReal
  U1 : (⟨4, ![2, 8, 3, 3]⟩ : Shape).Idx → EReal
  c1 : (⟨1, ![2]⟩ : Shape).Idx → EReal

/-- The three-by-three weights by tap: tap `t` is row `t / 3`, column `t % 3`. -/
def taps {O C : ℕ} (W : (⟨4, ![O, C, 3, 3]⟩ : Shape).Idx → EReal) : Fin 9 → Fin O → Fin C → EReal :=
  fun t o c => W (ix4 o c ⟨t.val / 3, by omega⟩ ⟨t.val % 3, by omega⟩)

/-- A vector of biases as a function of the channel. -/
def bias {O : ℕ} (b : (⟨1, ![O]⟩ : Shape).Idx → EReal) : Fin O → EReal := fun o => b (ix1 o)

/-- A batch of images with a border of width one around each, as both programs spell it. -/
def padded {N C H W : ℕ} (HP WP : ℕ)
    (h : (⟨4, ![N, C, H, W]⟩ : Shape).Pads ![0, 0, 1, 1] ![0, 0, 1, 1] ![0, 0, 0, 0] ⟨4, ![N, C, HP, WP]⟩)
    (x : (⟨4, ![N, C, H, W]⟩ : Shape).Idx → EReal) : (⟨4, ![N, C, HP, WP]⟩ : Shape).Idx → EReal :=
  pad ⟨4, ![N, C, HP, WP]⟩ ![0, 0, 1, 1] ![0, 0, 1, 1] ![0, 0, 0, 0] x
    (sitofp (F := Ideal) .f32 (constantI ⟨0, ![]⟩ 32 0#32)) h (by decide)

variable (A : Args)

/-- Encoder stage 1. -/
def y2 : (⟨4, ![4, 8, 256, 256]⟩ : Shape).Idx → EReal :=
  encArr 8 256 256 (taps A.W1) (bias A.b1) (padded 514 514 (by decide) A.x)

/-- Encoder stage 2. -/
def y4 : (⟨4, ![4, 16, 128, 128]⟩ : Shape).Idx → EReal :=
  encArr 16 128 128 (taps A.W2) (bias A.b2) (padded 258 258 (by decide) (y2 A))

/-- Encoder stage 3. -/
def y8 : (⟨4, ![4, 32, 64, 64]⟩ : Shape).Idx → EReal :=
  encArr 32 64 64 (taps A.W3) (bias A.b3) (padded 130 130 (by decide) (y4 A))

/-- Encoder stage 4. -/
def y16 : (⟨4, ![4, 64, 32, 32]⟩ : Shape).Idx → EReal :=
  encArr 64 32 32 (taps A.W4) (bias A.b4) (padded 66 66 (by decide) (y8 A))

/-- Encoder stage 5. -/
def e5 : (⟨4, ![4, 128, 16, 16]⟩ : Shape).Idx → EReal :=
  encArr 128 16 16 (taps A.W5) (bias A.b5) (padded 34 34 (by decide) (y16 A))

/-- The bottom stage. -/
def d5 : (⟨4, ![4, 128, 32, 32]⟩ : Shape).Idx → EReal :=
  botArr 128 32 16 step16 (fun o c => A.W6 (ix4 o c 0 0)) (bias A.b6) A.fmap (e5 A)

/-- The decoder stage with weights `U5`. -/
def d4 : (⟨4, ![4, 64, 64, 64]⟩ : Shape).Idx → EReal :=
  decArr 64 64 32 step32 (taps A.U5) (bias A.c5) (padded 34 34 (by decide) (d5 A)) (y16 A)

/-- The decoder stage with weights `U4`. -/
def d3 : (⟨4, ![4, 32, 128, 128]⟩ : Shape).Idx → EReal :=
  decArr 32 128 64 step64 (taps A.U4) (bias A.c4) (padded 66 66 (by decide) (d4 A)) (y8 A)

/-- The decoder stage with weights `U3`. -/
def d2 : (⟨4, ![4, 16, 256, 256]⟩ : Shape).Idx → EReal :=
  decArr 16 256 128 step128 (taps A.U3) (bias A.c3) (padded 130 130 (by decide) (d3 A)) (y4 A)

/-- The decoder stage with weights `U2`. -/
def d1 : (⟨4, ![4, 8, 512, 512]⟩ : Shape).Idx → EReal :=
  decArr 8 512 256 step256 (taps A.U2) (bias A.c2) (padded 258 258 (by decide) (d2 A)) (y2 A)

/-- The network: the final stage. -/
def net : (⟨4, ![4, 2, 512, 512]⟩ : Shape).Idx → EReal :=
  finArr 512 512 (taps A.U1) (bias A.c1) (padded 514 514 (by decide) (d1 A))

end Unet
-- ==== Proof.KernelHost.lean ====
/-
  The host operations around the kernel's pipelined calls: padding, and the reordering of weights and biases.
-/
module

public import proofs.«01_k».proof.Proof.Net
public import proofs.«01_k».proof.Proof.Gen.KernelIdeal.Frame.Fold0
public import Idealize.ShloMosaic.Lib.Pointwise
public import Idealize.ShloMosaic.Lib.Pointwise.IndexVar

@[expose] public section

set_option maxRecDepth 16384

noncomputable section

namespace Unet

open Idealize.ShloMosaic Idealize.ShloMosaic.TcCoe

/-- Weights with the two tap axes brought to the front and flattened, read at a tap. -/
theorem flat_taps {O C : ℕ} (W : (⟨4, ![O, C, 3, 3]⟩ : Shape).Idx → EReal)
    (ht : (⟨4, ![O, C, 3, 3]⟩ : Shape).Transposes [2, 3, 0, 1] ⟨4, ![3, 3, O, C]⟩)
    (hc : (⟨4, ![3, 3, O, C]⟩ : Shape).ShapeCasts ⟨3, ![9, O, C]⟩) (t : Fin 9) (o : Fin O) (c : Fin C) :
    shapeCast ⟨3, ![9, O, C]⟩ (transpose ⟨4, ![3, 3, O, C]⟩ [2, 3, 0, 1] W ht) hc (ix3 t o c) = taps W t o c := by
  have e : shapeCast ⟨3, ![9, O, C]⟩ (transpose ⟨4, ![3, 3, O, C]⟩ [2, 3, 0, 1] W ht) hc (ix3 t o c)
      = transpose ⟨4, ![3, 3, O, C]⟩ [2, 3, 0, 1] W ht (ix4 ⟨t.val / 3, by omega⟩ ⟨t.val % 3, by omega⟩ o c) := by
    refine congrArg _ (Shape.reshapeEquiv_eq_of_rowMajor hc ?_)
    rw [Shape.rowMajor_val_four, Shape.rowMajor_val_three]
    show (((t.val / 3) * 3 + t.val % 3) * O + o.val) * C + c.val = (t.val * O + o.val) * C + c.val
    rw [show t.val / 3 * 3 + t.val % 3 = t.val by omega]
  rw [e]
  refine congrArg W (funext fun d => ?_)
  match d with
  | ⟨0, _⟩ => rfl
  | ⟨1, _⟩ => rfl
  | ⟨2, _⟩ => rfl
  | ⟨3, _⟩ => rfl

/-- A bias with two axes of size one appended, read at a channel. -/
theorem flat_bias {O : ℕ} (b : (⟨1, ![O]⟩ : Shape).Idx → EReal)
    (hc : (⟨1, ![O]⟩ : Shape).ShapeCasts ⟨3, ![O, 1, 1]⟩) (o : Fin O) :
    shapeCast ⟨3, ![O, 1, 1]⟩ b hc (ix3 o 0 0) = bias b o := by
  refine congrArg b (Shape.reshapeEquiv_eq_of_rowMajor hc ?_)
  rw [Shape.rowMajor_val_one, Shape.rowMajor_val_three]
  show o.val = (o.val * 1 + 0) * 1 + 0
  omega

/-- One-by-one weights without their two axes of size one. -/
theorem flat_one {O C : ℕ} (W : (⟨4, ![O, C, 1, 1]⟩ : Shape).Idx → EReal)
    (hc : (⟨4, ![O, C, 1, 1]⟩ : Shape).ShapeCasts ⟨2, ![O, C]⟩) (o : Fin O) (c : Fin C) :
    shapeCast ⟨2, ![O, C]⟩ W hc (ix2 o c) = W (ix4 o c 0 0) := by
  refine congrArg W (Shape.reshapeEquiv_eq_of_rowMajor hc ?_)
  rw [Shape.rowMajor_val_two, Shape.rowMajor_val_four]
  show ((o.val * C + c.val) * 1 + 0) * 1 + 0 = o.val * C + c.val
  omega

open Cert.KernelIdeal Cert.KernelIdeal.Gen StableHlo

variable (V : Valuation τ sig (Elt Ideal))

/-! ## Before region 0 -/

/-- What the operations before region 0 leave. -/
abbrev host0 : Valuation τ sig (Elt Ideal) := after hostOps0_2 (after hostOps0_1 (after hostOps0 V))

/-- The images of region 0: those of the stage before, padded. -/
theorem padIn0 : host0 V main_v0 = padded 514 514 (by decide) (V main_arg0) := by
  unfold host0 hostOps0 hostOps0_1 hostOps0_2
  after_results
  rfl

/-- The weights of region 0. -/
theorem wtIn0 (t : Fin 9) (o : Fin 8) (c : Fin 3) : host0 V main_v2 (ix3 t o c) = taps (V main_arg2) t o c := by
  unfold host0 hostOps0 hostOps0_1 hostOps0_2
  after_results
  exact flat_taps (V main_arg2) transposes_S8x3x3x3_S3x3x8x3_2_3_0_1 shapeCasts_S3x3x8x3_S9x8x3 t o c

/-- The biases of region 0. -/
theorem biasIn0 (o : Fin 8) : host0 V main_v3 (ix3 o 0 0) = bias (V main_arg3) o := by
  unfold host0 hostOps0 hostOps0_1 hostOps0_2
  after_results
  exact flat_bias (V main_arg3) shapeCasts_S8_S8x1x1 o

/-! ## Before region 1 -/

/-- What the operations before region 1 leave. -/
abbrev host1 : Valuation τ sig (Elt Ideal) := after hostOps1_2 (after hostOps1_1 (after hostOps1 V))

/-- The images of region 1: those of the stage before, padded. -/
theorem padIn1 : host1 V main_v5 = padded 258 258 (by decide) (V main_v4) := by
  unfold host1 hostOps1 hostOps1_1 hostOps1_2
  after_results
  rfl

/-- The weights of region 1. -/
theorem wtIn1 (t : Fin 9) (o : Fin 16) (c : Fin 8) : host1 V main_v7 (ix3 t o c) = taps (V main_arg4) t o c := by
  unfold host1 hostOps1 hostOps1_1 hostOps1_2
  after_results
  exact flat_taps (V main_arg4) transposes_S16x8x3x3_S3x3x16x8_2_3_0_1 shapeCasts_S3x3x16x8_S9x16x8 t o c

/-- The biases of region 1. -/
theorem biasIn1 (o : Fin 16) : host1 V main_v8 (ix3 o 0 0) = bias (V main_arg5) o := by
  unfold host1 hostOps1 hostOps1_1 hostOps1_2
  after_results
  exact flat_bias (V main_arg5) shapeCasts_S16_S16x1x1 o

/-! ## Before region 2 -/

/-- What the operations before region 2 leave. -/
abbrev host2 : Valuation τ sig (Elt Ideal) := after hostOps2_2 (after hostOps2_1 (after hostOps2 V))

/-- The images of region 2: those of the stage before, padded. -/
theorem padIn2 : host2 V main_v10 = padded 130 130 (by decide) (V main_v9) := by
  unfold host2 hostOps2 hostOps2_1 hostOps2_2
  after_results
  rfl

/-- The weights of region 2. -/
theorem wtIn2 (t : Fin 9) (o : Fin 32) (c : Fin 16) : host2 V main_v12 (ix3 t o c) = taps (V main_arg6) t o c := by
  unfold host2 hostOps2 hostOps2_1 hostOps2_2
  after_results
  exact flat_taps (V main_arg6) transposes_S32x16x3x3_S3x3x32x16_2_3_0_1 shapeCasts_S3x3x32x16_S9x32x16 t o c

/-- The biases of region 2. -/
theorem biasIn2 (o : Fin 32) : host2 V main_v13 (ix3 o 0 0) = bias (V main_arg7) o := by
  unfold host2 hostOps2 hostOps2_1 hostOps2_2
  after_results
  exact flat_bias (V main_arg7) shapeCasts_S32_S32x1x1 o

/-! ## Before region 3 -/

/-- What the operations before region 3 leave. -/
abbrev host3 : Valuation τ sig (Elt Ideal) := after hostOps3_2 (after hostOps3_1 (after hostOps3 V))

/-- The images of region 3: those of the stage before, padded. -/
theorem padIn3 : host3 V main_v15 = padded 66 66 (by decide) (V main_v14) := by
  unfold host3 hostOps3 hostOps3_1 hostOps3_2
  after_results
  rfl

/-- The weights of region 3. -/
theorem wtIn3 (t : Fin 9) (o : Fin 64) (c : Fin 32) : host3 V main_v17 (ix3 t o c) = taps (V main_arg8) t o c := by
  unfold host3 hostOps3 hostOps3_1 hostOps3_2
  after_results
  exact flat_taps (V main_arg8) transposes_S64x32x3x3_S3x3x64x32_2_3_0_1 shapeCasts_S3x3x64x32_S9x64x32 t o c

/-- The biases of region 3. -/
theorem biasIn3 (o : Fin 64) : host3 V main_v18 (ix3 o 0 0) = bias (V main_arg9) o := by
  unfold host3 hostOps3 hostOps3_1 hostOps3_2
  after_results
  exact flat_bias (V main_arg9) shapeCasts_S64_S64x1x1 o

/-! ## Before region 4 -/

/-- What the operations before region 4 leave. -/
abbrev host4 : Valuation τ sig (Elt Ideal) := after hostOps4_2 (after hostOps4_1 (after hostOps4 V))

/-- The images of region 4: those of the stage before, padded. -/
theorem padIn4 : host4 V main_v20 = padded 34 34 (by decide) (V main_v19) := by
  unfold host4 hostOps4 hostOps4_1 hostOps4_2
  after_results
  rfl

/-- The weights of region 4. -/
theorem wtIn4 (t : Fin 9) (o : Fin 128) (c : Fin 64) : host4 V main_v22 (ix3 t o c) = taps (V main_arg10) t o c := by
  unfold host4 hostOps4 hostOps4_1 hostOps4_2
  after_results
  exact flat_taps (V main_arg10) transposes_S128x64x3x3_S3x3x128x64_2_3_0_1 shapeCasts_S3x3x128x64_S9x128x64 t o c

/-- The biases of region 4. -/
theorem biasIn4 (o : Fin 128) : host4 V main_v23 (ix3 o 0 0) = bias (V main_arg11) o := by
  unfold host4 hostOps4 hostOps4_1 hostOps4_2
  after_results
  exact flat_bias (V main_arg11) shapeCasts_S128_S128x1x1 o

/-! ## Before region 6 -/

/-- What the operations before region 6 leave. -/
abbrev host6 : Valuation τ sig (Elt Ideal) := after hostOps6_2 (after hostOps6_1 (after hostOps6 V))

/-- The images of region 6: those of the stage before, padded. -/
theorem padIn6 : host6 V main_v28 = padded 34 34 (by decide) (V main_v27) := by
  unfold host6 hostOps6 hostOps6_1 hostOps6_2
  after_results
  rfl

/-- The weights of region 6. -/
theorem wtIn6 (t : Fin 9) (o : Fin 64) (c : Fin 128) : host6 V main_v30 (ix3 t o c) = taps (V main_arg14) t o c := by
  unfold host6 hostOps6 hostOps6_1 hostOps6_2
  after_results
  exact flat_taps (V main_arg14) transposes_S64x128x3x3_S3x3x64x128_2_3_0_1 shapeCasts_S3x3x64x128_S9x64x128 t o c

/-- The biases of region 6. -/
theorem biasIn6 (o : Fin 64) : host6 V main_v31 (ix3 o 0 0) = bias (V main_arg15) o := by
  unfold host6 hostOps6 hostOps6_1 hostOps6_2
  after_results
  exact flat_bias (V main_arg15) shapeCasts_S64_S64x1x1 o

/-! ## Before region 7 -/

/-- What the operations before region 7 leave. -/
abbrev host7 : Valuation τ sig (Elt Ideal) := after hostOps7_2 (after hostOps7_1 (after hostOps7 V))

/-- The images of region 7: those of the stage before, padded. -/
theorem padIn7 : host7 V main_v33 = padded 66 66 (by decide) (V main_v32) := by
  unfold host7 hostOps7 hostOps7_1 hostOps7_2
  after_results
  rfl

/-- The weights of region 7. -/
theorem wtIn7 (t : Fin 9) (o : Fin 32) (c : Fin 64) : host7 V main_v35 (ix3 t o c) = taps (V main_arg16) t o c := by
  unfold host7 hostOps7 hostOps7_1 hostOps7_2
  after_results
  exact flat_taps (V main_arg16) transposes_S32x64x3x3_S3x3x32x64_2_3_0_1 shapeCasts_S3x3x32x64_S9x32x64 t o c

/-- The biases of region 7. -/
theorem biasIn7 (o : Fin 32) : host7 V main_v36 (ix3 o 0 0) = bias (V main_arg17) o := by
  unfold host7 hostOps7 hostOps7_1 hostOps7_2
  after_results
  exact flat_bias (V main_arg17) shapeCasts_S32_S32x1x1 o

/-! ## Before region 8 -/

/-- What the operations before region 8 leave. -/
abbrev host8 : Valuation τ sig (Elt Ideal) := after hostOps8_2 (after hostOps8_1 (after hostOps8 V))

/-- The images of region 8: those of the stage before, padded. -/
theorem padIn8 : host8 V main_v38 = padded 130 130 (by decide) (V main_v37) := by
  unfold host8 hostOps8 hostOps8_1 hostOps8_2
  after_results
  rfl

/-- The weights of region 8. -/
theorem wtIn8 (t : Fin 9) (o : Fin 16) (c : Fin 32) : host8 V main_v40 (ix3 t o c) = taps (V main_arg18) t o c := by
  unfold host8 hostOps8 hostOps8_1 hostOps8_2
  after_results
  exact flat_taps (V main_arg18) transposes_S16x32x3x3_S3x3x16x32_2_3_0_1 shapeCasts_S3x3x16x32_S9x16x32 t o c

/-- The biases of region 8. -/
theorem biasIn8 (o : Fin 16) : host8 V main_v41 (ix3 o 0 0) = bias (V main_arg19) o := by
  unfold host8 hostOps8 hostOps8_1 hostOps8_2
  after_results
  exact flat_bias (V main_arg19) shapeCasts_S16_S16x1x1 o

/-! ## Before region 9 -/

/-- What the operations before region 9 leave. -/
abbrev host9 : Valuation τ sig (Elt Ideal) := after hostOps9_2 (after hostOps9_1 (after hostOps9 V))

/-- The images of region 9: those of the stage before, padded. -/
theorem padIn9 : host9 V main_v43 = padded 258 258 (by decide) (V main_v42) := by
  unfold host9 hostOps9 hostOps9_1 hostOps9_2
  after_results
  rfl

/-- The weights of region 9. -/
theorem wtIn9 (t : Fin 9) (o : Fin 8) (c : Fin 16) : host9 V main_v45 (ix3 t o c) = taps (V main_arg20) t o c := by
  unfold host9 hostOps9 hostOps9_1 hostOps9_2
  after_results
  exact flat_taps (V main_arg20) transposes_S8x16x3x3_S3x3x8x16_2_3_0_1 shapeCasts_S3x3x8x16_S9x8x16 t o c

/-- The biases of region 9. -/
theorem biasIn9 (o : Fin 8) : host9 V main_v46 (ix3 o 0 0) = bias (V main_arg21) o := by
  unfold host9 hostOps9 hostOps9_1 hostOps9_2
  after_results
  exact flat_bias (V main_arg21) shapeCasts_S8_S8x1x1 o

/-! ## Before region 10 -/

/-- What the operations before region 10 leave. -/
abbrev host10 : Valuation τ sig (Elt Ideal) := after hostOps10_2 (after hostOps10_1 (after hostOps10 V))

/-- The images of region 10: those of the stage before, padded. -/
theorem padIn10 : host10 V main_v48 = padded 514 514 (by decide) (V main_v47) := by
  unfold host10 hostOps10 hostOps10_1 hostOps10_2
  after_results
  rfl

/-- The weights of region 10. -/
theorem wtIn10 (t : Fin 9) (o : Fin 2) (c : Fin 8) : host10 V main_v50 (ix3 t o c) = taps (V main_arg22) t o c := by
  unfold host10 hostOps10 hostOps10_1 hostOps10_2
  after_results
  exact flat_taps (V main_arg22) transposes_S2x8x3x3_S3x3x2x8_2_3_0_1 shapeCasts_S3x3x2x8_S9x2x8 t o c

/-- The biases of region 10. -/
theorem biasIn10 (o : Fin 2) : host10 V main_v51 (ix3 o 0 0) = bias (V main_arg23) o := by
  unfold host10 hostOps10 hostOps10_1 hostOps10_2
  after_results
  exact flat_bias (V main_arg23) shapeCasts_S2_S2x1x1 o

/-! ## Before region 5 -/

/-- The weights of region 5. -/
theorem wtIn5 (o : Fin 128) (c : Fin 512) : after hostOps5 V main_v25 (ix2 o c) = V main_arg12 (ix4 o c 0 0) := by
  unfold hostOps5
  after_results
  exact flat_one (V main_arg12) shapeCasts_S128x512x1x1_S128x512 o c

/-- The biases of region 5. -/
theorem biasIn5 (o : Fin 128) : after hostOps5 V main_v26 (ix3 o 0 0) = bias (V main_arg13) o := by
  unfold hostOps5
  after_results
  exact flat_bias (V main_arg13) shapeCasts_S128_S128x1x1 o

end Unet
-- ==== Proof.KernelConv.lean ====
/-
  The kernel's convolution and rectifier as functions of the vectors a body loads, at any sizes, and what they read at an
  index.
-/
module

public import proofs.«01_k».proof.Proof.Spec
public import Idealize.ShloMosaic.PureOps.Ideal.Laws
public import Idealize.ShloMosaic.Lib.Pointwise
public import Idealize.ShloMosaic.Lib.Pointwise.IndexVar

@[expose] public section

noncomputable section

namespace Unet

open Idealize.ShloMosaic

/-! ## Facts about shapes of three axes -/

/-- A block that fits in every axis is a slice. -/
theorem slices3 {A B C a b c o p q : ℕ} (h0 : o + a ≤ A) (h1 : p + b ≤ B) (h2 : q + c ≤ C) :
    (⟨3, ![A, B, C]⟩ : Shape).Slices ![o, p, q] ⟨3, ![a, b, c]⟩ :=
  ⟨rfl, fun d => match d with | ⟨0, _⟩ => h0 | ⟨1, _⟩ => h1 | ⟨2, _⟩ => h2⟩

/-- A slice read at an index. -/
theorem slice3_apply {α : Type} {A B C a b c o p q : ℕ} (x : (⟨3, ![A, B, C]⟩ : Shape).Idx → α)
    (h : (⟨3, ![A, B, C]⟩ : Shape).Slices ![o, p, q] ⟨3, ![a, b, c]⟩) (i : Fin a) (j : Fin b) (k : Fin c)
    {i' : Fin A} {j' : Fin B} {k' : Fin C} (hi : i'.val = o + i.val) (hj : j'.val = p + j.val) (hk : k'.val = q + k.val) :
    extractStridedSlice ⟨3, ![a, b, c]⟩ ![o, p, q] x h (ix3 i j k) = x (ix3 i' j' k') :=
  congrArg x (funext fun d => match d with
    | ⟨0, _⟩ => Fin.ext hi.symm | ⟨1, _⟩ => Fin.ext hj.symm | ⟨2, _⟩ => Fin.ext hk.symm)

/-- Dropping a leading axis of size one keeps the number of elements. -/
theorem casts_drop3 (O C : ℕ) : (⟨3, ![1, O, C]⟩ : Shape).ShapeCasts ⟨2, ![O, C]⟩ := by
  simp [Shape.ShapeCasts, Shape.numel, Fin.prod_univ_succ]

/-- A vector without its leading axis of size one, read at an index. -/
theorem cast_drop3 {α : Type} {O C : ℕ} (x : (⟨3, ![1, O, C]⟩ : Shape).Idx → α)
    (h : (⟨3, ![1, O, C]⟩ : Shape).ShapeCasts ⟨2, ![O, C]⟩) (o : Fin O) (c : Fin C) :
    shapeCast ⟨2, ![O, C]⟩ x h (ix2 o c) = x (ix3 0 o c) := by
  refine congrArg x (Shape.reshapeEquiv_eq_of_rowMajor h ?_)
  rw [Shape.rowMajor_val_three, Shape.rowMajor_val_two]
  show ((0 : ℕ) * O + o.val) * C + c.val = o.val * C + c.val
  rw [Nat.zero_mul, Nat.zero_add]

/-! ## The contraction of a weight matrix with a stack of images -/

/-- The dimension numbers: the weights' second axis against the images' first. -/
def convDims (O C H W : ℕ) : DotDims ⟨2, ![O, C]⟩ ⟨3, ![C, H, W]⟩ ⟨3, ![O, H, W]⟩ where
  lhsContracting := [1]
  rhsContracting := [0]
  lhsNonContracting := [0]
  rhsNonContracting := [1, 2]
  lhsBatch := []
  rhsBatch := []
  wf := ⟨rfl, by simp, rfl, by simp, by simp, by simp, by simp [List.finRange],
    (by decide : [(1 : Fin 3), 2, 0].Perm [0, 1, 2]),
    rfl, Nat.succ_pos _, fun b => by fin_cases b <;> rfl⟩

/-- The contraction at an index. -/
theorem convDot_apply {O C H W : ℕ} (w : FVec Ideal ⟨2, ![O, C]⟩ .f32) (x : FVec Ideal ⟨3, ![C, H, W]⟩ .f32)
    (o : Fin O) (i : Fin H) (j : Fin W) :
    matmul (convDims O C H W) none w x (constant ⟨3, ![O, H, W]⟩ .f32 0x00000000#32) (ix3 o i j)
      = ∑ c : Fin C, w (ix2 o c) * x (ix3 c i j) := by
  refine (Ideal.matmul_apply₁_of (convDims O C H W) (a := 1) rfl (K := C) rfl w x _ (ix3 o i j)
    (fun c => ix2 o c) (fun c => ix3 c i j) (fun c => ?_) (fun c => ?_)).trans ?_
  · funext d; match d with | ⟨0, _⟩ => rfl | ⟨1, _⟩ => rfl
  · funext d; match d with | ⟨0, _⟩ => rfl | ⟨1, _⟩ => rfl | ⟨2, _⟩ => rfl
  · show Ideal.ofBits .f32 0x00000000#32 + _ = _
    rw [Ideal.ofBits_zero_f32, zero_add]

/-! ## The convolution of a block -/

section Conv
variable {O C H W HP WP : ℕ}

/-- One tap: the weights of one position against the block of the images that starts at row `p` and column `q`. -/
def tap (hH : H + 2 = HP) (hW : W + 2 = WP) (p q : ℕ) (hp : p ≤ 2) (hq : q ≤ 2)
    (x : FVec Ideal ⟨3, ![C, HP, WP]⟩ .f32) (w : FVec Ideal ⟨3, ![1, O, C]⟩ .f32) : FVec Ideal ⟨3, ![O, H, W]⟩ .f32 :=
  matmul (convDims O C H W) none (shapeCast ⟨2, ![O, C]⟩ w (casts_drop3 O C))
    (extractStridedSlice ⟨3, ![C, H, W]⟩ ![0, 0, q]
      (extractStridedSlice ⟨3, ![C, H, WP]⟩ ![0, p, 0] x (slices3 (by omega) (by omega) (by omega)))
      (slices3 (by omega) (by omega) (by omega)))
    (constant ⟨3, ![O, H, W]⟩ .f32 0x00000000#32)

/-- A tap at an index. -/
theorem tap_apply (hH : H + 2 = HP) (hW : W + 2 = WP) (p q : ℕ) (hp : p ≤ 2) (hq : q ≤ 2)
    (x : FVec Ideal ⟨3, ![C, HP, WP]⟩ .f32) (w : FVec Ideal ⟨3, ![1, O, C]⟩ .f32) (o : Fin O) (i : Fin H) (j : Fin W) :
    tap hH hW p q hp hq x w (ix3 o i j) = ∑ c : Fin C, w (ix3 0 o c) * img3 x c (i + p) (j + q) := by
  unfold tap
  rw [convDot_apply]
  refine Finset.sum_congr rfl fun c _ => ?_
  rw [cast_drop3, img3_of x c (show i.val + p < HP by omega) (show j.val + q < WP by omega)]
  rw [slice3_apply _ _ c i j (i' := c) (j' := i) (k' := ⟨j.val + q, by omega⟩) (by simp) (by simp) (by simp [add_comm])]
  rw [slice3_apply _ _ c i _ (i' := c) (j' := ⟨i.val + p, by omega⟩) (k' := ⟨j.val + q, by omega⟩)
    (by simp) (by simp [add_comm]) (by simp)]

/-- The bias broadcasts over the images. -/
theorem bias_bc (O H W : ℕ) : (⟨3, ![O, 1, 1]⟩ : Shape).Broadcasts ⟨3, ![O, H, W]⟩ :=
  ⟨le_refl _, fun d => match d with
    | ⟨0, _⟩ => .inr fun _ => rfl | ⟨1, _⟩ => .inl rfl | ⟨2, _⟩ => .inl rfl⟩

/-- The broadcast bias at an index. -/
theorem bias_apply (b : FVec Ideal ⟨3, ![O, 1, 1]⟩ .f32) (hc : (⟨3, ![O, 1, 1]⟩ : Shape).ShapeCasts ⟨3, ![O, 1, 1]⟩)
    (o : Fin O) (i : Fin H) (j : Fin W) :
    broadcastTo ⟨3, ![O, H, W]⟩ (shapeCast ⟨3, ![O, 1, 1]⟩ b hc) (bias_bc O H W) (ix3 o i j) = b (ix3 o 0 0) := by
  refine congrArg b ((Shape.reshapeEquiv_eq_of_rowMajor hc (y := ix3 o 0 0) ?_))
  refine congrArg (fun k => (Shape.rowMajor _ k).val) (funext fun d => ?_)
  match d with
  | ⟨0, _⟩ =>
    by_cases h : O = 1
    · subst h; exact Subsingleton.elim (α := Fin 1) _ _
    · refine Eq.symm ((dif_neg (show ¬(⟨3, ![O, 1, 1]⟩ : Shape).size ⟨0, Nat.succ_pos 2⟩ = 1 from h)).trans ?_)
      rfl
  | ⟨1, _⟩ => rfl
  | ⟨2, _⟩ => rfl

/-- The convolution of a block as the kernel adds it up, from the nine weight matrices and the bias. -/
def kconv (hH : H + 2 = HP) (hW : W + 2 = WP) (x : FVec Ideal ⟨3, ![C, HP, WP]⟩ .f32)
    (w0 w1 w2 w3 w4 w5 w6 w7 w8 : FVec Ideal ⟨3, ![1, O, C]⟩ .f32) (b : FVec Ideal ⟨3, ![O, 1, 1]⟩ .f32) :
    FVec Ideal ⟨3, ![O, H, W]⟩ .f32 :=
  addf (addf (addf (addf (addf (addf (addf (addf (addf
    (tap hH hW 0 0 (by omega) (by omega) x w0) (tap hH hW 0 1 (by omega) (by omega) x w1))
    (tap hH hW 0 2 (by omega) (by omega) x w2)) (tap hH hW 1 0 (by omega) (by omega) x w3))
    (tap hH hW 1 1 (by omega) (by omega) x w4)) (tap hH hW 1 2 (by omega) (by omega) x w5))
    (tap hH hW 2 0 (by omega) (by omega) x w6)) (tap hH hW 2 1 (by omega) (by omega) x w7))
    (tap hH hW 2 2 (by omega) (by omega) x w8))
    (broadcastTo ⟨3, ![O, H, W]⟩ (shapeCast ⟨3, ![O, 1, 1]⟩ b rfl) (bias_bc O H W))

/-- The kernel's convolution of a block is the convolution of its images. -/
theorem kconv_apply (hH : H + 2 = HP) (hW : W + 2 = WP) (x : FVec Ideal ⟨3, ![C, HP, WP]⟩ .f32)
    (w0 w1 w2 w3 w4 w5 w6 w7 w8 : FVec Ideal ⟨3, ![1, O, C]⟩ .f32) (b : FVec Ideal ⟨3, ![O, 1, 1]⟩ .f32)
    (o : Fin O) (i : Fin H) (j : Fin W) :
    kconv hH hW x w0 w1 w2 w3 w4 w5 w6 w7 w8 b (ix3 o i j)
      = conv (fun t o c => (![w0, w1, w2, w3, w4, w5, w6, w7, w8] t) (ix3 0 o c)) (fun o => b (ix3 o 0 0)) (img3 x) o i j := by
  show _ + _ + _ + _ + _ + _ + _ + _ + _ + _ = _
  rw [bias_apply]
  simp only [tap_apply]
  rfl

/-- The rectifier as the kernel writes it. -/
def kleaky {s : Shape} (y : FVec Ideal s .f32) : FVec Ideal s .f32 :=
  select (cmpf .ogt y (broadcast s (Scalar.ofBits (F := Ideal) .f32 0x00000000#32))) y
    (mulf y (broadcast s (Scalar.ofBits (F := Ideal) .f32 0x3C23D70A#32)))

/-- The kernel's rectifier at an index. -/
theorem kleaky_apply {s : Shape} (y : FVec Ideal s .f32) (i : s.Idx) : kleaky y i = leaky (y i) := by
  unfold kleaky leaky slope
  pointwise

end Conv

end Unet
-- ==== Proof.KernelPool.lean ====
/-
  The kernel's two-by-two pooling at any sizes: the maximum with the next row, then the even rows kept by a product with a
  zero-one matrix, and the same for the columns.
-/
module

public import proofs.«01_k».proof.Proof.KernelConv

@[expose] public section

noncomputable section

namespace Unet

open Idealize.ShloMosaic

/-! ## The contraction of the middle axis with a matrix -/

/-- The dimension numbers: the middle axis of the left operand against the first of the right. -/
def midDims (A B C D : ℕ) : DotDims ⟨3, ![A, B, C]⟩ ⟨2, ![B, D]⟩ ⟨3, ![A, C, D]⟩ where
  lhsContracting := [1]
  rhsContracting := [0]
  lhsNonContracting := [0, 2]
  rhsNonContracting := [1]
  lhsBatch := []
  rhsBatch := []
  wf := ⟨rfl, by simp, rfl, by simp, by simp, by simp, (by decide : [(0 : Fin 3), 2, 1].Perm [0, 1, 2]),
    (by decide : [(1 : Fin 2), 0].Perm [0, 1]), rfl, Nat.succ_pos _, fun b => by fin_cases b <;> rfl⟩

/-- The contraction at an index. -/
theorem midDot_apply {A B C D : ℕ} (x : FVec Ideal ⟨3, ![A, B, C]⟩ .f32) (y : FVec Ideal ⟨2, ![B, D]⟩ .f32)
    (a : Fin A) (c : Fin C) (d : Fin D) :
    matmul (midDims A B C D) none x y (constant ⟨3, ![A, C, D]⟩ .f32 0x00000000#32) (ix3 a c d)
      = ∑ b : Fin B, x (ix3 a b c) * y (ix2 b d) := by
  refine (Ideal.matmul_apply₁_of (midDims A B C D) (a := 1) rfl (K := B) rfl x y _ (ix3 a c d)
    (fun b => ix3 a b c) (fun b => ix2 b d) (fun b => ?_) (fun b => ?_)).trans ?_
  · funext d; match d with | ⟨0, _⟩ => rfl | ⟨1, _⟩ => rfl | ⟨2, _⟩ => rfl
  · funext d; match d with | ⟨0, _⟩ => rfl | ⟨1, _⟩ => rfl
  · show Ideal.ofBits .f32 0x00000000#32 + _ = _
    rw [Ideal.ofBits_zero_f32, zero_add]

/-! ## The zero-one matrix of the even rows -/

section Pool
variable {O H W H2 W2 : ℕ}

/-- A row and a column number may be taken of any matrix. -/
theorem iotas2 (H H2 : ℕ) (d : Fin 2) : (⟨2, ![H, H2]⟩ : Shape).Iotas .tc 32 [d] :=
  ⟨List.nodup_singleton d, fun _ => ⟨.inr rfl, le_refl 2⟩, fun h => absurd rfl h⟩

/-- The matrix that is one where the row is twice the column. -/
def selEven (H H2 : ℕ) : FVec Ideal ⟨2, ![H, H2]⟩ .f32 :=
  sitofp .f32 (extui 32 (cmpi .eq (iota .tc ⟨2, ![H, H2]⟩ 32 [0] (iotas2 H H2 0))
    (muli (broadcast ⟨2, ![H, H2]⟩ 2#32) (iota .tc ⟨2, ![H, H2]⟩ 32 [1] (iotas2 H H2 1)))) (by decide))

/-- The matrix at an index. -/
theorem selEven_apply (hH : 2 * H2 = H) (hb : H < 2 ^ 31) (r : Fin H) (c : Fin H2) :
    selEven H H2 (ix2 r c) = if r.val = 2 * c.val then 1 else 0 := by
  unfold selEven
  pointwise
  have hm : IntOp.muli (2#32) (BitVec.ofNat 32 c.val) = BitVec.ofNat 32 (2 * c.val) := by
    show 2#32 * BitVec.ofNat 32 c.val = _
    rw [BitVec.ofNat_mul]
  rw [hm]
  by_cases h : r.val = 2 * c.val
  · rw [if_pos h, h]
    show (((BitVec.setWidth 32 (BitVec.ofBool (BitVec.ofNat 32 (2 * c.val) == BitVec.ofNat 32 (2 * c.val)))).toInt : ℝ) : EReal) = 1
    simp
  · have hne : BitVec.ofNat 32 r.val ≠ BitVec.ofNat 32 (2 * c.val) := fun e => h (by
      have := congrArg BitVec.toNat e
      simp only [BitVec.toNat_ofNat] at this
      omega)
    rw [if_neg h]
    show (((BitVec.setWidth 32 (BitVec.ofBool (BitVec.ofNat 32 r.val == BitVec.ofNat 32 (2 * c.val)))).toInt : ℝ) : EReal) = 0
    rw [beq_eq_false_iff_ne.2 hne]
    simp

/-- Any vector of three axes may be rotated along its middle axis. -/
theorem rotates3 (A B C : ℕ) : (⟨3, ![A, B, C]⟩ : Shape).Rotates 1 none :=
  ⟨show 2 ≤ 3 by decide, by simp⟩

/-- One axis of the pooling: the maximum with the next row, and the even rows kept; the kept axis becomes the last. -/
def kpool1 (n : BitVec 32) (y : FVec Ideal ⟨3, ![O, H, W]⟩ .f32) (H2 : ℕ) : FVec Ideal ⟨3, ![O, W, H2]⟩ .f32 :=
  matmul (midDims O H W H2) none (maximumf y (dynamicRotate 1 n none y (rotates3 O H W))) (selEven H H2)
    (constant ⟨3, ![O, W, H2]⟩ .f32 0x00000000#32)

/-- One axis of the pooling at an index. -/
theorem kpool1_apply (n : BitVec 32) (hn : n.toNat + 1 = H) (hH : 2 * H2 = H) (hb : H < 2 ^ 31)
    (y : FVec Ideal ⟨3, ![O, H, W]⟩ .f32) (o : Fin O) (j : Fin W) (i : Fin H2) :
    kpool1 n y H2 (ix3 o j i) = max (y (ix3 o ⟨2 * i.val, by omega⟩ j)) (y (ix3 o ⟨2 * i.val + 1, by omega⟩ j)) := by
  unfold kpool1
  rw [midDot_apply]
  simp only [selEven_apply hH hb]
  rw [Finset.sum_eq_single (⟨2 * i.val, by omega⟩ : Fin H)]
  · rw [if_pos rfl, mul_one]
    show max _ _ = _
    refine congrArg (max _) (congrArg y (funext fun d => ?_))
    match d with
    | ⟨0, _⟩ => rfl
    | ⟨1, _⟩ =>
      refine Fin.ext ?_
      show (2 * i.val + H - (n.toNat + 0) % H) % H = 2 * i.val + 1
      have h1 : (n.toNat + 0) % H = H - 1 := by rw [Nat.mod_eq_of_lt] <;> omega
      rw [h1, Nat.mod_eq_of_lt] <;> omega
    | ⟨2, _⟩ => rfl
  · intro b _ hb
    rw [if_neg (fun h => hb (Fin.ext h)), mul_zero]
  · intro h; exact absurd (Finset.mem_univ _) h

/-- The kernel's pooling: rows, then columns. -/
def kpool (n m : BitVec 32) (y : FVec Ideal ⟨3, ![O, H, W]⟩ .f32) (H2 W2 : ℕ) : FVec Ideal ⟨3, ![O, H2, W2]⟩ .f32 :=
  kpool1 m (kpool1 n y H2) W2

/-- The kernel's pooling is the maximum over the two-by-two squares. -/
theorem kpool_apply (n m : BitVec 32) (hn : n.toNat + 1 = H) (hm : m.toNat + 1 = W) (hH : 2 * H2 = H) (hW : 2 * W2 = W)
    (hbH : H < 2 ^ 31) (hbW : W < 2 ^ 31) (y : FVec Ideal ⟨3, ![O, H, W]⟩ .f32) (o : Fin O) (i : Fin H2) (j : Fin W2) :
    kpool n m y H2 W2 (ix3 o i j) = pool (img3 y o) i j := by
  unfold kpool pool
  rw [kpool1_apply m hm hW hbW, kpool1_apply n hn hH hbH, kpool1_apply n hn hH hbH]
  rw [img3_of y o (show 2 * i.val < H by omega) (show 2 * j.val < W by omega),
    img3_of y o (show 2 * i.val + 1 < H by omega) (show 2 * j.val < W by omega),
    img3_of y o (show 2 * i.val < H by omega) (show 2 * j.val + 1 < W by omega),
    img3_of y o (show 2 * i.val + 1 < H by omega) (show 2 * j.val + 1 < W by omega)]

end Pool

end Unet
-- ==== Proof.KernelUp.lean ====
/-
  The kernel's bilinear doubling at any size: the matrix of the interpolation weights, and the two products with it.
-/
module

public import proofs.«01_k».proof.Proof.KernelPool
public import proofs.«01_k».proof.Proof.Interp

@[expose] public section

noncomputable section

namespace Unet

open Idealize.ShloMosaic

section Up
variable {h N : ℕ}

/-- The column number of every element. -/
def colNo (N h : ℕ) : FVec Ideal ⟨2, ![N, h]⟩ .f32 := sitofp .f32 (iota .tc ⟨2, ![N, h]⟩ 32 [1] (iotas2 N h 1))

/-- The position of every row. -/
def rowPos (N h : ℕ) (cw : BitVec 32) : FVec Ideal ⟨2, ![N, h]⟩ .f32 :=
  mulf (sitofp .f32 (iota .tc ⟨2, ![N, h]⟩ 32 [0] (iotas2 N h 0)))
    (broadcast ⟨2, ![N, h]⟩ (Scalar.ofBits (F := Ideal) .f32 cw))

/-- The part of the weights that falls on the row below the position. -/
def matLo (N h : ℕ) (cw : BitVec 32) : FVec Ideal ⟨2, ![N, h]⟩ .f32 :=
  select (cmpf .oeq (colNo N h) (floor (rowPos N h cw)))
    (subf (broadcast ⟨2, ![N, h]⟩ (Scalar.ofBits (F := Ideal) .f32 0x3F800000#32))
      (subf (rowPos N h cw) (floor (rowPos N h cw))))
    (broadcast ⟨2, ![N, h]⟩ (Scalar.ofBits (F := Ideal) .f32 0x00000000#32))

/-- The part of the weights that falls on the next row. -/
def matHi (N h : ℕ) (cw lw : BitVec 32) : FVec Ideal ⟨2, ![N, h]⟩ .f32 :=
  select (cmpf .oeq (colNo N h) (minimumf
      (addf (floor (rowPos N h cw)) (broadcast ⟨2, ![N, h]⟩ (Scalar.ofBits (F := Ideal) .f32 0x3F800000#32)))
      (broadcast ⟨2, ![N, h]⟩ (Scalar.ofBits (F := Ideal) .f32 lw))))
    (subf (rowPos N h cw) (floor (rowPos N h cw)))
    (broadcast ⟨2, ![N, h]⟩ (Scalar.ofBits (F := Ideal) .f32 0x00000000#32))

/-- An integer word below two to the thirtieth is its number. -/
theorem toInt_ofNat {k : ℕ} (hk : k < 2 ^ 30) : (BitVec.ofNat 32 k).toInt = k := by
  rw [BitVec.toInt_ofNat']
  simp only [Int.bmod]
  omega

/-- The column number at an index. -/
theorem colNo_apply (hh : h < 2 ^ 20) (i : Fin N) (x : Fin h) : colNo N h (ix2 i x) = ((x.val : ℝ) : EReal) := by
  show (((BitVec.ofNat 32 (0 * _ + x.val)).toInt : ℝ) : EReal) = _
  rw [Nat.zero_mul, Nat.zero_add, toInt_ofNat (by have := x.isLt; omega)]
  norm_cast

/-- The position at an index. -/
theorem rowPos_apply {c : ℝ} (hs : Step h c) (hN : N = 2 * h) {cw : BitVec 32} (hc : Ideal.ofBits .f32 cw = (c : EReal))
    (i : Fin N) (x : Fin h) : rowPos N h cw (ix2 i x) = ((pos c i.val : ℝ) : EReal) := by
  show (((BitVec.ofNat 32 (0 * _ + i.val)).toInt : ℝ) : EReal) * Ideal.ofBits .f32 cw = _
  rw [Nat.zero_mul, Nat.zero_add, toInt_ofNat (by have := i.isLt; have := hs.small; omega), hc]
  norm_cast

/-- The integer part of the position at an index. -/
theorem floor_apply {c : ℝ} (hs : Step h c) (hN : N = 2 * h) {cw : BitVec 32} (hc : Ideal.ofBits .f32 cw = (c : EReal))
    (i : Fin N) (x : Fin h) : floor (rowPos N h cw) (ix2 i x) = ((lo c i.val : ℝ) : EReal) := by
  show Ideal.liftRound Int.floor (rowPos N h cw (ix2 i x)) = _
  rw [rowPos_apply hs hN hc]
  show (((⌊pos c i.val⌋ : ℤ) : ℝ) : EReal) = _
  rw [hs.floor_pos]
  norm_cast

/-- The equality test of two naturals as extended reals. -/
theorem select_eq_nat (a b : ℕ) (u v : EReal) :
    Scalar.select (FloatOps.cmpf (F := Ideal) (φ := .f32) .oeq (((a : ℝ) : EReal) : Ideal .f32) (((b : ℝ) : EReal) : Ideal .f32)) u v
      = if a = b then u else v := by
  by_cases e : a = b
  · subst e; rw [if_pos rfl]; simp [Scalar.select, Ideal.cmpf_def, Ideal.cmp]
  · rw [if_neg e]
    have : ((a : ℝ) : EReal) ≠ ((b : ℝ) : EReal) := fun k => e (by exact_mod_cast k)
    simp [Scalar.select, Ideal.cmpf_def, Ideal.cmp, e]

/-- The weights on the row below, at an index. -/
theorem matLo_apply {c : ℝ} (hs : Step h c) (hN : N = 2 * h) {cw : BitVec 32} (hc : Ideal.ofBits .f32 cw = (c : EReal))
    (i : Fin N) (x : Fin h) :
    matLo N h cw (ix2 i x) = if x.val = lo c i.val then ((1 - frac c i.val : ℝ) : EReal) else 0 := by
  show Scalar.select (FloatOps.cmpf .oeq (colNo N h (ix2 i x)) (floor (rowPos N h cw) (ix2 i x)))
    (Ideal.ofBits .f32 0x3F800000#32 - (rowPos N h cw (ix2 i x) - floor (rowPos N h cw) (ix2 i x)))
    (Ideal.ofBits .f32 0x00000000#32) = _
  rw [colNo_apply hs.small, floor_apply hs hN hc, rowPos_apply hs hN hc, select_eq_nat, Ideal.ofBits_zero_f32,
    Ideal.ofBits_one_f32]
  norm_cast

/-- The weights on the next row, at an index. -/
theorem matHi_apply {c : ℝ} (hs : Step h c) (hN : N = 2 * h) {cw lw : BitVec 32} (hc : Ideal.ofBits .f32 cw = (c : EReal))
    (hl : Ideal.ofBits .f32 lw = (((h - 1 : ℕ) : ℝ) : EReal)) (i : Fin N) (x : Fin h) :
    matHi N h cw lw (ix2 i x) = if x.val = hi h c i.val then ((frac c i.val : ℝ) : EReal) else 0 := by
  show Scalar.select (FloatOps.cmpf .oeq (colNo N h (ix2 i x))
      (min (floor (rowPos N h cw) (ix2 i x) + Ideal.ofBits .f32 0x3F800000#32) (Ideal.ofBits .f32 lw)))
    (rowPos N h cw (ix2 i x) - floor (rowPos N h cw) (ix2 i x)) (Ideal.ofBits .f32 0x00000000#32) = _
  rw [colNo_apply hs.small, floor_apply hs hN hc, rowPos_apply hs hN hc, hl, Ideal.ofBits_zero_f32, Ideal.ofBits_one_f32]
  have e : min (((lo c i.val : ℝ) : EReal) + 1) (((h - 1 : ℕ) : ℝ) : EReal) = (((hi h c i.val : ℕ) : ℝ) : EReal) := by
    unfold hi
    rcases le_total (lo c i.val + 1) (h - 1) with e | e
    · rw [min_eq_left e, min_eq_left (by exact_mod_cast e)]; norm_cast
    · rw [min_eq_right e, min_eq_right (by exact_mod_cast e)]
  rw [e, select_eq_nat]
  norm_cast

/-- A sum against the matrix is the interpolation. -/
theorem sum_mat {c : ℝ} (hs : Step h c) (hN : N = 2 * h) {cw lw : BitVec 32} (hc : Ideal.ofBits .f32 cw = (c : EReal))
    (hl : Ideal.ofBits .f32 lw = (((h - 1 : ℕ) : ℝ) : EReal)) (f : ℕ → EReal) (i : Fin N) :
    ∑ x : Fin h, f x * addf (matLo N h cw) (matHi N h cw lw) (ix2 i x) = lerp h c f i := by
  have e : ∀ x : Fin h, addf (matLo N h cw) (matHi N h cw lw) (ix2 i x) = _ + _ := fun x => rfl
  simp only [e, matLo_apply hs hN hc, matHi_apply hs hN hc hl]
  exact sum_two (hs.lo_lt (by have := i.isLt; omega)) (hs.hi_lt _) (sub_nonneg.2 (hs.frac_le _)) (hs.frac_nonneg _) f

/-- The dimension numbers: the middle axis of the left operand against the second of the right. -/
def rowDims (A B C D : ℕ) : DotDims ⟨3, ![A, B, C]⟩ ⟨2, ![D, B]⟩ ⟨3, ![A, C, D]⟩ where
  lhsContracting := [1]
  rhsContracting := [1]
  lhsNonContracting := [0, 2]
  rhsNonContracting := [0]
  lhsBatch := []
  rhsBatch := []
  wf := ⟨rfl, by simp, rfl, by simp, by simp, by simp, (by decide : [(0 : Fin 3), 2, 1].Perm [0, 1, 2]),
    (by decide : [(0 : Fin 2), 1].Perm [0, 1]), rfl, Nat.succ_pos _, fun b => by fin_cases b <;> rfl⟩

/-- The contraction at an index. -/
theorem rowDot_apply {A B C D : ℕ} (x : FVec Ideal ⟨3, ![A, B, C]⟩ .f32) (y : FVec Ideal ⟨2, ![D, B]⟩ .f32)
    (a : Fin A) (c : Fin C) (d : Fin D) :
    matmul (rowDims A B C D) none x y (constant ⟨3, ![A, C, D]⟩ .f32 0x00000000#32) (ix3 a c d)
      = ∑ b : Fin B, x (ix3 a b c) * y (ix2 d b) := by
  refine (Ideal.matmul_apply₁_of (rowDims A B C D) (a := 1) rfl (K := B) rfl x y _ (ix3 a c d)
    (fun b => ix3 a b c) (fun b => ix2 d b) (fun b => ?_) (fun b => ?_)).trans ?_
  · funext d; match d with | ⟨0, _⟩ => rfl | ⟨1, _⟩ => rfl | ⟨2, _⟩ => rfl
  · funext d; match d with | ⟨0, _⟩ => rfl | ⟨1, _⟩ => rfl
  · show Ideal.ofBits .f32 0x00000000#32 + _ = _
    rw [Ideal.ofBits_zero_f32, zero_add]

/-- A matrix may be transposed. -/
theorem transposes2 (A B : ℕ) : (⟨2, ![A, B]⟩ : Shape).Transposes [1, 0] ⟨2, ![B, A]⟩ :=
  ⟨(by decide : [(1 : Fin 2), 0].Perm [0, 1]), rfl, fun b => match b with | ⟨0, _⟩ => rfl | ⟨1, _⟩ => rfl⟩

/-- A transposed matrix at an index. -/
theorem transpose2_apply {A B : ℕ} (x : FVec Ideal ⟨2, ![A, B]⟩ .f32) (b : Fin B) (a : Fin A) :
    transpose ⟨2, ![B, A]⟩ [1, 0] x (transposes2 A B) (ix2 b a) = x (ix2 a b) :=
  congrArg x (funext fun d => match d with | ⟨0, _⟩ => rfl | ⟨1, _⟩ => rfl)

/-- The kernel's doubling: a product for the rows, then one for the columns. -/
def kup {C : ℕ} (N h : ℕ) (cw lw : BitVec 32) (x : FVec Ideal ⟨3, ![C, h, h]⟩ .f32) : FVec Ideal ⟨3, ![C, N, N]⟩ .f32 :=
  matmul (midDims C h N N) none
    (matmul (rowDims C h h N) none x (addf (matLo N h cw) (matHi N h cw lw)) (constant ⟨3, ![C, h, N]⟩ .f32 0x00000000#32))
    (transpose ⟨2, ![h, N]⟩ [1, 0] (addf (matLo N h cw) (matHi N h cw lw)) (transposes2 N h))
    (constant ⟨3, ![C, N, N]⟩ .f32 0x00000000#32)

/-- The kernel's doubling is the bilinear one. -/
theorem kup_apply {C : ℕ} {c : ℝ} (hs : Step h c) (hN : N = 2 * h) {cw lw : BitVec 32}
    (hc : Ideal.ofBits .f32 cw = (c : EReal)) (hl : Ideal.ofBits .f32 lw = (((h - 1 : ℕ) : ℝ) : EReal))
    (x : FVec Ideal ⟨3, ![C, h, h]⟩ .f32) (o : Fin C) (i j : Fin N) :
    kup N h cw lw x (ix3 o i j) = up h c (img3 x o) i j := by
  unfold kup up
  rw [midDot_apply, ← sum_mat hs hN hc hl]
  refine Finset.sum_congr rfl fun w _ => ?_
  rw [transpose2_apply, rowDot_apply, ← sum_mat hs hN hc hl]
  refine congrArg (· * _) (Finset.sum_congr rfl fun r _ => ?_)
  rw [img3_of x o r.isLt w.isLt]

end Up

end Unet
-- ==== Proof.KernelEnc.lean ====
/-
  What one block of each kind computes, at any sizes, in terms of the arrays that the block is cut from: an encoder block
  (convolution, rectifier, pooling) and a decoder block (convolution, rectifier, skip connection, doubling).
-/
module

public import proofs.«01_k».proof.Proof.KernelPool
public import proofs.«01_k».proof.Proof.KernelUp
public import Idealize.ShloMosaic.Lib.Pipeline.ValueKit

@[expose] public section

noncomputable section

namespace Unet

open Idealize.ShloMosaic

/-- The zero offset of a four-axis store. -/
theorem zero4 : (![0, 0, 0, 0] : Fin 4 → ℕ) = fun _ => 0 := by decide

/-- Adding a leading axis of size one keeps the number of elements. -/
theorem casts_add4 (A B C : ℕ) : (⟨3, ![A, B, C]⟩ : Shape).ShapeCasts ⟨4, ![1, A, B, C]⟩ := by
  simp [Shape.ShapeCasts, Shape.numel, Fin.prod_univ_succ]

/-- So does dropping it. -/
theorem casts_drop4 (A B C : ℕ) : (⟨4, ![1, A, B, C]⟩ : Shape).ShapeCasts ⟨3, ![A, B, C]⟩ := by
  simp [Shape.ShapeCasts, Shape.numel, Fin.prod_univ_succ]

/-- A vector with a leading axis of size one added, read at an index. -/
theorem cast_add4 {α : Type} {A B C : ℕ} (x : (⟨3, ![A, B, C]⟩ : Shape).Idx → α)
    (h : (⟨3, ![A, B, C]⟩ : Shape).ShapeCasts ⟨4, ![1, A, B, C]⟩) (z : Fin 1) (a : Fin A) (b : Fin B) (c : Fin C) :
    shapeCast ⟨4, ![1, A, B, C]⟩ x h (ix4 z a b c) = x (ix3 a b c) := by
  refine congrArg x (Shape.reshapeEquiv_eq_of_rowMajor h ?_)
  rw [Shape.rowMajor_val_three, Shape.rowMajor_val_four]
  show (a.val * B + b.val) * C + c.val = ((z.val * A + a.val) * B + b.val) * C + c.val
  rw [Nat.lt_one_iff.1 z.isLt, Nat.zero_mul, Nat.zero_add]

/-- A vector with its leading axis of size one dropped, read at an index. -/
theorem cast_drop4 {α : Type} {A B C : ℕ} (x : (⟨4, ![1, A, B, C]⟩ : Shape).Idx → α)
    (h : (⟨4, ![1, A, B, C]⟩ : Shape).ShapeCasts ⟨3, ![A, B, C]⟩) (a : Fin A) (b : Fin B) (c : Fin C) :
    shapeCast ⟨3, ![A, B, C]⟩ x h (ix3 a b c) = x (ix4 0 a b c) := by
  refine congrArg x (Shape.reshapeEquiv_eq_of_rowMajor h ?_)
  rw [Shape.rowMajor_val_three, Shape.rowMajor_val_four]
  show ((0 * A + a.val) * B + b.val) * C + c.val = (a.val * B + b.val) * C + c.val
  rw [Nat.zero_mul, Nat.zero_add]

/-- Matrix `k` of a stack of nine, as a block loads it. -/
def mat9 {O C : ℕ} (X : Vec Ideal ⟨3, ![9, O, C]⟩ .f32) (k : ℕ) (hk : k < 9) : FVec Ideal ⟨3, ![1, O, C]⟩ .f32 :=
  View.ld X (Rect.unit (s := ⟨3, ![9, O, C]⟩) ![k, 0, 0] ![1, O, C] (fun a => match a with
    | ⟨0, _⟩ => hk
    | ⟨1, _⟩ => (Nat.zero_add O).le
    | ⟨2, _⟩ => (Nat.zero_add C).le))

/-- It is that matrix. -/
theorem mat9_apply {O C k : ℕ} (X : Vec Ideal ⟨3, ![9, O, C]⟩ .f32) (hk : k < 9) (o : Fin O) (c : Fin C) :
    mat9 X k hk (ix3 0 o c) = X (ix3 ⟨k, hk⟩ o c) := by
  refine congrArg X (funext fun d => Fin.ext ?_)
  match d with
  | ⟨0, _⟩ => rfl
  | ⟨1, _⟩ => exact (Nat.zero_add _).trans (Nat.one_mul _)
  | ⟨2, _⟩ => exact (Nat.zero_add _).trans (Nat.one_mul _)

/-- The bias column, as a block loads it. -/
def col1 {O : ℕ} (X : Vec Ideal ⟨3, ![O, 1, 1]⟩ .f32) : FVec Ideal ⟨3, ![O, 1, 1]⟩ .f32 :=
  View.ld X (Rect.unit (s := ⟨3, ![O, 1, 1]⟩) ![0, 0, 0] ![O, 1, 1] (fun a => match a with
    | ⟨0, _⟩ => (Nat.zero_add O).le
    | ⟨1, _⟩ => le_refl 1
    | ⟨2, _⟩ => le_refl 1))

/-- It is the whole column. -/
theorem col1_apply {O : ℕ} (X : Vec Ideal ⟨3, ![O, 1, 1]⟩ .f32) (o : Fin O) : col1 X (ix3 o 0 0) = X (ix3 o 0 0) := by
  refine congrArg X (funext fun d => Fin.ext ?_)
  match d with
  | ⟨0, _⟩ => exact (Nat.zero_add _).trans (Nat.one_mul _)
  | ⟨1, _⟩ => rfl
  | ⟨2, _⟩ => rfl

/-- Rows of a batch of one, loaded at an offset, without the batch axis. -/
def rows4 {C HP WP R : ℕ} (X : Vec Ideal ⟨4, ![1, C, R, WP]⟩ .f32) (off : Fin 4 → ℕ)
    (inb : ∀ a, off a + (![1, C, HP, WP] : Fin 4 → ℕ) a ≤ (⟨4, ![1, C, R, WP]⟩ : Shape).size a) :
    FVec Ideal ⟨3, ![C, HP, WP]⟩ .f32 :=
  shapeCast ⟨3, ![C, HP, WP]⟩ (View.ld X (Rect.unit (s := ⟨4, ![1, C, R, WP]⟩) off ![1, C, HP, WP] inb : Rect ⟨4, ![1, C, R, WP]⟩))
    (casts_drop4 C HP WP)

/-- They are the rows from that offset on. -/
theorem rows4_apply {C HP WP R p : ℕ} (X : Vec Ideal ⟨4, ![1, C, R, WP]⟩ .f32) (off : Fin 4 → ℕ)
    (inb : ∀ a, off a + (![1, C, HP, WP] : Fin 4 → ℕ) a ≤ (⟨4, ![1, C, R, WP]⟩ : Shape).size a)
    (hoff : off = ![0, 0, p, 0]) (c : Fin C) (i : Fin HP) (j : Fin WP) :
    rows4 X off inb (ix3 c i j) = img X 0 c (p + i.val) j.val := by
  subst hoff
  have hR : p + i.val < R := lt_of_lt_of_le (Nat.add_lt_add_left i.isLt p) (inb 2)
  unfold rows4
  rw [cast_drop4, img_of X 0 c hR j.isLt]
  refine congrArg X (funext fun d => Fin.ext ?_)
  match d with
  | ⟨0, _⟩ => rfl
  | ⟨1, _⟩ => exact (Nat.zero_add _).trans (Nat.one_mul _)
  | ⟨2, _⟩ => exact congrArg (p + ·) (Nat.one_mul _)
  | ⟨3, _⟩ => exact (Nat.zero_add _).trans (Nat.one_mul _)

/-- The convolution depends on the weights, the bias and the rows that it reads; a shift of the rows shifts the result. -/
theorem conv_congr {O C : ℕ} {w w' : Fin 9 → Fin O → Fin C → EReal} {b b' : Fin O → EReal} {x x' : Fin C → Img}
    (hw : ∀ t o c, w t o c = w' t o c) (hb : ∀ o, b o = b' o) {H W q : ℕ}
    (hx : ∀ c i j, i < H + 2 → j < W + 2 → x c i j = x' c (q + i) j) (o : Fin O) {i j : ℕ} (hi : i < H) (hj : j < W) :
    conv w b x o i j = conv w' b' x' o (q + i) j := by
  have e : w = w' := funext fun t => funext fun o => funext fun c => hw t o c
  have e' : b = b' := funext hb
  subst e e'
  unfold conv
  refine congrArg (fun f => sum9 f + b o) (funext fun t => Finset.sum_congr rfl fun c _ => ?_)
  rw [hx c _ _ (by have := t.isLt; omega) (by omega), Nat.add_assoc]

/-- So does the encoder stage. -/
theorem enc_congr {O C : ℕ} {w w' : Fin 9 → Fin O → Fin C → EReal} {b b' : Fin O → EReal} {x x' : Fin C → Img}
    (hw : ∀ t o c, w t o c = w' t o c) (hb : ∀ o, b o = b' o) {H W q : ℕ}
    (hx : ∀ c i j, i < 2 * H + 2 → j < 2 * W + 2 → x c i j = x' c (2 * q + i) j) (o : Fin O) {i j : ℕ} (hi : i < H)
    (hj : j < W) : enc w b x o i j = enc w' b' x' o (q + i) j := by
  have h2 : 2 * (q + i) = 2 * q + 2 * i := by omega
  unfold enc pool
  rw [h2, Nat.add_assoc (2 * q) (2 * i) 1]
  beta_reduce
  rw [conv_congr (H := 2 * H) (W := 2 * W) (q := 2 * q) hw hb hx o (i := 2 * i) (j := 2 * j) (by omega) (by omega),
    conv_congr (H := 2 * H) (W := 2 * W) (q := 2 * q) hw hb hx o (i := 2 * i + 1) (j := 2 * j) (by omega) (by omega),
    conv_congr (H := 2 * H) (W := 2 * W) (q := 2 * q) hw hb hx o (i := 2 * i) (j := 2 * j + 1) (by omega) (by omega),
    conv_congr (H := 2 * H) (W := 2 * W) (q := 2 * q) hw hb hx o (i := 2 * i + 1) (j := 2 * j + 1) (by omega) (by omega)]

section Blocks
variable {O C H W HP WP R : ℕ}

/-- The rectified convolution of a block, from the block's images, the nine weight matrices and the bias. -/
def kact (hH : H + 2 = HP) (hW : W + 2 = WP) (X : Vec Ideal ⟨4, ![1, C, R, WP]⟩ .f32) (off : Fin 4 → ℕ)
    (inb : ∀ a, off a + (![1, C, HP, WP] : Fin 4 → ℕ) a ≤ (⟨4, ![1, C, R, WP]⟩ : Shape).size a)
    (Wt : Vec Ideal ⟨3, ![9, O, C]⟩ .f32) (b : Vec Ideal ⟨3, ![O, 1, 1]⟩ .f32) : FVec Ideal ⟨3, ![O, H, W]⟩ .f32 :=
  kconv hH hW (rows4 X off inb) (mat9 Wt 0 (by omega)) (mat9 Wt 1 (by omega)) (mat9 Wt 2 (by omega)) (mat9 Wt 3 (by omega))
    (mat9 Wt 4 (by omega)) (mat9 Wt 5 (by omega)) (mat9 Wt 6 (by omega)) (mat9 Wt 7 (by omega)) (mat9 Wt 8 (by omega)) (col1 b)

/-- The convolution of a block is the convolution of the images that the block is cut from. -/
theorem kact_apply (hH : H + 2 = HP) (hW : W + 2 = WP) (X : Vec Ideal ⟨4, ![1, C, R, WP]⟩ .f32) (off : Fin 4 → ℕ)
    (inb : ∀ a, off a + (![1, C, HP, WP] : Fin 4 → ℕ) a ≤ (⟨4, ![1, C, R, WP]⟩ : Shape).size a)
    (Wt : Vec Ideal ⟨3, ![9, O, C]⟩ .f32) (b : Vec Ideal ⟨3, ![O, 1, 1]⟩ .f32) {p : ℕ} (hoff : off = ![0, 0, p, 0])
    {w : Fin 9 → Fin O → Fin C → EReal} {B : Fin O → EReal} {Z : Fin C → Img}
    (hw : ∀ t o c, Wt (ix3 t o c) = w t o c) (hb : ∀ o, b (ix3 o 0 0) = B o)
    (hx : ∀ c i j, p + i < R → j < WP → img X 0 c (p + i) j = Z c (p + i) j) (o : Fin O) (i : Fin H) (j : Fin W) :
    kact hH hW X off inb Wt b (ix3 o i j) = conv w B Z o (p + i.val) j.val := by
  unfold kact
  rw [kconv_apply]
  have hR : p + HP ≤ R := by subst hoff; exact inb 2
  refine conv_congr (H := H) (W := W) (fun t o c => ?_) (fun o => ?_) (fun c r s hr hs => ?_) o i.isLt j.isLt
  · rw [← hw]
    fin_cases t <;> exact mat9_apply _ _ _ _
  · rw [col1_apply, hb]
  · rw [img3_of _ c (show r < HP by omega) (show s < WP by omega), rows4_apply X off inb hoff]
    exact hx c r s (by omega) (by omega)

/-- One encoder block as the kernel computes it. -/
def kenc (hH : H + 2 = HP) (hW : W + 2 = WP) (H2 W2 : ℕ) (n m : BitVec 32) (X : Vec Ideal ⟨4, ![1, C, R, WP]⟩ .f32)
    (off : Fin 4 → ℕ) (inb : ∀ a, off a + (![1, C, HP, WP] : Fin 4 → ℕ) a ≤ (⟨4, ![1, C, R, WP]⟩ : Shape).size a)
    (Wt : Vec Ideal ⟨3, ![9, O, C]⟩ .f32) (b : Vec Ideal ⟨3, ![O, 1, 1]⟩ .f32) : FVec Ideal ⟨4, ![1, O, H2, W2]⟩ .f32 :=
  shapeCast ⟨4, ![1, O, H2, W2]⟩ (kpool n m (kleaky (kact hH hW X off inb Wt b)) H2 W2) (casts_add4 _ _ _)

/-- An encoder block is the encoder stage of the images that the block is cut from, from row `q` of the result on. -/
theorem kenc_apply {H2 W2 : ℕ} (hH : H + 2 = HP) (hW : W + 2 = WP) (n m : BitVec 32) (hn : n.toNat + 1 = H) (hm : m.toNat + 1 = W)
    (hH2 : 2 * H2 = H) (hW2 : 2 * W2 = W) (hbH : H < 2 ^ 31) (hbW : W < 2 ^ 31) (X : Vec Ideal ⟨4, ![1, C, R, WP]⟩ .f32)
    (off : Fin 4 → ℕ) (inb : ∀ a, off a + (![1, C, HP, WP] : Fin 4 → ℕ) a ≤ (⟨4, ![1, C, R, WP]⟩ : Shape).size a)
    (Wt : Vec Ideal ⟨3, ![9, O, C]⟩ .f32) (b : Vec Ideal ⟨3, ![O, 1, 1]⟩ .f32) {q : ℕ} (hoff : off = ![0, 0, 2 * q, 0])
    {w : Fin 9 → Fin O → Fin C → EReal} {B : Fin O → EReal} {Z : Fin C → Img}
    (hw : ∀ t o c, Wt (ix3 t o c) = w t o c) (hb : ∀ o, b (ix3 o 0 0) = B o)
    (hx : ∀ c i j, 2 * q + i < R → j < WP → img X 0 c (2 * q + i) j = Z c (2 * q + i) j)
    (z : Fin 1) (o : Fin O) (i : Fin H2) (j : Fin W2) :
    kenc hH hW H2 W2 n m X off inb Wt b (ix4 z o i j) = enc w B Z o (q + i.val) j.val := by
  unfold kenc
  rw [cast_add4, kpool_apply n m hn hm hH2 hW2 hbH hbW]
  have key : ∀ r s, r < H → s < W → img3 (kleaky (kact hH hW X off inb Wt b)) o r s = leaky (conv w B Z o (2 * q + r) s) :=
    fun r s hr hs => by
      rw [img3_of _ o hr hs, kleaky_apply, kact_apply hH hW X off inb Wt b hoff hw hb hx]
  have h2 : 2 * (q + i.val) = 2 * q + 2 * i.val := by omega
  unfold enc pool
  rw [h2, Nat.add_assoc (2 * q) (2 * i.val) 1]
  beta_reduce
  rw [key _ _ (by omega) (by omega), key _ _ (by omega) (by omega), key _ _ (by omega) (by omega),
    key _ _ (by omega) (by omega)]

/-- One decoder block as the kernel computes it: `x` the block's images, `S` the skip connection. -/
def kdec (hH : H + 2 = HP) (N : ℕ) (cw lw : BitVec 32) (X : Vec Ideal ⟨4, ![1, C, R, HP]⟩ .f32) (off : Fin 4 → ℕ)
    (inb : ∀ a, off a + (![1, C, HP, HP] : Fin 4 → ℕ) a ≤ (⟨4, ![1, C, R, HP]⟩ : Shape).size a)
    (Wt : Vec Ideal ⟨3, ![9, O, C]⟩ .f32) (b : Vec Ideal ⟨3, ![O, 1, 1]⟩ .f32) (S : Vec Ideal ⟨4, ![1, O, H, H]⟩ .f32)
    (inbS : ∀ a, (![0, 0, 0, 0] : Fin 4 → ℕ) a + (![1, O, H, H] : Fin 4 → ℕ) a ≤ (⟨4, ![1, O, H, H]⟩ : Shape).size a) :
    FVec Ideal ⟨4, ![1, O, N, N]⟩ .f32 :=
  shapeCast ⟨4, ![1, O, N, N]⟩ (kup N H cw lw (addf (kleaky (kact hH hH X off inb Wt b)) (rows4 S ![0, 0, 0, 0] inbS)))
    (casts_add4 _ _ _)

/-- A decoder block is the decoder stage of the images that the block is cut from. -/
theorem kdec_apply {N : ℕ} {c : ℝ} (hs : Step H c) (hN : N = 2 * H) {cw lw : BitVec 32}
    (hc : Ideal.ofBits .f32 cw = (c : EReal)) (hl : Ideal.ofBits .f32 lw = (((H - 1 : ℕ) : ℝ) : EReal)) (hH : H + 2 = HP)
    (X : Vec Ideal ⟨4, ![1, C, R, HP]⟩ .f32) (off : Fin 4 → ℕ)
    (inb : ∀ a, off a + (![1, C, HP, HP] : Fin 4 → ℕ) a ≤ (⟨4, ![1, C, R, HP]⟩ : Shape).size a)
    (Wt : Vec Ideal ⟨3, ![9, O, C]⟩ .f32) (b : Vec Ideal ⟨3, ![O, 1, 1]⟩ .f32) (S : Vec Ideal ⟨4, ![1, O, H, H]⟩ .f32)
    (inbS : ∀ a, (![0, 0, 0, 0] : Fin 4 → ℕ) a + (![1, O, H, H] : Fin 4 → ℕ) a ≤ (⟨4, ![1, O, H, H]⟩ : Shape).size a)
    (hoff : off = ![0, 0, 0, 0])
    {w : Fin 9 → Fin O → Fin C → EReal} {B : Fin O → EReal} {Z : Fin C → Img} {Y : Fin O → Img}
    (hw : ∀ t o c, Wt (ix3 t o c) = w t o c) (hb : ∀ o, b (ix3 o 0 0) = B o)
    (hx : ∀ c i j, i < R → j < HP → img X 0 c i j = Z c i j) (hS : ∀ o i j, i < H → j < H → img S 0 o i j = Y o i j)
    (z : Fin 1) (o : Fin O) (i j : Fin N) :
    kdec hH N cw lw X off inb Wt b S inbS (ix4 z o i j) = dec H c w B Z Y o i.val j.val := by
  unfold kdec
  rw [cast_add4, kup_apply hs hN hc hl]
  refine up_congr hs hN (fun r s hr hs' => ?_) i.isLt j.isLt
  rw [img3_of _ o hr hs']
  show kleaky (kact hH hH X off inb Wt b) (ix3 o ⟨r, hr⟩ ⟨s, hs'⟩) + rows4 S ![0, 0, 0, 0] inbS (ix3 o ⟨r, hr⟩ ⟨s, hs'⟩) = _
  rw [kleaky_apply, kact_apply (p := 0) hH hH X off inb Wt b hoff hw hb (fun c i j => by rw [Nat.zero_add]; exact hx c i j),
    rows4_apply (p := 0) S _ inbS rfl, Nat.zero_add]
  exact congrArg (_ + ·) (hS o r s hr hs')

end Blocks

end Unet
-- ==== Proof.RegionRows.lean ====
/-
  The encoder's two regions that take a band of rows per grid point: what the result array of each holds.
-/
module

public import proofs.«01_k».proof.Proof.Gen.KernelIdeal.Frame.Region0
public import proofs.«01_k».proof.Proof.Gen.KernelIdeal.Frame.Region1
public import proofs.«01_k».proof.Proof.KernelEnc
public import Idealize.ShloMosaic.Lib.Pipeline.ValueKit

@[expose] public section

set_option maxRecDepth 16384

noncomputable section

namespace Unet

open Idealize.ShloMosaic Idealize.ShloMosaic.TcCoe Idealize.ShloMosaic.Tactic
open Cert.KernelIdeal Cert.KernelIdeal.Gen

variable (V : (c : Dev nD) → (b : Ref sig .tc) → Buf (Elt Ideal) ((c : Thread nD τ).loc b))

/-! ## Region 0: 3 to 8 channels, images of 512 rows in bands of 64 -/

/-- The offset of the rows that grid point `t` of region 0 loads. -/
theorem off0 : ∀ t : Fin cfg0.grid.N, k0_off1 (grid0.coords t) = ![0, 0, 2 * (t.val % 8 * 32), 0] :=
  (by decide +kernel : ∀ t : Fin grid0.N, _)

/-- What the body of region 0 leaves in its output block. -/
theorem out0_eq (c : Dev nD) (i : grid0.Coords) (a2 : Memref sig .tc .vmem S1x3x514x514 .f32) (h2 : a2.IsWhole)
    (a3 : Memref sig .tc .vmem S9x8x3 .f32) (h3 : a3.IsWhole) (a4 : Memref sig .tc .vmem S8x1x1 .f32) (h4 : a4.IsWhole)
    (a5 : Memref sig .tc .vmem S1x8x32x256 .f32) (h5 : a5.IsWhole)
    (x0 : Vec Ideal S1x3x514x514 .f32) (x1 : Vec Ideal S9x8x3 .f32) (x2 : Vec Ideal S8x1x1 .f32) :
    out0_A_3 c i a2 h2 a3 h3 a4 h4 a5 h5 x0 x1 x2 = kenc (H := 64) (W := 512) rfl rfl 32 256 63#32 511#32
      x0 (k0_off1 i) (k0_off1_inb i) x1 x2 := by
  have e : (kernelRun0_A c i a2 h2 a3 h3 a4 h4 a5 h5 x0 x1 x2).1
      = [⟨Rect.unit (s := S1x8x32x256) ![0, 0, 0, 0] S1x8x32x256.size inb_S1x8x32x256_S1x8x32x256_0_0_0_0,
        kenc (H := 64) (W := 512) rfl rfl 32 256 63#32 511#32 (a2.view.read (Elt Ideal) (h2.unread x0)) (k0_off1 i)
          (k0_off1_inb i) (a3.view.read (Elt Ideal) (h3.unread x1)) (a4.view.read (Elt Ideal) (h4.unread x2))⟩] := rfl
  unfold out0_A_3
  rw [e, View.read_writes_junk_eq_canon, View.canon_unit_zero zero4, h2.read_unread, h3.read_unread, h4.read_unread]

/-- The blocks of region 0: the image of one member of the batch, one band of the result, the weights and the bias whole. -/
theorem idx0 : ∀ t : Fin cfg0.grid.N,
    win0_0.index t 0 = t.val / 8 ∧ win0_0.index t 1 = 0 ∧ win0_0.index t 2 = 0 ∧ win0_0.index t 3 = 0
    ∧ win0_1.index t 0 = 0 ∧ win0_1.index t 1 = 0 ∧ win0_1.index t 2 = 0
    ∧ win0_2.index t 0 = 0 ∧ win0_2.index t 1 = 0 ∧ win0_2.index t 2 = 0
    ∧ win0_3.index t 0 = t.val / 8 ∧ win0_3.index t 1 = 0 ∧ win0_3.index t 2 = t.val % 8 ∧ win0_3.index t 3 = 0 :=
  (by decide +kernel : ∀ t : Fin grid0.N, _)

section
variable (c : Dev nD) (t : Fin cfg0.grid.N)

/-- The block of weights is the array. -/
theorem wts0 (t' : Fin 9) (o : Fin 8) (c' : Fin 3) :
    iblk0 V c 1 t (ix3 t' o c') = V c (Pipeline.arrRef spec0 1) (ix3 t' o c') := by
  blk_ext [iblk0, idx0 t]

/-- The block of the bias is the array. -/
theorem bias0 (o : Fin 8) : iblk0 V c 2 t (ix3 o 0 0) = V c (Pipeline.arrRef spec0 2) (ix3 o 0 0) := by
  blk_ext [iblk0, idx0 t]

/-- The block of images holds the images of one member of the batch. -/
theorem imgs0 (n : Fin 4) (hn : n.val = t.val / 8) (c' : Fin 3) (i j : ℕ) :
    img (iblk0 V c 0 t) 0 c' i j = img (V c (Pipeline.arrRef spec0 0)) n c' i j := by
  unfold img; split
  · blk_ext [iblk0, idx0 t]
  · rfl

/-- Where an element of the output block lies in the result. -/
theorem place0 (n : Fin 4) (hn : n.val = t.val / 8) (y0 : Fin 1) (y1 : Fin 8) (y2 : Fin 32) (y3 : Fin 256) (r : Fin 256)
    (hr : r.val = t.val % 8 * 32 + y2.val) : (win0_3.blk t).view.emb (ix4 y0 y1 y2 y3) = ix4 n y1 r y3 := by
  blk_ext [idx0 t]

end

/-- Region 0 computes the encoder stage of the array of its padded images. -/
theorem region0 (c : Dev nD) : (dat0 V c).arrAt 3 cfg0.N = encArr 8 256 256
    (fun t o c' => V c (Pipeline.arrRef spec0 1) (ix3 t o c')) (fun o => V c (Pipeline.arrRef spec0 2) (ix3 o 0 0))
    (V c (Pipeline.arrRef spec0 0)) := by
  refine (dat0 V c).arrAt_eq_of_covers 3 _ (by decide +kernel) fun t hf y => ?_
  blk_simp
  rw [after0_3]
  unfold outsAt0
  rw [out0_eq]
  idx_vars y
  have ht : t.val < 4 * 8 := t.isLt
  obtain ⟨n, hn⟩ : ∃ n : Fin 4, n.val = t.val / 8 := ⟨⟨t.val / 8, by omega⟩, rfl⟩
  obtain ⟨r, hr⟩ : ∃ r : Fin 256, r.val = t.val % 8 * 32 + y2.val := ⟨⟨t.val % 8 * 32 + y2.val, by omega⟩, rfl⟩
  rw [place0 t n hn _ _ _ _ r hr]
  refine (kenc_apply (H := 64) (W := 512) (q := t.val % 8 * 32) rfl rfl 63#32 511#32 rfl rfl rfl rfl (by norm_num) (by norm_num)
      _ _ _ _ _ (off0 t) (wts0 V c t) (bias0 V c t) (fun c' i j _ _ => imgs0 V c t n hn c' _ _) _ _ _ _).trans ?_
  rw [← hr]
  rfl

/-! ## Region 1: 8 to 16 channels, images of 256 rows in bands of 64 -/

/-- The offset of the rows that grid point `t` of region 1 loads. -/
theorem off1 : ∀ t : Fin cfg1.grid.N, k1_off1 (grid1.coords t) = ![0, 0, 2 * (t.val % 4 * 32), 0] :=
  (by decide +kernel : ∀ t : Fin grid1.N, _)

/-- What the body of region 1 leaves in its output block. -/
theorem out1_eq (c : Dev nD) (i : grid1.Coords) (a2 : Memref sig .tc .vmem S1x8x258x258 .f32) (h2 : a2.IsWhole)
    (a3 : Memref sig .tc .vmem S9x16x8 .f32) (h3 : a3.IsWhole) (a4 : Memref sig .tc .vmem S16x1x1 .f32) (h4 : a4.IsWhole)
    (a5 : Memref sig .tc .vmem S1x16x32x128 .f32) (h5 : a5.IsWhole)
    (x0 : Vec Ideal S1x8x258x258 .f32) (x1 : Vec Ideal S9x16x8 .f32) (x2 : Vec Ideal S16x1x1 .f32) :
    out1_A_3 c i a2 h2 a3 h3 a4 h4 a5 h5 x0 x1 x2 = kenc (H := 64) (W := 256) rfl rfl 32 128 63#32 255#32
      x0 (k1_off1 i) (k1_off1_inb i) x1 x2 := by
  have e : (kernelRun1_A c i a2 h2 a3 h3 a4 h4 a5 h5 x0 x1 x2).1
      = [⟨Rect.unit (s := S1x16x32x128) ![0, 0, 0, 0] S1x16x32x128.size inb_S1x16x32x128_S1x16x32x128_0_0_0_0,
        kenc (H := 64) (W := 256) rfl rfl 32 128 63#32 255#32 (a2.view.read (Elt Ideal) (h2.unread x0)) (k1_off1 i)
          (k1_off1_inb i) (a3.view.read (Elt Ideal) (h3.unread x1)) (a4.view.read (Elt Ideal) (h4.unread x2))⟩] := rfl
  unfold out1_A_3
  rw [e, View.read_writes_junk_eq_canon, View.canon_unit_zero zero4, h2.read_unread, h3.read_unread, h4.read_unread]

/-- The blocks of region 1: the image of one member of the batch, one band of the result, the weights and the bias whole. -/
theorem idx1 : ∀ t : Fin cfg1.grid.N,
    win1_0.index t 0 = t.val / 4 ∧ win1_0.index t 1 = 0 ∧ win1_0.index t 2 = 0 ∧ win1_0.index t 3 = 0
    ∧ win1_1.index t 0 = 0 ∧ win1_1.index t 1 = 0 ∧ win1_1.index t 2 = 0
    ∧ win1_2.index t 0 = 0 ∧ win1_2.index t 1 = 0 ∧ win1_2.index t 2 = 0
    ∧ win1_3.index t 0 = t.val / 4 ∧ win1_3.index t 1 = 0 ∧ win1_3.index t 2 = t.val % 4 ∧ win1_3.index t 3 = 0 :=
  (by decide +kernel : ∀ t : Fin grid1.N, _)

section
variable (c : Dev nD) (t : Fin cfg1.grid.N)

/-- The block of weights is the array. -/
theorem wts1 (t' : Fin 9) (o : Fin 16) (c' : Fin 8) :
    iblk1 V c 1 t (ix3 t' o c') = V c (Pipeline.arrRef spec1 1) (ix3 t' o c') := by
  blk_ext [iblk1, idx1 t]

/-- The block of the bias is the array. -/
theorem bias1 (o : Fin 16) : iblk1 V c 2 t (ix3 o 0 0) = V c (Pipeline.arrRef spec1 2) (ix3 o 0 0) := by
  blk_ext [iblk1, idx1 t]

/-- The block of images holds the images of one member of the batch. -/
theorem imgs1 (n : Fin 4) (hn : n.val = t.val / 4) (c' : Fin 8) (i j : ℕ) :
    img (iblk1 V c 0 t) 0 c' i j = img (V c (Pipeline.arrRef spec1 0)) n c' i j := by
  unfold img; split
  · blk_ext [iblk1, idx1 t]
  · rfl

/-- Where an element of the output block lies in the result. -/
theorem place1 (n : Fin 4) (hn : n.val = t.val / 4) (y0 : Fin 1) (y1 : Fin 16) (y2 : Fin 32) (y3 : Fin 128) (r : Fin 128)
    (hr : r.val = t.val % 4 * 32 + y2.val) : (win1_3.blk t).view.emb (ix4 y0 y1 y2 y3) = ix4 n y1 r y3 := by
  blk_ext [idx1 t]

end

/-- Region 1 computes the encoder stage of the array of its padded images. -/
theorem region1 (c : Dev nD) : (dat1 V c).arrAt 3 cfg1.N = encArr 16 128 128
    (fun t o c' => V c (Pipeline.arrRef spec1 1) (ix3 t o c')) (fun o => V c (Pipeline.arrRef spec1 2) (ix3 o 0 0))
    (V c (Pipeline.arrRef spec1 0)) := by
  refine (dat1 V c).arrAt_eq_of_covers 3 _ (by decide +kernel) fun t hf y => ?_
  blk_simp
  rw [after1_3]
  unfold outsAt1
  rw [out1_eq]
  idx_vars y
  have ht : t.val < 4 * 4 := t.isLt
  obtain ⟨n, hn⟩ : ∃ n : Fin 4, n.val = t.val / 4 := ⟨⟨t.val / 4, by omega⟩, rfl⟩
  obtain ⟨r, hr⟩ : ∃ r : Fin 128, r.val = t.val % 4 * 32 + y2.val := ⟨⟨t.val % 4 * 32 + y2.val, by omega⟩, rfl⟩
  rw [place1 t n hn _ _ _ _ r hr]
  refine (kenc_apply (H := 64) (W := 256) (q := t.val % 4 * 32) rfl rfl 63#32 255#32 rfl rfl rfl rfl (by norm_num) (by norm_num)
      _ _ _ _ _ (off1 t) (wts1 V c t) (bias1 V c t) (fun c' i j _ _ => imgs1 V c t n hn c' _ _) _ _ _ _).trans ?_
  rw [← hr]
  rfl

end Unet
-- ==== Proof.RegionEnc.lean ====
/-
  The encoder's regions that take one image per grid point: what the result array of each holds.
-/
module

public import proofs.«01_k».proof.Proof.Gen.KernelIdeal.Frame.Region2
public import proofs.«01_k».proof.Proof.Gen.KernelIdeal.Frame.Region3
public import proofs.«01_k».proof.Proof.Gen.KernelIdeal.Frame.Region4
public import proofs.«01_k».proof.Proof.KernelEnc
public import Idealize.ShloMosaic.Lib.Pipeline.ValueKit

@[expose] public section

set_option maxRecDepth 16384

noncomputable section

namespace Unet

open Idealize.ShloMosaic Idealize.ShloMosaic.TcCoe Idealize.ShloMosaic.Tactic
open Cert.KernelIdeal Cert.KernelIdeal.Gen

variable (V : (c : Dev nD) → (b : Ref sig .tc) → Buf (Elt Ideal) ((c : Thread nD τ).loc b))

/-! ## Region 2: 16 to 32 channels, images of 128 rows -/

/-- What the body of region 2 leaves in its output block. -/
theorem out2_eq (x0 : Vec Ideal S1x16x130x130 .f32) (x1 : Vec Ideal S9x32x16 .f32) (x2 : Vec Ideal S32x1x1 .f32) :
    out2_3 x0 x1 x2 = View.canon [⟨r2_11, kenc (H := 128) (W := 128) rfl rfl 64 64 127#32 127#32
      x0 ![0, 0, 0, 0] inb_S1x16x130x130_S1x16x130x130_0_0_0_0 x1 x2⟩] := rfl

/-- The blocks of region 2: one image per grid point, the weights and the bias whole. -/
theorem idx2 : ∀ t : Fin cfg2.grid.N,
    win2_0.index t 0 = t.val ∧ win2_0.index t 1 = 0 ∧ win2_0.index t 2 = 0 ∧ win2_0.index t 3 = 0
    ∧ win2_1.index t 0 = 0 ∧ win2_1.index t 1 = 0 ∧ win2_1.index t 2 = 0
    ∧ win2_2.index t 0 = 0 ∧ win2_2.index t 1 = 0 ∧ win2_2.index t 2 = 0
    ∧ win2_3.index t 0 = t.val ∧ win2_3.index t 1 = 0 ∧ win2_3.index t 2 = 0 ∧ win2_3.index t 3 = 0 :=
  (by decide +kernel : ∀ t : Fin grid2.N, _)

section
variable (c : Dev nD) (t : Fin cfg2.grid.N)

/-- The block of weights is the array. -/
theorem wts2 (t' : Fin 9) (o : Fin 32) (c' : Fin 16) :
    iblk2 V c 1 t (ix3 t' o c') = V c (Pipeline.arrRef spec2 1) (ix3 t' o c') := by
  blk_ext [iblk2, idx2 t]

/-- The block of the bias is the array. -/
theorem bias2 (o : Fin 32) : iblk2 V c 2 t (ix3 o 0 0) = V c (Pipeline.arrRef spec2 2) (ix3 o 0 0) := by
  blk_ext [iblk2, idx2 t]

/-- The block of images holds the images of one member of the batch. -/
theorem imgs2 (n : Fin 4) (hn : n.val = t.val) (c' : Fin 16) (i j : ℕ) :
    img (iblk2 V c 0 t) 0 c' i j = img (V c (Pipeline.arrRef spec2 0)) n c' i j := by
  unfold img; split
  · blk_ext [iblk2, idx2 t]
  · rfl

/-- Where an element of the output block lies in the result. -/
theorem place2 (n : Fin 4) (hn : n.val = t.val) (y0 : Fin 1) (y1 : Fin 32) (y2 y3 : Fin 64) :
    (win2_3.blk t).view.emb (ix4 y0 y1 y2 y3) = ix4 n y1 y2 y3 := by
  blk_ext [idx2 t]

end

/-- Region 2 computes the encoder stage of the array of its padded images. -/
theorem region2 (c : Dev nD) : (dat2 V c).arrAt 3 cfg2.N = encArr 32 64 64
    (fun t o c' => V c (Pipeline.arrRef spec2 1) (ix3 t o c')) (fun o => V c (Pipeline.arrRef spec2 2) (ix3 o 0 0))
    (V c (Pipeline.arrRef spec2 0)) := by
  refine (dat2 V c).arrAt_eq_of_covers 3 _ (by decide +kernel) fun t hf y => ?_
  blk_simp
  rw [after2_3, out2_eq, View.canon_unit_zero zero4]
  idx_vars y
  obtain ⟨n, hn⟩ : ∃ n : Fin 4, n.val = t.val := ⟨⟨t.val, t.isLt⟩, rfl⟩
  rw [place2 t n hn]
  refine (kenc_apply (H := 128) (W := 128) (q := 0) rfl rfl 127#32 127#32 rfl rfl rfl rfl (by norm_num) (by norm_num)
      _ _ _ _ _ rfl (wts2 V c t) (bias2 V c t) (fun c' i j _ _ => imgs2 V c t n hn c' _ _) _ _ _ _).trans ?_
  rw [Nat.zero_add]
  rfl

/-! ## Region 3: 32 to 64 channels, images of 64 rows -/

/-- What the body of region 3 leaves in its output block. -/
theorem out3_eq (x0 : Vec Ideal S1x32x66x66 .f32) (x1 : Vec Ideal S9x64x32 .f32) (x2 : Vec Ideal S64x1x1 .f32) :
    out3_3 x0 x1 x2 = View.canon [⟨r3_11, kenc (H := 64) (W := 64) rfl rfl 32 32 63#32 63#32
      x0 ![0, 0, 0, 0] inb_S1x32x66x66_S1x32x66x66_0_0_0_0 x1 x2⟩] := rfl

/-- The blocks of region 3: one image per grid point, the weights and the bias whole. -/
theorem idx3 : ∀ t : Fin cfg3.grid.N,
    win3_0.index t 0 = t.val ∧ win3_0.index t 1 = 0 ∧ win3_0.index t 2 = 0 ∧ win3_0.index t 3 = 0
    ∧ win3_1.index t 0 = 0 ∧ win3_1.index t 1 = 0 ∧ win3_1.index t 2 = 0
    ∧ win3_2.index t 0 = 0 ∧ win3_2.index t 1 = 0 ∧ win3_2.index t 2 = 0
    ∧ win3_3.index t 0 = t.val ∧ win3_3.index t 1 = 0 ∧ win3_3.index t 2 = 0 ∧ win3_3.index t 3 = 0 :=
  (by decide +kernel : ∀ t : Fin grid3.N, _)

section
variable (c : Dev nD) (t : Fin cfg3.grid.N)

/-- The block of weights is the array. -/
theorem wts3 (t' : Fin 9) (o : Fin 64) (c' : Fin 32) :
    iblk3 V c 1 t (ix3 t' o c') = V c (Pipeline.arrRef spec3 1) (ix3 t' o c') := by
  blk_ext [iblk3, idx3 t]

/-- The block of the bias is the array. -/
theorem bias3 (o : Fin 64) : iblk3 V c 2 t (ix3 o 0 0) = V c (Pipeline.arrRef spec3 2) (ix3 o 0 0) := by
  blk_ext [iblk3, idx3 t]

/-- The block of images holds the images of one member of the batch. -/
theorem imgs3 (n : Fin 4) (hn : n.val = t.val) (c' : Fin 32) (i j : ℕ) :
    img (iblk3 V c 0 t) 0 c' i j = img (V c (Pipeline.arrRef spec3 0)) n c' i j := by
  unfold img; split
  · blk_ext [iblk3, idx3 t]
  · rfl

/-- Where an element of the output block lies in the result. -/
theorem place3 (n : Fin 4) (hn : n.val = t.val) (y0 : Fin 1) (y1 : Fin 64) (y2 y3 : Fin 32) :
    (win3_3.blk t).view.emb (ix4 y0 y1 y2 y3) = ix4 n y1 y2 y3 := by
  blk_ext [idx3 t]

end

/-- Region 3 computes the encoder stage of the array of its padded images. -/
theorem region3 (c : Dev nD) : (dat3 V c).arrAt 3 cfg3.N = encArr 64 32 32
    (fun t o c' => V c (Pipeline.arrRef spec3 1) (ix3 t o c')) (fun o => V c (Pipeline.arrRef spec3 2) (ix3 o 0 0))
    (V c (Pipeline.arrRef spec3 0)) := by
  refine (dat3 V c).arrAt_eq_of_covers 3 _ (by decide +kernel) fun t hf y => ?_
  blk_simp
  rw [after3_3, out3_eq, View.canon_unit_zero zero4]
  idx_vars y
  obtain ⟨n, hn⟩ : ∃ n : Fin 4, n.val = t.val := ⟨⟨t.val, t.isLt⟩, rfl⟩
  rw [place3 t n hn]
  refine (kenc_apply (H := 64) (W := 64) (q := 0) rfl rfl 63#32 63#32 rfl rfl rfl rfl (by norm_num) (by norm_num)
      _ _ _ _ _ rfl (wts3 V c t) (bias3 V c t) (fun c' i j _ _ => imgs3 V c t n hn c' _ _) _ _ _ _).trans ?_
  rw [Nat.zero_add]
  rfl

/-! ## Region 4: 64 to 128 channels, images of 32 rows -/

/-- What the body of region 4 leaves in its output block. -/
theorem out4_eq (x0 : Vec Ideal S1x64x34x34 .f32) (x1 : Vec Ideal S9x128x64 .f32) (x2 : Vec Ideal S128x1x1 .f32) :
    out4_3 x0 x1 x2 = View.canon [⟨r4_11, kenc (H := 32) (W := 32) rfl rfl 16 16 31#32 31#32
      x0 ![0, 0, 0, 0] inb_S1x64x34x34_S1x64x34x34_0_0_0_0 x1 x2⟩] := rfl

/-- The blocks of region 4: one image per grid point, the weights and the bias whole. -/
theorem idx4 : ∀ t : Fin cfg4.grid.N,
    win4_0.index t 0 = t.val ∧ win4_0.index t 1 = 0 ∧ win4_0.index t 2 = 0 ∧ win4_0.index t 3 = 0
    ∧ win4_1.index t 0 = 0 ∧ win4_1.index t 1 = 0 ∧ win4_1.index t 2 = 0
    ∧ win4_2.index t 0 = 0 ∧ win4_2.index t 1 = 0 ∧ win4_2.index t 2 = 0
    ∧ win4_3.index t 0 = t.val ∧ win4_3.index t 1 = 0 ∧ win4_3.index t 2 = 0 ∧ win4_3.index t 3 = 0 :=
  (by decide +kernel : ∀ t : Fin grid4.N, _)

section
variable (c : Dev nD) (t : Fin cfg4.grid.N)

/-- The block of weights is the array. -/
theorem wts4 (t' : Fin 9) (o : Fin 128) (c' : Fin 64) :
    iblk4 V c 1 t (ix3 t' o c') = V c (Pipeline.arrRef spec4 1) (ix3 t' o c') := by
  blk_ext [iblk4, idx4 t]

/-- The block of the bias is the array. -/
theorem bias4 (o : Fin 128) : iblk4 V c 2 t (ix3 o 0 0) = V c (Pipeline.arrRef spec4 2) (ix3 o 0 0) := by
  blk_ext [iblk4, idx4 t]

/-- The block of images holds the images of one member of the batch. -/
theorem imgs4 (n : Fin 4) (hn : n.val = t.val) (c' : Fin 64) (i j : ℕ) :
    img (iblk4 V c 0 t) 0 c' i j = img (V c (Pipeline.arrRef spec4 0)) n c' i j := by
  unfold img; split
  · blk_ext [iblk4, idx4 t]
  · rfl

/-- Where an element of the output block lies in the result. -/
theorem place4 (n : Fin 4) (hn : n.val = t.val) (y0 : Fin 1) (y1 : Fin 128) (y2 y3 : Fin 16) :
    (win4_3.blk t).view.emb (ix4 y0 y1 y2 y3) = ix4 n y1 y2 y3 := by
  blk_ext [idx4 t]

end

/-- Region 4 computes the encoder stage of the array of its padded images. -/
theorem region4 (c : Dev nD) : (dat4 V c).arrAt 3 cfg4.N = encArr 128 16 16
    (fun t o c' => V c (Pipeline.arrRef spec4 1) (ix3 t o c')) (fun o => V c (Pipeline.arrRef spec4 2) (ix3 o 0 0))
    (V c (Pipeline.arrRef spec4 0)) := by
  refine (dat4 V c).arrAt_eq_of_covers 3 _ (by decide +kernel) fun t hf y => ?_
  blk_simp
  rw [after4_3, out4_eq, View.canon_unit_zero zero4]
  idx_vars y
  obtain ⟨n, hn⟩ : ∃ n : Fin 4, n.val = t.val := ⟨⟨t.val, t.isLt⟩, rfl⟩
  rw [place4 t n hn]
  refine (kenc_apply (H := 32) (W := 32) (q := 0) rfl rfl 31#32 31#32 rfl rfl rfl rfl (by norm_num) (by norm_num)
      _ _ _ _ _ rfl (wts4 V c t) (bias4 V c t) (fun c' i j _ _ => imgs4 V c t n hn c' _ _) _ _ _ _).trans ?_
  rw [Nat.zero_add]
  rfl

end Unet
-- ==== Proof.RegionDec.lean ====
/-
  The decoder's regions: what the result array of each holds.
-/
module

public import proofs.«01_k».proof.Proof.Gen.KernelIdeal.Frame.Region6
public import proofs.«01_k».proof.Proof.Gen.KernelIdeal.Frame.Region7
public import proofs.«01_k».proof.Proof.Gen.KernelIdeal.Frame.Region8
public import proofs.«01_k».proof.Proof.Gen.KernelIdeal.Frame.Region9
public import proofs.«01_k».proof.Proof.KernelEnc
public import Idealize.ShloMosaic.Lib.Pipeline.ValueKit

@[expose] public section

set_option maxRecDepth 16384

noncomputable section

namespace Unet

open Idealize.ShloMosaic Idealize.ShloMosaic.TcCoe Idealize.ShloMosaic.Tactic
open Cert.KernelIdeal Cert.KernelIdeal.Gen

variable (V : (c : Dev nD) → (b : Ref sig .tc) → Buf (Elt Ideal) ((c : Thread nD τ).loc b))

/-! ## Region 6: 128 to 64 channels, images of 32 rows -/

/-- What the body of region 6 leaves in its output block. -/
theorem out6_eq (x0 : Vec Ideal S1x128x34x34 .f32) (x1 : Vec Ideal S1x64x32x32 .f32) (x2 : Vec Ideal S9x64x128 .f32)
    (x3 : Vec Ideal S64x1x1 .f32) :
    out6_4 x0 x1 x2 x3 = View.canon [⟨r6_12, kdec (H := 32) rfl 64 0x3EFBEFBF#32 0x41F80000#32
      x0 ![0, 0, 0, 0] inb_S1x128x34x34_S1x128x34x34_0_0_0_0 x2 x3 x1
      inb_S1x64x32x32_S1x64x32x32_0_0_0_0⟩] := rfl

/-- The blocks of region 6: one image and one skip connection per grid point, the weights and the bias whole. -/
theorem idx6 : ∀ t : Fin cfg6.grid.N,
    win6_0.index t 0 = t.val ∧ win6_0.index t 1 = 0 ∧ win6_0.index t 2 = 0 ∧ win6_0.index t 3 = 0
    ∧ win6_1.index t 0 = t.val ∧ win6_1.index t 1 = 0 ∧ win6_1.index t 2 = 0 ∧ win6_1.index t 3 = 0
    ∧ win6_2.index t 0 = 0 ∧ win6_2.index t 1 = 0 ∧ win6_2.index t 2 = 0
    ∧ win6_3.index t 0 = 0 ∧ win6_3.index t 1 = 0 ∧ win6_3.index t 2 = 0
    ∧ win6_4.index t 0 = t.val ∧ win6_4.index t 1 = 0 ∧ win6_4.index t 2 = 0 ∧ win6_4.index t 3 = 0 :=
  (by decide +kernel : ∀ t : Fin grid6.N, _)

section
variable (c : Dev nD) (t : Fin cfg6.grid.N)

/-- The block of weights is the array. -/
theorem wts6 (t' : Fin 9) (o : Fin 64) (c' : Fin 128) :
    iblk6 V c 2 t (ix3 t' o c') = V c (Pipeline.arrRef spec6 2) (ix3 t' o c') := by
  blk_ext [iblk6, idx6 t]

/-- The block of the bias is the array. -/
theorem bias6 (o : Fin 64) : iblk6 V c 3 t (ix3 o 0 0) = V c (Pipeline.arrRef spec6 3) (ix3 o 0 0) := by
  blk_ext [iblk6, idx6 t]

/-- The block of images holds the images of one member of the batch. -/
theorem imgs6 (n : Fin 4) (hn : n.val = t.val) (c' : Fin 128) (i j : ℕ) :
    img (iblk6 V c 0 t) 0 c' i j = img (V c (Pipeline.arrRef spec6 0)) n c' i j := by
  unfold img; split
  · blk_ext [iblk6, idx6 t]
  · rfl

/-- So does the block of skip connections. -/
theorem skip6 (n : Fin 4) (hn : n.val = t.val) (c' : Fin 64) (i j : ℕ) :
    img (iblk6 V c 1 t) 0 c' i j = img (V c (Pipeline.arrRef spec6 1)) n c' i j := by
  unfold img; split
  · blk_ext [iblk6, idx6 t]
  · rfl

/-- Where an element of the output block lies in the result. -/
theorem place6 (n : Fin 4) (hn : n.val = t.val) (y0 : Fin 1) (y1 : Fin 64) (y2 y3 : Fin 64) :
    (win6_4.blk t).view.emb (ix4 y0 y1 y2 y3) = ix4 n y1 y2 y3 := by
  blk_ext [idx6 t]

end

/-- Region 6 computes the decoder stage of the array of its padded images. -/
theorem region6 (c : Dev nD) : (dat6 V c).arrAt 4 cfg6.N = decArr 64 64 32 step32
    (fun t o c' => V c (Pipeline.arrRef spec6 2) (ix3 t o c')) (fun o => V c (Pipeline.arrRef spec6 3) (ix3 o 0 0))
    (V c (Pipeline.arrRef spec6 0)) (V c (Pipeline.arrRef spec6 1)) := by
  refine (dat6 V c).arrAt_eq_of_covers 4 _ (by decide +kernel) fun t hf y => ?_
  blk_simp
  rw [after6_4, out6_eq, View.canon_unit_zero zero4]
  idx_vars y
  obtain ⟨n, hn⟩ : ∃ n : Fin 4, n.val = t.val := ⟨⟨t.val, t.isLt⟩, rfl⟩
  rw [place6 t n hn]
  exact kdec_apply ok32 rfl word32 last32 rfl _ _ _ _ _ _ _ rfl (wts6 V c t) (bias6 V c t)
    (fun c' i j _ _ => imgs6 V c t n hn c' i j) (fun o i j _ _ => skip6 V c t n hn o i j) _ _ _ _

/-! ## Region 7: 64 to 32 channels, images of 64 rows -/

/-- What the body of region 7 leaves in its output block. -/
theorem out7_eq (x0 : Vec Ideal S1x64x66x66 .f32) (x1 : Vec Ideal S1x32x64x64 .f32) (x2 : Vec Ideal S9x32x64 .f32)
    (x3 : Vec Ideal S32x1x1 .f32) :
    out7_4 x0 x1 x2 x3 = View.canon [⟨r7_12, kdec (H := 64) rfl 128 0x3EFDFBF8#32 0x427C0000#32
      x0 ![0, 0, 0, 0] inb_S1x64x66x66_S1x64x66x66_0_0_0_0 x2 x3 x1
      inb_S1x32x64x64_S1x32x64x64_0_0_0_0⟩] := rfl

/-- The blocks of region 7: one image and one skip connection per grid point, the weights and the bias whole. -/
theorem idx7 : ∀ t : Fin cfg7.grid.N,
    win7_0.index t 0 = t.val ∧ win7_0.index t 1 = 0 ∧ win7_0.index t 2 = 0 ∧ win7_0.index t 3 = 0
    ∧ win7_1.index t 0 = t.val ∧ win7_1.index t 1 = 0 ∧ win7_1.index t 2 = 0 ∧ win7_1.index t 3 = 0
    ∧ win7_2.index t 0 = 0 ∧ win7_2.index t 1 = 0 ∧ win7_2.index t 2 = 0
    ∧ win7_3.index t 0 = 0 ∧ win7_3.index t 1 = 0 ∧ win7_3.index t 2 = 0
    ∧ win7_4.index t 0 = t.val ∧ win7_4.index t 1 = 0 ∧ win7_4.index t 2 = 0 ∧ win7_4.index t 3 = 0 :=
  (by decide +kernel : ∀ t : Fin grid7.N, _)

section
variable (c : Dev nD) (t : Fin cfg7.grid.N)

/-- The block of weights is the array. -/
theorem wts7 (t' : Fin 9) (o : Fin 32) (c' : Fin 64) :
    iblk7 V c 2 t (ix3 t' o c') = V c (Pipeline.arrRef spec7 2) (ix3 t' o c') := by
  blk_ext [iblk7, idx7 t]

/-- The block of the bias is the array. -/
theorem bias7 (o : Fin 32) : iblk7 V c 3 t (ix3 o 0 0) = V c (Pipeline.arrRef spec7 3) (ix3 o 0 0) := by
  blk_ext [iblk7, idx7 t]

/-- The block of images holds the images of one member of the batch. -/
theorem imgs7 (n : Fin 4) (hn : n.val = t.val) (c' : Fin 64) (i j : ℕ) :
    img (iblk7 V c 0 t) 0 c' i j = img (V c (Pipeline.arrRef spec7 0)) n c' i j := by
  unfold img; split
  · blk_ext [iblk7, idx7 t]
  · rfl

/-- So does the block of skip connections. -/
theorem skip7 (n : Fin 4) (hn : n.val = t.val) (c' : Fin 32) (i j : ℕ) :
    img (iblk7 V c 1 t) 0 c' i j = img (V c (Pipeline.arrRef spec7 1)) n c' i j := by
  unfold img; split
  · blk_ext [iblk7, idx7 t]
  · rfl

/-- Where an element of the output block lies in the result. -/
theorem place7 (n : Fin 4) (hn : n.val = t.val) (y0 : Fin 1) (y1 : Fin 32) (y2 y3 : Fin 128) :
    (win7_4.blk t).view.emb (ix4 y0 y1 y2 y3) = ix4 n y1 y2 y3 := by
  blk_ext [idx7 t]

end

/-- Region 7 computes the decoder stage of the array of its padded images. -/
theorem region7 (c : Dev nD) : (dat7 V c).arrAt 4 cfg7.N = decArr 32 128 64 step64
    (fun t o c' => V c (Pipeline.arrRef spec7 2) (ix3 t o c')) (fun o => V c (Pipeline.arrRef spec7 3) (ix3 o 0 0))
    (V c (Pipeline.arrRef spec7 0)) (V c (Pipeline.arrRef spec7 1)) := by
  refine (dat7 V c).arrAt_eq_of_covers 4 _ (by decide +kernel) fun t hf y => ?_
  blk_simp
  rw [after7_4, out7_eq, View.canon_unit_zero zero4]
  idx_vars y
  obtain ⟨n, hn⟩ : ∃ n : Fin 4, n.val = t.val := ⟨⟨t.val, t.isLt⟩, rfl⟩
  rw [place7 t n hn]
  exact kdec_apply ok64 rfl word64 last64 rfl _ _ _ _ _ _ _ rfl (wts7 V c t) (bias7 V c t)
    (fun c' i j _ _ => imgs7 V c t n hn c' i j) (fun o i j _ _ => skip7 V c t n hn o i j) _ _ _ _

/-! ## Region 8: 32 to 16 channels, images of 128 rows -/

/-- What the body of region 8 leaves in its output block. -/
theorem out8_eq (x0 : Vec Ideal S1x32x130x130 .f32) (x1 : Vec Ideal S1x16x128x128 .f32) (x2 : Vec Ideal S9x16x32 .f32)
    (x3 : Vec Ideal S16x1x1 .f32) :
    out8_4 x0 x1 x2 x3 = View.canon [⟨r8_12, kdec (H := 128) rfl 256 0x3EFEFEFF#32 0x42FE0000#32
      x0 ![0, 0, 0, 0] inb_S1x32x130x130_S1x32x130x130_0_0_0_0 x2 x3 x1
      inb_S1x16x128x128_S1x16x128x128_0_0_0_0⟩] := rfl

/-- The blocks of region 8: one image and one skip connection per grid point, the weights and the bias whole. -/
theorem idx8 : ∀ t : Fin cfg8.grid.N,
    win8_0.index t 0 = t.val ∧ win8_0.index t 1 = 0 ∧ win8_0.index t 2 = 0 ∧ win8_0.index t 3 = 0
    ∧ win8_1.index t 0 = t.val ∧ win8_1.index t 1 = 0 ∧ win8_1.index t 2 = 0 ∧ win8_1.index t 3 = 0
    ∧ win8_2.index t 0 = 0 ∧ win8_2.index t 1 = 0 ∧ win8_2.index t 2 = 0
    ∧ win8_3.index t 0 = 0 ∧ win8_3.index t 1 = 0 ∧ win8_3.index t 2 = 0
    ∧ win8_4.index t 0 = t.val ∧ win8_4.index t 1 = 0 ∧ win8_4.index t 2 = 0 ∧ win8_4.index t 3 = 0 :=
  (by decide +kernel : ∀ t : Fin grid8.N, _)

section
variable (c : Dev nD) (t : Fin cfg8.grid.N)

/-- The block of weights is the array. -/
theorem wts8 (t' : Fin 9) (o : Fin 16) (c' : Fin 32) :
    iblk8 V c 2 t (ix3 t' o c') = V c (Pipeline.arrRef spec8 2) (ix3 t' o c') := by
  blk_ext [iblk8, idx8 t]

/-- The block of the bias is the array. -/
theorem bias8 (o : Fin 16) : iblk8 V c 3 t (ix3 o 0 0) = V c (Pipeline.arrRef spec8 3) (ix3 o 0 0) := by
  blk_ext [iblk8, idx8 t]

/-- The block of images holds the images of one member of the batch. -/
theorem imgs8 (n : Fin 4) (hn : n.val = t.val) (c' : Fin 32) (i j : ℕ) :
    img (iblk8 V c 0 t) 0 c' i j = img (V c (Pipeline.arrRef spec8 0)) n c' i j := by
  unfold img; split
  · blk_ext [iblk8, idx8 t]
  · rfl

/-- So does the block of skip connections. -/
theorem skip8 (n : Fin 4) (hn : n.val = t.val) (c' : Fin 16) (i j : ℕ) :
    img (iblk8 V c 1 t) 0 c' i j = img (V c (Pipeline.arrRef spec8 1)) n c' i j := by
  unfold img; split
  · blk_ext [iblk8, idx8 t]
  · rfl

/-- Where an element of the output block lies in the result. -/
theorem place8 (n : Fin 4) (hn : n.val = t.val) (y0 : Fin 1) (y1 : Fin 16) (y2 y3 : Fin 256) :
    (win8_4.blk t).view.emb (ix4 y0 y1 y2 y3) = ix4 n y1 y2 y3 := by
  blk_ext [idx8 t]

end

/-- Region 8 computes the decoder stage of the array of its padded images. -/
theorem region8 (c : Dev nD) : (dat8 V c).arrAt 4 cfg8.N = decArr 16 256 128 step128
    (fun t o c' => V c (Pipeline.arrRef spec8 2) (ix3 t o c')) (fun o => V c (Pipeline.arrRef spec8 3) (ix3 o 0 0))
    (V c (Pipeline.arrRef spec8 0)) (V c (Pipeline.arrRef spec8 1)) := by
  refine (dat8 V c).arrAt_eq_of_covers 4 _ (by decide +kernel) fun t hf y => ?_
  blk_simp
  rw [after8_4, out8_eq, View.canon_unit_zero zero4]
  idx_vars y
  obtain ⟨n, hn⟩ : ∃ n : Fin 4, n.val = t.val := ⟨⟨t.val, t.isLt⟩, rfl⟩
  rw [place8 t n hn]
  exact kdec_apply ok128 rfl word128 last128 rfl _ _ _ _ _ _ _ rfl (wts8 V c t) (bias8 V c t)
    (fun c' i j _ _ => imgs8 V c t n hn c' i j) (fun o i j _ _ => skip8 V c t n hn o i j) _ _ _ _

/-! ## Region 9: 16 to 8 channels, images of 256 rows -/

/-- What the body of region 9 leaves in its output block. -/
theorem out9_eq (x0 : Vec Ideal S1x16x258x258 .f32) (x1 : Vec Ideal S1x8x256x256 .f32) (x2 : Vec Ideal S9x8x16 .f32)
    (x3 : Vec Ideal S8x1x1 .f32) :
    out9_4 x0 x1 x2 x3 = View.canon [⟨r9_12, kdec (H := 256) rfl 512 0x3EFF7FC0#32 0x437F0000#32
      x0 ![0, 0, 0, 0] inb_S1x16x258x258_S1x16x258x258_0_0_0_0 x2 x3 x1
      inb_S1x8x256x256_S1x8x256x256_0_0_0_0⟩] := rfl

/-- The blocks of region 9: one image and one skip connection per grid point, the weights and the bias whole. -/
theorem idx9 : ∀ t : Fin cfg9.grid.N,
    win9_0.index t 0 = t.val ∧ win9_0.index t 1 = 0 ∧ win9_0.index t 2 = 0 ∧ win9_0.index t 3 = 0
    ∧ win9_1.index t 0 = t.val ∧ win9_1.index t 1 = 0 ∧ win9_1.index t 2 = 0 ∧ win9_1.index t 3 = 0
    ∧ win9_2.index t 0 = 0 ∧ win9_2.index t 1 = 0 ∧ win9_2.index t 2 = 0
    ∧ win9_3.index t 0 = 0 ∧ win9_3.index t 1 = 0 ∧ win9_3.index t 2 = 0
    ∧ win9_4.index t 0 = t.val ∧ win9_4.index t 1 = 0 ∧ win9_4.index t 2 = 0 ∧ win9_4.index t 3 = 0 :=
  (by decide +kernel : ∀ t : Fin grid9.N, _)

section
variable (c : Dev nD) (t : Fin cfg9.grid.N)

/-- The block of weights is the array. -/
theorem wts9 (t' : Fin 9) (o : Fin 8) (c' : Fin 16) :
    iblk9 V c 2 t (ix3 t' o c') = V c (Pipeline.arrRef spec9 2) (ix3 t' o c') := by
  blk_ext [iblk9, idx9 t]

/-- The block of the bias is the array. -/
theorem bias9 (o : Fin 8) : iblk9 V c 3 t (ix3 o 0 0) = V c (Pipeline.arrRef spec9 3) (ix3 o 0 0) := by
  blk_ext [iblk9, idx9 t]

/-- The block of images holds the images of one member of the batch. -/
theorem imgs9 (n : Fin 4) (hn : n.val = t.val) (c' : Fin 16) (i j : ℕ) :
    img (iblk9 V c 0 t) 0 c' i j = img (V c (Pipeline.arrRef spec9 0)) n c' i j := by
  unfold img; split
  · blk_ext [iblk9, idx9 t]
  · rfl

/-- So does the block of skip connections. -/
theorem skip9 (n : Fin 4) (hn : n.val = t.val) (c' : Fin 8) (i j : ℕ) :
    img (iblk9 V c 1 t) 0 c' i j = img (V c (Pipeline.arrRef spec9 1)) n c' i j := by
  unfold img; split
  · blk_ext [iblk9, idx9 t]
  · rfl

/-- Where an element of the output block lies in the result. -/
theorem place9 (n : Fin 4) (hn : n.val = t.val) (y0 : Fin 1) (y1 : Fin 8) (y2 y3 : Fin 512) :
    (win9_4.blk t).view.emb (ix4 y0 y1 y2 y3) = ix4 n y1 y2 y3 := by
  blk_ext [idx9 t]

end

/-- Region 9 computes the decoder stage of the array of its padded images. -/
theorem region9 (c : Dev nD) : (dat9 V c).arrAt 4 cfg9.N = decArr 8 512 256 step256
    (fun t o c' => V c (Pipeline.arrRef spec9 2) (ix3 t o c')) (fun o => V c (Pipeline.arrRef spec9 3) (ix3 o 0 0))
    (V c (Pipeline.arrRef spec9 0)) (V c (Pipeline.arrRef spec9 1)) := by
  refine (dat9 V c).arrAt_eq_of_covers 4 _ (by decide +kernel) fun t hf y => ?_
  blk_simp
  rw [after9_4, out9_eq, View.canon_unit_zero zero4]
  idx_vars y
  obtain ⟨n, hn⟩ : ∃ n : Fin 4, n.val = t.val := ⟨⟨t.val, t.isLt⟩, rfl⟩
  rw [place9 t n hn]
  exact kdec_apply ok256 rfl word256 last256 rfl _ _ _ _ _ _ _ rfl (wts9 V c t) (bias9 V c t)
    (fun c' i j _ _ => imgs9 V c t n hn c' i j) (fun o i j _ _ => skip9 V c t n hn o i j) _ _ _ _

end Unet
-- ==== Proof.KernelLast.lean ====
/-
  What the bottom block and the final block compute, at any sizes: the one-by-one convolution added to the deepest encoder
  images and doubled; the softmax of two channels.
-/
module

public import proofs.«01_k».proof.Proof.KernelEnc

@[expose] public section

noncomputable section

namespace Unet

open Idealize.ShloMosaic

/-! ## The bottom block -/

/-- The weight matrix, as the bottom block loads it. -/
def mat2 {O C : ℕ} (X : Vec Ideal ⟨2, ![O, C]⟩ .f32) : FVec Ideal ⟨2, ![O, C]⟩ .f32 :=
  shapeCast ⟨2, ![O, C]⟩ (View.ld X (Rect.unit (s := ⟨2, ![O, C]⟩) ![0, 0] ![O, C] (fun a => match a with
    | ⟨0, _⟩ => (Nat.zero_add O).le
    | ⟨1, _⟩ => (Nat.zero_add C).le)) : FVec Ideal ⟨2, ![O, C]⟩ .f32) rfl

/-- It is the whole matrix. -/
theorem mat2_apply {O C : ℕ} (X : Vec Ideal ⟨2, ![O, C]⟩ .f32) (o : Fin O) (c : Fin C) : mat2 X (ix2 o c) = X (ix2 o c) := by
  unfold mat2
  refine (congrFun (shapeCast_self (s := ⟨2, ![O, C]⟩) _ rfl) (ix2 o c)).trans ?_
  refine congrArg X (funext fun d => Fin.ext ?_)
  match d with
  | ⟨0, _⟩ => exact (Nat.zero_add _).trans (Nat.one_mul _)
  | ⟨1, _⟩ => exact (Nat.zero_add _).trans (Nat.one_mul _)

section Bottom
variable {O C H : ℕ}

/-- The rectified one-by-one convolution of a block. -/
def kact1 (X : Vec Ideal ⟨4, ![1, C, H, H]⟩ .f32)
    (inb : ∀ a, (![0, 0, 0, 0] : Fin 4 → ℕ) a + (![1, C, H, H] : Fin 4 → ℕ) a ≤ (⟨4, ![1, C, H, H]⟩ : Shape).size a)
    (w : Vec Ideal ⟨2, ![O, C]⟩ .f32) (b : Vec Ideal ⟨3, ![O, 1, 1]⟩ .f32) : FVec Ideal ⟨3, ![O, H, H]⟩ .f32 :=
  kleaky (addf (matmul (convDims O C H H) none (mat2 w) (rows4 X ![0, 0, 0, 0] inb) (constant ⟨3, ![O, H, H]⟩ .f32 0x00000000#32))
    (broadcastTo ⟨3, ![O, H, H]⟩ (shapeCast ⟨3, ![O, 1, 1]⟩ (col1 b) rfl) (bias_bc O H H)))

/-- It is the rectified one-by-one convolution of the images that the block is cut from. -/
theorem kact1_apply (X : Vec Ideal ⟨4, ![1, C, H, H]⟩ .f32)
    (inb : ∀ a, (![0, 0, 0, 0] : Fin 4 → ℕ) a + (![1, C, H, H] : Fin 4 → ℕ) a ≤ (⟨4, ![1, C, H, H]⟩ : Shape).size a)
    (w : Vec Ideal ⟨2, ![O, C]⟩ .f32) (b : Vec Ideal ⟨3, ![O, 1, 1]⟩ .f32)
    {w' : Fin O → Fin C → EReal} {B : Fin O → EReal} {Z : Fin C → Img}
    (hw : ∀ o c, w (ix2 o c) = w' o c) (hb : ∀ o, b (ix3 o 0 0) = B o)
    (hx : ∀ c i j, i < H → j < H → img X 0 c i j = Z c i j) (o : Fin O) (i j : Fin H) :
    kact1 X inb w b (ix3 o i j) = leaky (conv1 w' B Z o i.val j.val) := by
  unfold kact1
  rw [kleaky_apply]
  refine congrArg leaky ?_
  show matmul (convDims O C H H) none (mat2 w) (rows4 X ![0, 0, 0, 0] inb) _ (ix3 o i j) + _ = _
  rw [bias_apply, convDot_apply, col1_apply, hb]
  unfold conv1
  refine congrArg (· + B o) (Finset.sum_congr rfl fun c _ => ?_)
  rw [mat2_apply, hw, rows4_apply (p := 0) X _ inb rfl, Nat.zero_add, hx c _ _ i.isLt j.isLt]

/-- The bottom block as the kernel computes it. -/
def kbot (N : ℕ) (cw lw : BitVec 32) (S : Vec Ideal ⟨4, ![1, O, H, H]⟩ .f32)
    (inbS : ∀ a, (![0, 0, 0, 0] : Fin 4 → ℕ) a + (![1, O, H, H] : Fin 4 → ℕ) a ≤ (⟨4, ![1, O, H, H]⟩ : Shape).size a)
    (X : Vec Ideal ⟨4, ![1, C, H, H]⟩ .f32)
    (inb : ∀ a, (![0, 0, 0, 0] : Fin 4 → ℕ) a + (![1, C, H, H] : Fin 4 → ℕ) a ≤ (⟨4, ![1, C, H, H]⟩ : Shape).size a)
    (w : Vec Ideal ⟨2, ![O, C]⟩ .f32) (b : Vec Ideal ⟨3, ![O, 1, 1]⟩ .f32) : FVec Ideal ⟨4, ![1, O, N, N]⟩ .f32 :=
  shapeCast ⟨4, ![1, O, N, N]⟩ (kup N H cw lw (addf (rows4 S ![0, 0, 0, 0] inbS) (kact1 X inb w b))) (casts_add4 _ _ _)

/-- The bottom block is the bottom stage of the images that the block is cut from. -/
theorem kbot_apply {N : ℕ} {c : ℝ} (hs : Step H c) (hN : N = 2 * H) {cw lw : BitVec 32}
    (hc : Ideal.ofBits .f32 cw = (c : EReal)) (hl : Ideal.ofBits .f32 lw = (((H - 1 : ℕ) : ℝ) : EReal))
    (S : Vec Ideal ⟨4, ![1, O, H, H]⟩ .f32)
    (inbS : ∀ a, (![0, 0, 0, 0] : Fin 4 → ℕ) a + (![1, O, H, H] : Fin 4 → ℕ) a ≤ (⟨4, ![1, O, H, H]⟩ : Shape).size a)
    (X : Vec Ideal ⟨4, ![1, C, H, H]⟩ .f32)
    (inb : ∀ a, (![0, 0, 0, 0] : Fin 4 → ℕ) a + (![1, C, H, H] : Fin 4 → ℕ) a ≤ (⟨4, ![1, C, H, H]⟩ : Shape).size a)
    (w : Vec Ideal ⟨2, ![O, C]⟩ .f32) (b : Vec Ideal ⟨3, ![O, 1, 1]⟩ .f32)
    {w' : Fin O → Fin C → EReal} {B : Fin O → EReal} {Z : Fin C → Img} {Y : Fin O → Img}
    (hw : ∀ o c, w (ix2 o c) = w' o c) (hb : ∀ o, b (ix3 o 0 0) = B o)
    (hx : ∀ c i j, i < H → j < H → img X 0 c i j = Z c i j) (hS : ∀ o i j, i < H → j < H → img S 0 o i j = Y o i j)
    (z : Fin 1) (o : Fin O) (i j : Fin N) :
    kbot N cw lw S inbS X inb w b (ix4 z o i j) = bot H c w' B Z Y o i.val j.val := by
  unfold kbot
  rw [cast_add4, kup_apply hs hN hc hl]
  refine up_congr hs hN (fun r s hr hs' => ?_) i.isLt j.isLt
  rw [img3_of _ o hr hs']
  show rows4 S ![0, 0, 0, 0] inbS (ix3 o ⟨r, hr⟩ ⟨s, hs'⟩) + kact1 X inb w b (ix3 o ⟨r, hr⟩ ⟨s, hs'⟩) = _
  rw [kact1_apply X inb w b hw hb hx, rows4_apply (p := 0) S _ inbS rfl, Nat.zero_add]
  exact congrArg (· + _) (hS o r s hr hs')

end Bottom

/-! ## The final block -/

section Final
variable {H W : ℕ}

/-- Channel `k` of a pair of images. -/
def chan (k : ℕ) (hk : k + 1 ≤ 2) (y : FVec Ideal ⟨3, ![2, H, W]⟩ .f32) : FVec Ideal ⟨2, ![H, W]⟩ .f32 :=
  shapeCast ⟨2, ![H, W]⟩ (extractStridedSlice ⟨3, ![1, H, W]⟩ ![k, 0, 0] y (slices3 hk (Nat.zero_add H).le (Nat.zero_add W).le))
    (casts_drop3 H W)

/-- A channel at an index. -/
theorem chan_apply (k : ℕ) (hk : k + 1 ≤ 2) (y : FVec Ideal ⟨3, ![2, H, W]⟩ .f32) (i : Fin H) (j : Fin W) :
    chan k hk y (ix2 i j) = y (ix3 ⟨k, hk⟩ i j) := by
  unfold chan
  rw [cast_drop3]
  exact slice3_apply _ _ 0 i j rfl (Nat.zero_add _).symm (Nat.zero_add _).symm

/-- An image with two leading axes of size one has the same number of elements. -/
theorem casts_add2 (H W : ℕ) : (⟨2, ![H, W]⟩ : Shape).ShapeCasts ⟨4, ![1, 1, H, W]⟩ := by
  simp [Shape.ShapeCasts, Shape.numel, Fin.prod_univ_succ]

/-- The softmax of the two channels at channel `k`, as the kernel computes it. -/
def kfin (k : ℕ) (hk : k + 1 ≤ 2) (y : FVec Ideal ⟨3, ![2, H, W]⟩ .f32) : FVec Ideal ⟨4, ![1, 1, H, W]⟩ .f32 :=
  shapeCast ⟨4, ![1, 1, H, W]⟩ (divf
    (exp (subf (chan k hk y) (maximumf (chan 0 (by omega) y) (chan 1 (by omega) y))))
    (addf (exp (subf (chan 0 (by omega) y) (maximumf (chan 0 (by omega) y) (chan 1 (by omega) y))))
      (exp (subf (chan 1 (by omega) y) (maximumf (chan 0 (by omega) y) (chan 1 (by omega) y)))))) (casts_add2 H W)

/-- It is the softmax of the two values. -/
theorem kfin_apply (k : ℕ) (hk : k + 1 ≤ 2) (y : FVec Ideal ⟨3, ![2, H, W]⟩ .f32) (z z' : Fin 1) (i : Fin H) (j : Fin W) :
    kfin k hk y (ix4 z z' i j) = soft (y (ix3 ⟨k, hk⟩ i j)) (y (ix3 0 i j)) (y (ix3 1 i j)) := by
  have e : ∀ f : FVec Ideal ⟨2, ![H, W]⟩ .f32, shapeCast ⟨4, ![1, 1, H, W]⟩ f (casts_add2 H W) (ix4 z z' i j) = f (ix2 i j) := by
    intro f
    refine congrArg f (Shape.reshapeEquiv_eq_of_rowMajor _ ?_)
    rw [Shape.rowMajor_val_two, Shape.rowMajor_val_four]
    show i.val * W + j.val = ((z.val * 1 + z'.val) * H + i.val) * W + j.val
    rw [Nat.lt_one_iff.1 z.isLt, Nat.lt_one_iff.1 z'.isLt]
    simp
  unfold kfin
  rw [e]
  show Ideal.div (Ideal.exp (chan k hk y (ix2 i j) - max (chan 0 _ y (ix2 i j)) (chan 1 _ y (ix2 i j))))
    (Ideal.exp (chan 0 _ y (ix2 i j) - max (chan 0 _ y (ix2 i j)) (chan 1 _ y (ix2 i j)))
      + Ideal.exp (chan 1 _ y (ix2 i j) - max (chan 0 _ y (ix2 i j)) (chan 1 _ y (ix2 i j)))) = _
  rw [chan_apply, chan_apply, chan_apply]
  rfl

end Final

end Unet
-- ==== Proof.RegionLast.lean ====
/-
  The bottom region and the final region: what the result array of each holds.
-/
module

public import proofs.«01_k».proof.Proof.Gen.KernelIdeal.Frame.Region5
public import proofs.«01_k».proof.Proof.Gen.KernelIdeal.Frame.Region10
public import proofs.«01_k».proof.Proof.KernelLast
public import Idealize.ShloMosaic.Lib.Pipeline.ValueKit

@[expose] public section

set_option maxRecDepth 16384

noncomputable section

namespace Unet

open Idealize.ShloMosaic Idealize.ShloMosaic.TcCoe Idealize.ShloMosaic.Tactic
open Cert.KernelIdeal Cert.KernelIdeal.Gen

variable (V : (c : Dev nD) → (b : Ref sig .tc) → Buf (Elt Ideal) ((c : Thread nD τ).loc b))

/-! ## Region 5: the bottom -/

/-- What the body of region 5 leaves in its output block. -/
theorem out5_eq (x0 : Vec Ideal S1x128x16x16 .f32) (x1 : Vec Ideal S1x512x16x16 .f32) (x2 : Vec Ideal S128x512 .f32)
    (x3 : Vec Ideal S128x1x1 .f32) :
    out5_4 x0 x1 x2 x3 = View.canon [⟨r5_4, kbot 32 0x3EF7BDEF#32 0x41700000#32 x0 inb_S1x128x16x16_S1x128x16x16_0_0_0_0
      x1 inb_S1x512x16x16_S1x512x16x16_0_0_0_0 x2 x3⟩] := rfl

/-- The blocks of region 5: one image of each kind per grid point, the weights and the bias whole. -/
theorem idx5 : ∀ t : Fin cfg5.grid.N,
    win5_0.index t 0 = t.val ∧ win5_0.index t 1 = 0 ∧ win5_0.index t 2 = 0 ∧ win5_0.index t 3 = 0
    ∧ win5_1.index t 0 = t.val ∧ win5_1.index t 1 = 0 ∧ win5_1.index t 2 = 0 ∧ win5_1.index t 3 = 0
    ∧ win5_2.index t 0 = 0 ∧ win5_2.index t 1 = 0
    ∧ win5_3.index t 0 = 0 ∧ win5_3.index t 1 = 0 ∧ win5_3.index t 2 = 0
    ∧ win5_4.index t 0 = t.val ∧ win5_4.index t 1 = 0 ∧ win5_4.index t 2 = 0 ∧ win5_4.index t 3 = 0 :=
  (by decide +kernel : ∀ t : Fin grid5.N, _)

section
variable (c : Dev nD) (t : Fin cfg5.grid.N)

/-- The block of weights is the array. -/
theorem wts5 (o : Fin 128) (c' : Fin 512) :
    iblk5 V c 2 t (ix2 o c') = V c (Pipeline.arrRef spec5 2) (ix2 o c') := by
  blk_ext [iblk5, idx5 t]

/-- The block of the bias is the array. -/
theorem bias5 (o : Fin 128) : iblk5 V c 3 t (ix3 o 0 0) = V c (Pipeline.arrRef spec5 3) (ix3 o 0 0) := by
  blk_ext [iblk5, idx5 t]

/-- The block of features holds the features of one member of the batch. -/
theorem imgs5 (n : Fin 4) (hn : n.val = t.val) (c' : Fin 512) (i j : ℕ) :
    img (iblk5 V c 1 t) 0 c' i j = img (V c (Pipeline.arrRef spec5 1)) n c' i j := by
  unfold img; split
  · blk_ext [iblk5, idx5 t]
  · rfl

/-- So does the block of encoder images. -/
theorem skip5 (n : Fin 4) (hn : n.val = t.val) (c' : Fin 128) (i j : ℕ) :
    img (iblk5 V c 0 t) 0 c' i j = img (V c (Pipeline.arrRef spec5 0)) n c' i j := by
  unfold img; split
  · blk_ext [iblk5, idx5 t]
  · rfl

/-- Where an element of the output block lies in the result. -/
theorem place5 (n : Fin 4) (hn : n.val = t.val) (y0 : Fin 1) (y1 : Fin 128) (y2 y3 : Fin 32) :
    (win5_4.blk t).view.emb (ix4 y0 y1 y2 y3) = ix4 n y1 y2 y3 := by
  blk_ext [idx5 t]

end

/-- Region 5 computes the bottom stage. -/
theorem region5 (c : Dev nD) : (dat5 V c).arrAt 4 cfg5.N = botArr 128 32 16 step16
    (fun o c' => V c (Pipeline.arrRef spec5 2) (ix2 o c')) (fun o => V c (Pipeline.arrRef spec5 3) (ix3 o 0 0))
    (V c (Pipeline.arrRef spec5 1)) (V c (Pipeline.arrRef spec5 0)) := by
  refine (dat5 V c).arrAt_eq_of_covers 4 _ (by decide +kernel) fun t hf y => ?_
  blk_simp
  rw [after5_4, out5_eq, View.canon_unit_zero zero4]
  idx_vars y
  obtain ⟨n, hn⟩ : ∃ n : Fin 4, n.val = t.val := ⟨⟨t.val, t.isLt⟩, rfl⟩
  rw [place5 t n hn]
  exact kbot_apply ok16 rfl word16 last16 _ _ _ _ _ _ (wts5 V c t) (bias5 V c t)
    (fun c' i j _ _ => imgs5 V c t n hn c' i j) (fun o i j _ _ => skip5 V c t n hn o i j) _ _ _ _

/-! ## Region 10: the final convolution and the softmax, in bands of 64 rows -/

/-- The offset of the rows that grid point `t` of region 10 loads. -/
theorem off10 : ∀ t : Fin cfg10.grid.N, k10_off1 (grid10.coords t) = ![0, 0, t.val % 8 * 64, 0] :=
  (by decide +kernel : ∀ t : Fin grid10.N, _)

/-- What the body of region 10 leaves in its output block: one store per channel. -/
theorem out10_eq (c : Dev nD) (i : grid10.Coords) (a2 : Memref sig .tc .vmem S1x8x514x514 .f32) (h2 : a2.IsWhole)
    (a3 : Memref sig .tc .vmem S9x2x8 .f32) (h3 : a3.IsWhole) (a4 : Memref sig .tc .vmem S2x1x1 .f32) (h4 : a4.IsWhole)
    (a5 : Memref sig .tc .vmem S1x2x64x512 .f32) (h5 : a5.IsWhole)
    (x0 : Vec Ideal S1x8x514x514 .f32) (x1 : Vec Ideal S9x2x8 .f32) (x2 : Vec Ideal S2x1x1 .f32) :
    out10_A_3 c i a2 h2 a3 h3 a4 h4 a5 h5 x0 x1 x2 = View.canon
      [⟨Rect.unit (s := S1x2x64x512) ![0, 1, 0, 0] S1x1x64x512.size inb_S1x2x64x512_S1x1x64x512_0_1_0_0,
        kfin 1 le_rfl (kact (H := 64) (W := 512) rfl rfl x0 (k10_off1 i) (k10_off1_inb i) x1 x2)⟩,
       ⟨Rect.unit (s := S1x2x64x512) ![0, 0, 0, 0] S1x1x64x512.size inb_S1x2x64x512_S1x1x64x512_0_0_0_0,
        kfin 0 (by omega) (kact (H := 64) (W := 512) rfl rfl x0 (k10_off1 i) (k10_off1_inb i) x1 x2)⟩] := by
  have e : (kernelRun10_A c i a2 h2 a3 h3 a4 h4 a5 h5 x0 x1 x2).1 =
      [⟨Rect.unit (s := S1x2x64x512) ![0, 1, 0, 0] S1x1x64x512.size inb_S1x2x64x512_S1x1x64x512_0_1_0_0,
        kfin 1 le_rfl (kact (H := 64) (W := 512) rfl rfl (a2.view.read (Elt Ideal) (h2.unread x0)) (k10_off1 i)
          (k10_off1_inb i) (a3.view.read (Elt Ideal) (h3.unread x1)) (a4.view.read (Elt Ideal) (h4.unread x2)))⟩,
       ⟨Rect.unit (s := S1x2x64x512) ![0, 0, 0, 0] S1x1x64x512.size inb_S1x2x64x512_S1x1x64x512_0_0_0_0,
        kfin 0 (by omega) (kact (H := 64) (W := 512) rfl rfl (a2.view.read (Elt Ideal) (h2.unread x0)) (k10_off1 i)
          (k10_off1_inb i) (a3.view.read (Elt Ideal) (h3.unread x1)) (a4.view.read (Elt Ideal) (h4.unread x2)))⟩] := rfl
  unfold out10_A_3
  rw [e, View.read_writes_junk_eq_canon, h2.read_unread, h3.read_unread, h4.read_unread]

/-- Two stores of one channel each, read at an index. -/
theorem canon_fin (y : FVec Ideal ⟨3, ![2, 64, 512]⟩ .f32) (z : Fin 1) (o : Fin 2) (i : Fin 64) (j : Fin 512) :
    View.canon (Val := Elt Ideal) (s := S1x2x64x512) (e := .f32)
      [⟨Rect.unit (s := S1x2x64x512) ![0, 1, 0, 0] S1x1x64x512.size inb_S1x2x64x512_S1x1x64x512_0_1_0_0, kfin 1 le_rfl y⟩,
       ⟨Rect.unit (s := S1x2x64x512) ![0, 0, 0, 0] S1x1x64x512.size inb_S1x2x64x512_S1x1x64x512_0_0_0_0, kfin 0 (by omega) y⟩]
      (ix4 z o i j) = soft (y (ix3 o i j)) (y (ix3 0 i j)) (y (ix3 1 i j)) := by
  canon_tiles x h
  · idx_vars x
    obtain rfl : o = 1 := Fin.ext (by have := h1; omega)
    obtain rfl : i = x2 := Fin.ext h2
    obtain rfl : j = x3 := Fin.ext h3
    exact kfin_apply 1 le_rfl y _ _ _ _
  · idx_vars x
    obtain rfl : o = 0 := Fin.ext (by have := h1; omega)
    obtain rfl : i = x2 := Fin.ext h2
    obtain rfl : j = x3 := Fin.ext h3
    exact kfin_apply 0 (by omega) y _ _ _ _

/-- The blocks of region 10: the image of one member of the batch, one band of the result, the weights and the bias whole. -/
theorem idx10 : ∀ t : Fin cfg10.grid.N,
    win10_0.index t 0 = t.val / 8 ∧ win10_0.index t 1 = 0 ∧ win10_0.index t 2 = 0 ∧ win10_0.index t 3 = 0
    ∧ win10_1.index t 0 = 0 ∧ win10_1.index t 1 = 0 ∧ win10_1.index t 2 = 0
    ∧ win10_2.index t 0 = 0 ∧ win10_2.index t 1 = 0 ∧ win10_2.index t 2 = 0
    ∧ win10_3.index t 0 = t.val / 8 ∧ win10_3.index t 1 = 0 ∧ win10_3.index t 2 = t.val % 8 ∧ win10_3.index t 3 = 0 :=
  (by decide +kernel : ∀ t : Fin grid10.N, _)

section
variable (c : Dev nD) (t : Fin cfg10.grid.N)

/-- The block of weights is the array. -/
theorem wts10 (t' : Fin 9) (o : Fin 2) (c' : Fin 8) :
    iblk10 V c 1 t (ix3 t' o c') = V c (Pipeline.arrRef spec10 1) (ix3 t' o c') := by
  blk_ext [iblk10, idx10 t]

/-- The block of the bias is the array. -/
theorem bias10 (o : Fin 2) : iblk10 V c 2 t (ix3 o 0 0) = V c (Pipeline.arrRef spec10 2) (ix3 o 0 0) := by
  blk_ext [iblk10, idx10 t]

/-- The block of images holds the images of one member of the batch. -/
theorem imgs10 (n : Fin 4) (hn : n.val = t.val / 8) (c' : Fin 8) (i j : ℕ) :
    img (iblk10 V c 0 t) 0 c' i j = img (V c (Pipeline.arrRef spec10 0)) n c' i j := by
  unfold img; split
  · blk_ext [iblk10, idx10 t]
  · rfl

/-- Where an element of the output block lies in the result. -/
theorem place10 (n : Fin 4) (hn : n.val = t.val / 8) (y0 : Fin 1) (y1 : Fin 2) (y2 : Fin 64) (y3 : Fin 512) (r : Fin 512)
    (hr : r.val = t.val % 8 * 64 + y2.val) : (win10_3.blk t).view.emb (ix4 y0 y1 y2 y3) = ix4 n y1 r y3 := by
  blk_ext [idx10 t]

/-- The convolution of a block is the convolution of the images of one member of the batch. -/
theorem act10 (n : Fin 4) (hn : n.val = t.val / 8) (o : Fin 2) (i : Fin 64) (j : Fin 512) (r : Fin 512)
    (hr : r.val = t.val % 8 * 64 + i.val) :
    kact (H := 64) (W := 512) rfl rfl (iblk10 V c 0 t) (k10_off1 (grid10.coords t)) (k10_off1_inb (grid10.coords t))
      (iblk10 V c 1 t) (iblk10 V c 2 t) (ix3 o i j)
      = conv (fun t o c' => V c (Pipeline.arrRef spec10 1) (ix3 t o c')) (fun o => V c (Pipeline.arrRef spec10 2) (ix3 o 0 0))
        (img (V c (Pipeline.arrRef spec10 0)) n) o r.val j.val :=
  (kact_apply rfl rfl _ _ _ _ _ (off10 t) (wts10 V c t) (bias10 V c t) (fun c' i j _ _ => imgs10 V c t n hn c' _ _) o i j).trans
    (congrArg (fun k => conv _ _ _ o k j.val) hr.symm)

end

set_option maxHeartbeats 1000000 in
/-- Region 10 computes the final stage of the array of its padded images. -/
theorem region10 (c : Dev nD) : (dat10 V c).arrAt 3 cfg10.N = finArr 512 512
    (fun t o c' => V c (Pipeline.arrRef spec10 1) (ix3 t o c')) (fun o => V c (Pipeline.arrRef spec10 2) (ix3 o 0 0))
    (V c (Pipeline.arrRef spec10 0)) := by
  refine (dat10 V c).arrAt_eq_of_covers 3 _ (by decide +kernel) fun t hf y => ?_
  blk_simp
  rw [after10_3]
  unfold outsAt10
  rw [out10_eq]
  idx_vars y
  have ht : t.val < 4 * 8 := t.isLt
  obtain ⟨n, hn⟩ : ∃ n : Fin 4, n.val = t.val / 8 := ⟨⟨t.val / 8, by omega⟩, rfl⟩
  obtain ⟨r, hr⟩ : ∃ r : Fin 512, r.val = t.val % 8 * 64 + y2.val := ⟨⟨t.val % 8 * 64 + y2.val, by omega⟩, rfl⟩
  rw [place10 t n hn _ _ _ _ r hr]
  refine (canon_fin _ _ _ _ _).trans ?_
  rw [act10 V c t n hn y1 y2 y3 r hr, act10 V c t n hn 0 y2 y3 r hr, act10 V c t n hn 1 y2 y3 r hr]
  rfl

end Unet
-- ==== Proof.KernelValue.lean ====
/-
  The value of the kernel's ideal program: the contents of its buffers, followed from region to region, are the stages of
  the network of its arguments.
-/
module

public import proofs.«01_k».proof.Proof.KernelHost
public import proofs.«01_k».proof.Proof.RegionRows
public import proofs.«01_k».proof.Proof.RegionEnc
public import proofs.«01_k».proof.Proof.RegionDec
public import proofs.«01_k».proof.Proof.RegionLast

@[expose] public section

set_option maxRecDepth 16384

noncomputable section

namespace Unet

open Idealize.ShloMosaic Idealize.ShloMosaic.TcCoe
open Cert.KernelIdeal Cert.KernelIdeal.Gen

variable (m : (ℓ : Loc nD τ sig) → Buf (Elt Ideal) ℓ) (ρ : Dev nD → PrngReg) (c : Dev nD)

/-- The kernel's arguments. -/
def kargs : Args where
  x := m ((c : Thread nD τ).loc main_arg0)
  fmap := m ((c : Thread nD τ).loc main_arg1)
  W1 := m ((c : Thread nD τ).loc main_arg2)
  b1 := m ((c : Thread nD τ).loc main_arg3)
  W2 := m ((c : Thread nD τ).loc main_arg4)
  b2 := m ((c : Thread nD τ).loc main_arg5)
  W3 := m ((c : Thread nD τ).loc main_arg6)
  b3 := m ((c : Thread nD τ).loc main_arg7)
  W4 := m ((c : Thread nD τ).loc main_arg8)
  b4 := m ((c : Thread nD τ).loc main_arg9)
  W5 := m ((c : Thread nD τ).loc main_arg10)
  b5 := m ((c : Thread nD τ).loc main_arg11)
  W6 := m ((c : Thread nD τ).loc main_arg12)
  b6 := m ((c : Thread nD τ).loc main_arg13)
  U5 := m ((c : Thread nD τ).loc main_arg14)
  c5 := m ((c : Thread nD τ).loc main_arg15)
  U4 := m ((c : Thread nD τ).loc main_arg16)
  c4 := m ((c : Thread nD τ).loc main_arg17)
  U3 := m ((c : Thread nD τ).loc main_arg18)
  c3 := m ((c : Thread nD τ).loc main_arg19)
  U2 := m ((c : Thread nD τ).loc main_arg20)
  c2 := m ((c : Thread nD τ).loc main_arg21)
  U1 := m ((c : Thread nD τ).loc main_arg22)
  c1 := m ((c : Thread nD τ).loc main_arg23)

/-- Two encoder stages on equal weights, biases and images. -/
theorem encArr_congr {N C HP WP O H W : ℕ} {w w' : Fin 9 → Fin O → Fin C → EReal} {b b' : Fin O → EReal}
    {X X' : (⟨4, ![N, C, HP, WP]⟩ : Shape).Idx → EReal} (hw : ∀ t o c, w t o c = w' t o c) (hb : ∀ o, b o = b' o) (hX : X = X') :
    encArr O H W w b X = encArr O H W w' b' X' := by
  rw [show w = w' from funext fun t => funext fun o => funext fun c => hw t o c, show b = b' from funext hb, hX]

/-- Two decoder stages on equal weights, biases, images and skip connections. -/
theorem decArr_congr {N C HP WP H W O M h : ℕ} {s : ℝ} {w w' : Fin 9 → Fin O → Fin C → EReal} {b b' : Fin O → EReal}
    {X X' : (⟨4, ![N, C, HP, WP]⟩ : Shape).Idx → EReal} {S S' : (⟨4, ![N, O, H, W]⟩ : Shape).Idx → EReal}
    (hw : ∀ t o c, w t o c = w' t o c) (hb : ∀ o, b o = b' o) (hX : X = X') (hS : S = S') :
    decArr O M h s w b X S = decArr O M h s w' b' X' S' := by
  rw [show w = w' from funext fun t => funext fun o => funext fun c => hw t o c, show b = b' from funext hb, hX, hS]

/-- Two bottom stages on equal weights, biases, features and images. -/
theorem botArr_congr {N C H W O M h : ℕ} {s : ℝ} {w w' : Fin O → Fin C → EReal} {b b' : Fin O → EReal}
    {X X' : (⟨4, ![N, C, H, W]⟩ : Shape).Idx → EReal} {S S' : (⟨4, ![N, O, H, W]⟩ : Shape).Idx → EReal}
    (hw : ∀ o c, w o c = w' o c) (hb : ∀ o, b o = b' o) (hX : X = X') (hS : S = S') :
    botArr O M h s w b X S = botArr O M h s w' b' X' S' := by
  rw [show w = w' from funext fun o => funext fun c => hw o c, show b = b' from funext hb, hX, hS]

/-- Two final stages on equal weights, biases and images. -/
theorem finArr_congr {N C HP WP H W : ℕ} {w w' : Fin 9 → Fin 2 → Fin C → EReal} {b b' : Fin 2 → EReal}
    {X X' : (⟨4, ![N, C, HP, WP]⟩ : Shape).Idx → EReal} (hw : ∀ t o c, w t o c = w' t o c) (hb : ∀ o, b o = b' o)
    (hX : X = X') : finArr H W w b X = finArr H W w' b' X' := by
  rw [show w = w' from funext fun t => funext fun o => funext fun c => hw t o c, show b = b' from funext hb, hX]

/-- After region 0 its result array holds stage `y2`. -/
theorem val_y2 : W4 m ρ c main_v4 = y2 (kargs m c) :=
  (W4_arr m ρ c 3).trans ((region0 (V3 m ρ) c).trans (encArr_congr
    (fun t o i => (wtIn0 (W0 m ρ c) t o i).trans (congrFun (congrFun (congrFun (congrArg taps (W0_args m ρ c main_arg2 (by decide))) t) o) i))
    (fun o => (biasIn0 (W0 m ρ c) o).trans (congrFun (congrArg bias (W0_args m ρ c main_arg3 (by decide))) o))
    ((padIn0 (W0 m ρ c)).trans (congrArg (padded 514 514 (by decide)) (W0_args m ρ c main_arg0 (by decide))))))

/-- After region 1 its result array holds stage `y4`. -/
theorem val_y4 : W8 m ρ c main_v9 = y4 (kargs m c) :=
  (W8_arr m ρ c 3).trans ((region1 (V7 m ρ) c).trans (encArr_congr
    (fun t o i => (wtIn1 (W4 m ρ c) t o i).trans (congrFun (congrFun (congrFun (congrArg taps (W4_args m ρ c main_arg4 (by decide))) t) o) i))
    (fun o => (biasIn1 (W4 m ρ c) o).trans (congrFun (congrArg bias (W4_args m ρ c main_arg5 (by decide))) o))
    ((padIn1 (W4 m ρ c)).trans (congrArg (padded 258 258 (by decide)) (val_y2 m ρ c)))))

/-- After region 2 its result array holds stage `y8`. -/
theorem val_y8 : W12 m ρ c main_v14 = y8 (kargs m c) :=
  (W12_arr m ρ c 3).trans ((region2 (V11 m ρ) c).trans (encArr_congr
    (fun t o i => (wtIn2 (W8 m ρ c) t o i).trans (congrFun (congrFun (congrFun (congrArg taps (W8_args m ρ c main_arg6 (by decide))) t) o) i))
    (fun o => (biasIn2 (W8 m ρ c) o).trans (congrFun (congrArg bias (W8_args m ρ c main_arg7 (by decide))) o))
    ((padIn2 (W8 m ρ c)).trans (congrArg (padded 130 130 (by decide)) (val_y4 m ρ c)))))

/-- After region 3 its result array holds stage `y16`. -/
theorem val_y16 : W16 m ρ c main_v19 = y16 (kargs m c) :=
  (W16_arr m ρ c 3).trans ((region3 (V15 m ρ) c).trans (encArr_congr
    (fun t o i => (wtIn3 (W12 m ρ c) t o i).trans (congrFun (congrFun (congrFun (congrArg taps (W12_args m ρ c main_arg8 (by decide))) t) o) i))
    (fun o => (biasIn3 (W12 m ρ c) o).trans (congrFun (congrArg bias (W12_args m ρ c main_arg9 (by decide))) o))
    ((padIn3 (W12 m ρ c)).trans (congrArg (padded 66 66 (by decide)) (val_y8 m ρ c)))))

/-- After region 4 its result array holds stage `e5`. -/
theorem val_e5 : W20 m ρ c main_v24 = e5 (kargs m c) :=
  (W20_arr m ρ c 3).trans ((region4 (V19 m ρ) c).trans (encArr_congr
    (fun t o i => (wtIn4 (W16 m ρ c) t o i).trans (congrFun (congrFun (congrFun (congrArg taps (W16_args m ρ c main_arg10 (by decide))) t) o) i))
    (fun o => (biasIn4 (W16 m ρ c) o).trans (congrFun (congrArg bias (W16_args m ρ c main_arg11 (by decide))) o))
    ((padIn4 (W16 m ρ c)).trans (congrArg (padded 34 34 (by decide)) (val_y16 m ρ c)))))

/-- After region 5 its result array holds stage `d5`. -/
theorem val_d5 : W22 m ρ c main_v27 = d5 (kargs m c) :=
  (W22_arr m ρ c 4).trans ((region5 (V21 m ρ) c).trans (botArr_congr
    (fun o i => (wtIn5 (W20 m ρ c) o i).trans (congrFun (W20_args m ρ c main_arg12 (by decide)) (ix4 o i 0 0)))
    (fun o => (biasIn5 (W20 m ρ c) o).trans (congrFun (congrArg bias (W20_args m ρ c main_arg13 (by decide))) o))
    (W21_args m ρ c main_arg1 (by decide)) ((W21_of m ρ c main_v24 (by decide)).trans (val_e5 m ρ c))))

/-- Stage `y16` is still in its array at region 6. -/
theorem keep_y16 : W25 m ρ c main_v19 = W16 m ρ c main_v19 :=
  ((W25_of m ρ c main_v19 (by decide)).trans
    ((W24_of m ρ c main_v19 (by decide)).trans
    ((W23_of m ρ c main_v19 (by decide)).trans
    ((W22_of m ρ c main_v19 (by decide +kernel)).trans
    ((W21_of m ρ c main_v19 (by decide)).trans
    ((W20_of m ρ c main_v19 (by decide +kernel)).trans
    ((W19_of m ρ c main_v19 (by decide)).trans
    ((W18_of m ρ c main_v19 (by decide)).trans
    (W17_of m ρ c main_v19 (by decide))))))))))

/-- After region 6 its result array holds stage `d4`. -/
theorem val_d4 : W26 m ρ c main_v32 = d4 (kargs m c) :=
  (W26_arr m ρ c 4).trans ((region6 (V25 m ρ) c).trans (decArr_congr
    (fun t o i => (wtIn6 (W22 m ρ c) t o i).trans (congrFun (congrFun (congrFun (congrArg taps (W22_args m ρ c main_arg14 (by decide))) t) o) i))
    (fun o => (biasIn6 (W22 m ρ c) o).trans (congrFun (congrArg bias (W22_args m ρ c main_arg15 (by decide))) o))
    ((padIn6 (W22 m ρ c)).trans (congrArg (padded 34 34 (by decide)) (val_d5 m ρ c)))
    ((keep_y16 m ρ c).trans (val_y16 m ρ c))))

/-- Stage `y8` is still in its array at region 7. -/
theorem keep_y8 : W29 m ρ c main_v14 = W12 m ρ c main_v14 :=
  ((W29_of m ρ c main_v14 (by decide)).trans
    ((W28_of m ρ c main_v14 (by decide)).trans
    ((W27_of m ρ c main_v14 (by decide)).trans
    ((W26_of m ρ c main_v14 (by decide +kernel)).trans
    ((W25_of m ρ c main_v14 (by decide)).trans
    ((W24_of m ρ c main_v14 (by decide)).trans
    ((W23_of m ρ c main_v14 (by decide)).trans
    ((W22_of m ρ c main_v14 (by decide +kernel)).trans
    ((W21_of m ρ c main_v14 (by decide)).trans
    ((W20_of m ρ c main_v14 (by decide +kernel)).trans
    ((W19_of m ρ c main_v14 (by decide)).trans
    ((W18_of m ρ c main_v14 (by decide)).trans
    ((W17_of m ρ c main_v14 (by decide)).trans
    ((W16_of m ρ c main_v14 (by decide +kernel)).trans
    ((W15_of m ρ c main_v14 (by decide)).trans
    ((W14_of m ρ c main_v14 (by decide)).trans
    (W13_of m ρ c main_v14 (by decide))))))))))))))))))

/-- After region 7 its result array holds stage `d3`. -/
theorem val_d3 : W30 m ρ c main_v37 = d3 (kargs m c) :=
  (W30_arr m ρ c 4).trans ((region7 (V29 m ρ) c).trans (decArr_congr
    (fun t o i => (wtIn7 (W26 m ρ c) t o i).trans (congrFun (congrFun (congrFun (congrArg taps (W26_args m ρ c main_arg16 (by decide))) t) o) i))
    (fun o => (biasIn7 (W26 m ρ c) o).trans (congrFun (congrArg bias (W26_args m ρ c main_arg17 (by decide))) o))
    ((padIn7 (W26 m ρ c)).trans (congrArg (padded 66 66 (by decide)) (val_d4 m ρ c)))
    ((keep_y8 m ρ c).trans (val_y8 m ρ c))))

/-- Stage `y4` is still in its array at region 8. -/
theorem keep_y4 : W33 m ρ c main_v9 = W8 m ρ c main_v9 :=
  ((W33_of m ρ c main_v9 (by decide)).trans
    ((W32_of m ρ c main_v9 (by decide)).trans
    ((W31_of m ρ c main_v9 (by decide)).trans
    ((W30_of m ρ c main_v9 (by decide +kernel)).trans
    ((W29_of m ρ c main_v9 (by decide)).trans
    ((W28_of m ρ c main_v9 (by decide)).trans
    ((W27_of m ρ c main_v9 (by decide)).trans
    ((W26_of m ρ c main_v9 (by decide +kernel)).trans
    ((W25_of m ρ c main_v9 (by decide)).trans
    ((W24_of m ρ c main_v9 (by decide)).trans
    ((W23_of m ρ c main_v9 (by decide)).trans
    ((W22_of m ρ c main_v9 (by decide +kernel)).trans
    ((W21_of m ρ c main_v9 (by decide)).trans
    ((W20_of m ρ c main_v9 (by decide +kernel)).trans
    ((W19_of m ρ c main_v9 (by decide)).trans
    ((W18_of m ρ c main_v9 (by decide)).trans
    ((W17_of m ρ c main_v9 (by decide)).trans
    ((W16_of m ρ c main_v9 (by decide +kernel)).trans
    ((W15_of m ρ c main_v9 (by decide)).trans
    ((W14_of m ρ c main_v9 (by decide)).trans
    ((W13_of m ρ c main_v9 (by decide)).trans
    ((W12_of m ρ c main_v9 (by decide +kernel)).trans
    ((W11_of m ρ c main_v9 (by decide)).trans
    ((W10_of m ρ c main_v9 (by decide)).trans
    (W9_of m ρ c main_v9 (by decide))))))))))))))))))))))))))

/-- After region 8 its result array holds stage `d2`. -/
theorem val_d2 : W34 m ρ c main_v42 = d2 (kargs m c) :=
  (W34_arr m ρ c 4).trans ((region8 (V33 m ρ) c).trans (decArr_congr
    (fun t o i => (wtIn8 (W30 m ρ c) t o i).trans (congrFun (congrFun (congrFun (congrArg taps (W30_args m ρ c main_arg18 (by decide))) t) o) i))
    (fun o => (biasIn8 (W30 m ρ c) o).trans (congrFun (congrArg bias (W30_args m ρ c main_arg19 (by decide))) o))
    ((padIn8 (W30 m ρ c)).trans (congrArg (padded 130 130 (by decide)) (val_d3 m ρ c)))
    ((keep_y4 m ρ c).trans (val_y4 m ρ c))))

/-- Stage `y2` is still in its array at region 9. -/
theorem keep_y2 : W37 m ρ c main_v4 = W4 m ρ c main_v4 :=
  ((W37_of m ρ c main_v4 (by decide)).trans
    ((W36_of m ρ c main_v4 (by decide)).trans
    ((W35_of m ρ c main_v4 (by decide)).trans
    ((W34_of m ρ c main_v4 (by decide +kernel)).trans
    ((W33_of m ρ c main_v4 (by decide)).trans
    ((W32_of m ρ c main_v4 (by decide)).trans
    ((W31_of m ρ c main_v4 (by decide)).trans
    ((W30_of m ρ c main_v4 (by decide +kernel)).trans
    ((W29_of m ρ c main_v4 (by decide)).trans
    ((W28_of m ρ c main_v4 (by decide)).trans
    ((W27_of m ρ c main_v4 (by decide)).trans
    ((W26_of m ρ c main_v4 (by decide +kernel)).trans
    ((W25_of m ρ c main_v4 (by decide)).trans
    ((W24_of m ρ c main_v4 (by decide)).trans
    ((W23_of m ρ c main_v4 (by decide)).trans
    ((W22_of m ρ c main_v4 (by decide +kernel)).trans
    ((W21_of m ρ c main_v4 (by decide)).trans
    ((W20_of m ρ c main_v4 (by decide +kernel)).trans
    ((W19_of m ρ c main_v4 (by decide)).trans
    ((W18_of m ρ c main_v4 (by decide)).trans
    ((W17_of m ρ c main_v4 (by decide)).trans
    ((W16_of m ρ c main_v4 (by decide +kernel)).trans
    ((W15_of m ρ c main_v4 (by decide)).trans
    ((W14_of m ρ c main_v4 (by decide)).trans
    ((W13_of m ρ c main_v4 (by decide)).trans
    ((W12_of m ρ c main_v4 (by decide +kernel)).trans
    ((W11_of m ρ c main_v4 (by decide)).trans
    ((W10_of m ρ c main_v4 (by decide)).trans
    ((W9_of m ρ c main_v4 (by decide)).trans
    ((W8_of m ρ c main_v4 (by decide +kernel)).trans
    ((W7_of m ρ c main_v4 (by decide)).trans
    ((W6_of m ρ c main_v4 (by decide)).trans
    (W5_of m ρ c main_v4 (by decide))))))))))))))))))))))))))))))))))

/-- After region 9 its result array holds stage `d1`. -/
theorem val_d1 : W38 m ρ c main_v47 = d1 (kargs m c) :=
  (W38_arr m ρ c 4).trans ((region9 (V37 m ρ) c).trans (decArr_congr
    (fun t o i => (wtIn9 (W34 m ρ c) t o i).trans (congrFun (congrFun (congrFun (congrArg taps (W34_args m ρ c main_arg20 (by decide))) t) o) i))
    (fun o => (biasIn9 (W34 m ρ c) o).trans (congrFun (congrArg bias (W34_args m ρ c main_arg21 (by decide))) o))
    ((padIn9 (W34 m ρ c)).trans (congrArg (padded 258 258 (by decide)) (val_d2 m ρ c)))
    ((keep_y2 m ρ c).trans (val_y2 m ρ c))))

/-- The kernel's result array ends at the network of its arguments. -/
theorem val_net : W42 m ρ c main_v52 = net (kargs m c) :=
  (W42_arr m ρ c 3).trans ((region10 (V41 m ρ) c).trans (finArr_congr
    (fun t o i => (wtIn10 (W38 m ρ c) t o i).trans (congrFun (congrFun (congrFun (congrArg taps (W38_args m ρ c main_arg22 (by decide))) t) o) i))
    (fun o => (biasIn10 (W38 m ρ c) o).trans (congrFun (congrArg bias (W38_args m ρ c main_arg23 (by decide))) o))
    ((padIn10 (W38 m ρ c)).trans (congrArg (padded 514 514 (by decide)) (val_d1 m ρ c)))))

end Unet
-- ==== Proof.RefConv.lean ====
/-
  The reference's convolutions and rectifier as functions of whole batches, at any sizes, and what they read at an index.
-/
module

public import proofs.«01_k».proof.Proof.Net
public import Idealize.ShloMosaic.PureOps.Ideal.Laws
public import Idealize.ShloMosaic.Lib.Pointwise
public import Idealize.ShloMosaic.Lib.Pointwise.IndexVar

@[expose] public section

noncomputable section

namespace Unet

open Idealize.ShloMosaic

/-! ## Facts about shapes of four axes -/

/-- Arrays of four axes that agree at every quadruple of coordinates are equal. -/
theorem ext4 {α : Type} {A B C D : ℕ} {x y : (⟨4, ![A, B, C, D]⟩ : Shape).Idx → α}
    (h : ∀ (a : Fin A) (b : Fin B) (c : Fin C) (d : Fin D), x (ix4 a b c d) = y (ix4 a b c d)) : x = y := by
  funext i
  have e : i = ix4 (i 0) (i 1) (i 2) (i 3) :=
    funext fun a => match a with | ⟨0, _⟩ => rfl | ⟨1, _⟩ => rfl | ⟨2, _⟩ => rfl | ⟨3, _⟩ => rfl
  rw [e]
  exact h _ _ _ _

/-- A block that fits in every axis is a slice. -/
theorem slices4 {A B C D a b c d o p q r : ℕ} (h0 : o + a ≤ A) (h1 : p + b ≤ B) (h2 : q + c ≤ C) (h3 : r + d ≤ D) :
    (⟨4, ![A, B, C, D]⟩ : Shape).Slices ![o, p, q, r] ⟨4, ![a, b, c, d]⟩ :=
  ⟨rfl, fun d => match d with | ⟨0, _⟩ => h0 | ⟨1, _⟩ => h1 | ⟨2, _⟩ => h2 | ⟨3, _⟩ => h3⟩

/-- A slice read at an index. -/
theorem slice4_apply {α : Type} {A B C D a b c d o p q r : ℕ} (x : (⟨4, ![A, B, C, D]⟩ : Shape).Idx → α)
    (h : (⟨4, ![A, B, C, D]⟩ : Shape).Slices ![o, p, q, r] ⟨4, ![a, b, c, d]⟩) (i : Fin a) (j : Fin b) (k : Fin c)
    (l : Fin d) {i' : Fin A} {j' : Fin B} {k' : Fin C} {l' : Fin D} (hi : i'.val = o + i.val) (hj : j'.val = p + j.val)
    (hk : k'.val = q + k.val) (hl : l'.val = r + l.val) :
    extractStridedSlice ⟨4, ![a, b, c, d]⟩ ![o, p, q, r] x h (ix4 i j k l) = x (ix4 i' j' k' l') :=
  congrArg x (funext fun d => match d with
    | ⟨0, _⟩ => Fin.ext hi.symm | ⟨1, _⟩ => Fin.ext hj.symm | ⟨2, _⟩ => Fin.ext hk.symm | ⟨3, _⟩ => Fin.ext hl.symm)

/-- Dropping two trailing axes of size one keeps the number of elements. -/
theorem casts_tail (O C : ℕ) : (⟨4, ![O, C, 1, 1]⟩ : Shape).ShapeCasts ⟨2, ![O, C]⟩ := by
  simp [Shape.ShapeCasts, Shape.numel, Fin.prod_univ_succ]

/-- A matrix that had two trailing axes of size one, read at an index. -/
theorem cast_tail {O C : ℕ} (W : (⟨4, ![O, C, 1, 1]⟩ : Shape).Idx → EReal) (o : Fin O) (c : Fin C) :
    shapeCast ⟨2, ![O, C]⟩ W (casts_tail O C) (ix2 o c) = W (ix4 o c 0 0) := by
  refine congrArg W (Shape.reshapeEquiv_eq_of_rowMajor (casts_tail O C) ?_)
  rw [Shape.rowMajor_val_two, Shape.rowMajor_val_four]
  show ((o.val * C + c.val) * 1 + 0) * 1 + 0 = o.val * C + c.val
  omega

/-- The first two of four axes may be exchanged. -/
theorem swaps (A B C D : ℕ) : (⟨4, ![A, B, C, D]⟩ : Shape).Transposes [1, 0, 2, 3] ⟨4, ![B, A, C, D]⟩ :=
  ⟨(by decide : [(1 : Fin 4), 0, 2, 3].Perm [0, 1, 2, 3]), rfl,
    fun b => match b with | ⟨0, _⟩ => rfl | ⟨1, _⟩ => rfl | ⟨2, _⟩ => rfl | ⟨3, _⟩ => rfl⟩

/-- The exchange read at an index. -/
theorem swap_apply {A B C D : ℕ} (x : (⟨4, ![A, B, C, D]⟩ : Shape).Idx → EReal) (b : Fin B) (a : Fin A) (i : Fin C)
    (j : Fin D) : transpose ⟨4, ![B, A, C, D]⟩ [1, 0, 2, 3] x (swaps A B C D) (ix4 b a i j) = x (ix4 a b i j) :=
  congrArg x (funext fun d => match d with | ⟨0, _⟩ => rfl | ⟨1, _⟩ => rfl | ⟨2, _⟩ => rfl | ⟨3, _⟩ => rfl)

/-! ## The contraction of a weight matrix with a batch of images -/

/-- The dimension numbers: the weights' second axis against the batch's second. -/
def hostDims (N O C H W : ℕ) : DotDims ⟨2, ![O, C]⟩ ⟨4, ![N, C, H, W]⟩ ⟨4, ![O, N, H, W]⟩ where
  lhsContracting := [1]
  rhsContracting := [1]
  lhsNonContracting := [0]
  rhsNonContracting := [0, 2, 3]
  lhsBatch := []
  rhsBatch := []
  wf := ⟨rfl, by simp, rfl, by simp, by simp, by simp, by simp [List.finRange],
    (by decide : [(0 : Fin 4), 2, 3, 1].Perm [0, 1, 2, 3]),
    rfl, Nat.succ_pos _, fun b => by fin_cases b <;> rfl⟩

/-- The contraction at an index. -/
theorem hostDot_apply {N O C H W : ℕ} (w : FVec Ideal ⟨2, ![O, C]⟩ .f32) (x : FVec Ideal ⟨4, ![N, C, H, W]⟩ .f32)
    (o : Fin O) (n : Fin N) (i : Fin H) (j : Fin W) :
    Host.dotGeneral (φ₁ := .f32) (φ₂ := .f32) (hostDims N O C H W) none w x (ix4 o n i j)
      = ∑ c : Fin C, w (ix2 o c) * x (ix4 n c i j) := by
  refine (Ideal.dotGeneral_apply _ _ _ w x _).trans
    (((hostDims N O C H W).sum_contr₁ (a := 1) rfl (K := C) rfl _).trans (Finset.sum_congr rfl fun c _ => ?_))
  refine congrArg₂ (fun p q => w p * x q) ?_ ?_
  · funext d; match d with | ⟨0, _⟩ => rfl | ⟨1, _⟩ => rfl
  · funext d; match d with | ⟨0, _⟩ => rfl | ⟨1, _⟩ => rfl | ⟨2, _⟩ => rfl | ⟨3, _⟩ => rfl

/-! ## The convolution of a batch -/

section Conv
variable {N O C H W HP WP : ℕ}

/-- One tap: the weights of one position against the block of the images that starts at row `p` and column `q`. -/
def rtap (hH : H + 2 = HP) (hW : W + 2 = WP) (p q : ℕ) (hp : p < 3) (hq : q < 3)
    (w : FVec Ideal ⟨4, ![O, C, 3, 3]⟩ .f32) (x : FVec Ideal ⟨4, ![N, C, HP, WP]⟩ .f32) : FVec Ideal ⟨4, ![N, O, H, W]⟩ .f32 :=
  transpose ⟨4, ![N, O, H, W]⟩ [1, 0, 2, 3]
    (Host.dotGeneral (φ₁ := .f32) (φ₂ := .f32) (hostDims N O C H W) none
      (shapeCast ⟨2, ![O, C]⟩ (extractStridedSlice ⟨4, ![O, C, 1, 1]⟩ ![0, 0, p, q] w
        (slices4 (by omega) (by omega) (by omega) (by omega))) (casts_tail O C))
      (extractStridedSlice ⟨4, ![N, C, H, W]⟩ ![0, 0, p, q] x (slices4 (by omega) (by omega) (by omega) (by omega))))
    (swaps O N H W)

/-- A tap at an index. -/
theorem rtap_apply (hH : H + 2 = HP) (hW : W + 2 = WP) (p q : ℕ) (hp : p < 3) (hq : q < 3)
    (w : FVec Ideal ⟨4, ![O, C, 3, 3]⟩ .f32) (x : FVec Ideal ⟨4, ![N, C, HP, WP]⟩ .f32) (n : Fin N) (o : Fin O) (i : Fin H)
    (j : Fin W) : rtap hH hW p q hp hq w x (ix4 n o i j)
      = ∑ c : Fin C, w (ix4 o c ⟨p, hp⟩ ⟨q, hq⟩) * img x n c (i + p) (j + q) := by
  unfold rtap
  rw [swap_apply, hostDot_apply]
  refine Finset.sum_congr rfl fun c _ => ?_
  rw [cast_tail, img_of x n c (show i.val + p < HP by omega) (show j.val + q < WP by omega)]
  rw [slice4_apply w _ o c 0 0 (i' := o) (j' := c) (k' := ⟨p, hp⟩) (l' := ⟨q, hq⟩) (by simp) (by simp) (by simp) (by simp)]
  rw [slice4_apply x _ n c i j (i' := n) (j' := c) (k' := ⟨i.val + p, by omega⟩) (l' := ⟨j.val + q, by omega⟩)
    (by simp) (by simp) (by simp [add_comm]) (by simp [add_comm])]

/-- A scalar goes to every position. -/
theorem scalar_bc (t : Shape) : (⟨0, ![]⟩ : Shape).BroadcastsInDim t ![] := ⟨fun a => a.elim0, fun a => a.elim0⟩

/-- A float word at every position. -/
def splat (t : Shape) (b : BitVec 32) : FVec Ideal t .f32 :=
  broadcastInDim t ![] (scalar_bc t) (constant (F := Ideal) ⟨0, ![]⟩ .f32 b)

/-- A splat at an index. -/
theorem splat_apply (t : Shape) (b : BitVec 32) (j : t.Idx) : splat t b j = Ideal.ofBits .f32 b := rfl

/-- A bias becomes a batch of one image of size one. -/
theorem bias_bc1 (O : ℕ) : (⟨1, ![O]⟩ : Shape).BroadcastsInDim ⟨4, ![1, O, 1, 1]⟩ ![1] :=
  ⟨fun a b _ => Subsingleton.elim (α := Fin 1) a b, fun a => match a with | ⟨0, _⟩ => .inr rfl⟩

/-- That batch broadcasts over the positions. -/
theorem bias_bc4 (N O H W : ℕ) : (⟨4, ![1, O, 1, 1]⟩ : Shape).BroadcastsInDim ⟨4, ![N, O, H, W]⟩ ![0, 1, 2, 3] :=
  ⟨(by decide : Function.Injective (![0, 1, 2, 3] : Fin 4 → Fin 4)), fun a => match a with | ⟨0, _⟩ => .inl rfl | ⟨1, _⟩ => .inr rfl | ⟨2, _⟩ => .inl rfl | ⟨3, _⟩ => .inl rfl⟩

/-- The bias over a batch. -/
def rbias (N H W : ℕ) (b : FVec Ideal ⟨1, ![O]⟩ .f32) : FVec Ideal ⟨4, ![N, O, H, W]⟩ .f32 :=
  broadcastInDim ⟨4, ![N, O, H, W]⟩ ![0, 1, 2, 3] (bias_bc4 N O H W)
    (broadcastInDim ⟨4, ![1, O, 1, 1]⟩ ![1] (bias_bc1 O) b)

/-- The bias at an index. -/
theorem rbias_apply (b : FVec Ideal ⟨1, ![O]⟩ .f32) (n : Fin N) (o : Fin O) (i : Fin H) (j : Fin W) :
    rbias N H W b (ix4 n o i j) = b (ix1 o) := by
  refine congrArg b (funext fun d => ?_)
  match d with
  | ⟨0, _⟩ =>
    by_cases h : O = 1
    · subst h; exact Subsingleton.elim (α := Fin 1) _ _
    · refine (dif_neg (show ¬(⟨1, ![O]⟩ : Shape).size (0 : Fin 1) = 1 from h)).trans (Fin.ext ?_)
      refine (congrArg Fin.val (dif_neg (show ¬(⟨4, ![1, O, 1, 1]⟩ : Shape).size (1 : Fin 4) = 1 from h))).trans ?_
      rfl

/-- The nine taps added up from zero. -/
def rtaps (hH : H + 2 = HP) (hW : W + 2 = WP) (w : FVec Ideal ⟨4, ![O, C, 3, 3]⟩ .f32)
    (x : FVec Ideal ⟨4, ![N, C, HP, WP]⟩ .f32) : FVec Ideal ⟨4, ![N, O, H, W]⟩ .f32 :=
  addf (addf (addf (addf (addf (addf (addf (addf (addf (splat ⟨4, ![N, O, H, W]⟩ 0x00000000#32)
    (rtap hH hW 0 0 (by omega) (by omega) w x)) (rtap hH hW 0 1 (by omega) (by omega) w x))
    (rtap hH hW 0 2 (by omega) (by omega) w x)) (rtap hH hW 1 0 (by omega) (by omega) w x))
    (rtap hH hW 1 1 (by omega) (by omega) w x)) (rtap hH hW 1 2 (by omega) (by omega) w x))
    (rtap hH hW 2 0 (by omega) (by omega) w x)) (rtap hH hW 2 1 (by omega) (by omega) w x))
    (rtap hH hW 2 2 (by omega) (by omega) w x)

/-- The reference's convolution of a batch. -/
def rconv (hH : H + 2 = HP) (hW : W + 2 = WP) (w : FVec Ideal ⟨4, ![O, C, 3, 3]⟩ .f32) (b : FVec Ideal ⟨1, ![O]⟩ .f32)
    (x : FVec Ideal ⟨4, ![N, C, HP, WP]⟩ .f32) : FVec Ideal ⟨4, ![N, O, H, W]⟩ .f32 :=
  addf (rtaps hH hW w x) (rbias N H W b)

/-- The reference's convolution at an index is the convolution of the member's images. -/
theorem rconv_apply (hH : H + 2 = HP) (hW : W + 2 = WP) (w : FVec Ideal ⟨4, ![O, C, 3, 3]⟩ .f32)
    (b : FVec Ideal ⟨1, ![O]⟩ .f32) (x : FVec Ideal ⟨4, ![N, C, HP, WP]⟩ .f32) (n : Fin N) (o : Fin O) (i : Fin H)
    (j : Fin W) : rconv hH hW w b x (ix4 n o i j) = conv (taps w) (bias b) (img x n) o i j := by
  show Ideal.ofBits .f32 0x00000000#32 + _ + _ + _ + _ + _ + _ + _ + _ + _ + _ = _
  rw [rbias_apply, Ideal.ofBits_zero_f32, zero_add]
  simp only [rtap_apply]
  rfl

end Conv

/-- The one-by-one convolution of a batch as the reference writes it. -/
def rconv1 {N O C H W : ℕ} (w : FVec Ideal ⟨4, ![O, C, 1, 1]⟩ .f32) (b : FVec Ideal ⟨1, ![O]⟩ .f32)
    (x : FVec Ideal ⟨4, ![N, C, H, W]⟩ .f32) : FVec Ideal ⟨4, ![N, O, H, W]⟩ .f32 :=
  addf (addf (splat ⟨4, ![N, O, H, W]⟩ 0x00000000#32) (transpose ⟨4, ![N, O, H, W]⟩ [1, 0, 2, 3]
    (Host.dotGeneral (φ₁ := .f32) (φ₂ := .f32) (hostDims N O C H W) none (shapeCast ⟨2, ![O, C]⟩ w (casts_tail O C)) x)
    (swaps O N H W))) (rbias N H W b)

/-- It reads the one-by-one convolution of the member's images. -/
theorem rconv1_apply {N O C H W : ℕ} (w : FVec Ideal ⟨4, ![O, C, 1, 1]⟩ .f32) (b : FVec Ideal ⟨1, ![O]⟩ .f32)
    (x : FVec Ideal ⟨4, ![N, C, H, W]⟩ .f32) (n : Fin N) (o : Fin O) (i : Fin H) (j : Fin W) :
    rconv1 w b x (ix4 n o i j) = conv1 (fun o c => w (ix4 o c 0 0)) (bias b) (img x n) o i j := by
  show Ideal.ofBits .f32 0x00000000#32 + _ + _ = _
  rw [rbias_apply, swap_apply, hostDot_apply, Ideal.ofBits_zero_f32, zero_add]
  refine congrArg (· + _) (Finset.sum_congr rfl fun c _ => ?_)
  rw [cast_tail, img_of x n c i.isLt j.isLt]

/-- The rectifier as the reference writes it. -/
def rleaky {s : Shape} (y : FVec Ideal s .f32) : FVec Ideal s .f32 :=
  select (cmpf .oge y (splat s 0x00000000#32)) y (mulf (splat s 0x3C23D70A#32) y)

/-- The reference's rectifier at an index: the two programs differ only in which branch takes zero, where both give zero. -/
theorem rleaky_apply {s : Shape} (y : FVec Ideal s .f32) (j : s.Idx) : rleaky y j = leaky (y j) := by
  show Scalar.select (FloatOps.cmpf .oge (y j) (Ideal.ofBits .f32 0x00000000#32)) (y j)
    (Ideal.ofBits .f32 0x3C23D70A#32 * y j) = _
  rw [Ideal.ofBits_zero_f32, Ideal.cmpf_def, leaky]
  rcases lt_trichotomy 0 (y j) with h | h | h
  · rw [if_pos h]
    simp [Ideal.cmp, Scalar.select, h.le]
  · rw [← h]
    simp [Ideal.cmp, Scalar.select]
  · rw [if_neg (not_lt.mpr h.le), mul_comm]
    simp [Ideal.cmp, Scalar.select, h, not_le.mpr h, slope]

/-- An extension of width zero changes nothing. -/
theorem pad_zero {N C H W : ℕ} (x : (⟨4, ![N, C, H, W]⟩ : Shape).Idx → EReal) (v : (⟨0, ![]⟩ : Shape).Idx → EReal)
    (h : (⟨4, ![N, C, H, W]⟩ : Shape).Pads ![0, 0, 0, 0] ![0, 0, 0, 0] ![0, 0, 0, 0] ⟨4, ![N, C, H, W]⟩)
    (hu : 0 < (⟨0, ![]⟩ : Shape).numel) :
    pad ⟨4, ![N, C, H, W]⟩ ![0, 0, 0, 0] ![0, 0, 0, 0] ![0, 0, 0, 0] x v h hu = x := by
  funext y
  have hz : ∀ a : Fin 4, (![0, 0, 0, 0] : Fin 4 → ℕ) a = 0 := by decide
  unfold pad
  rw [dif_pos]
  · refine congrArg x (funext fun a => Fin.ext ?_)
    show ((y a).val - (![0, 0, 0, 0] : Fin 4 → ℕ) a) / ((![0, 0, 0, 0] : Fin 4 → ℕ) a + 1) = (y a).val
    rw [hz a]; simp
  · intro a
    show (![0, 0, 0, 0] : Fin 4 → ℕ) a ≤ (y a).val ∧ ((y a).val - (![0, 0, 0, 0] : Fin 4 → ℕ) a) % ((![0, 0, 0, 0] : Fin 4 → ℕ) a + 1) = 0
      ∧ ((y a).val - (![0, 0, 0, 0] : Fin 4 → ℕ) a) / ((![0, 0, 0, 0] : Fin 4 → ℕ) a + 1) < _
    rw [hz a]
    refine ⟨Nat.zero_le _, Nat.mod_one _, ?_⟩
    simp only [Nat.sub_zero, Nat.zero_add, Nat.div_one]
    exact (y a).isLt

end Unet
-- ==== Proof.RefPool.lean ====
/-
  The reference's pooling at any size: a windowed maximum over blocks of two rows and two columns.
-/
module

public import proofs.«01_k».proof.Proof.RefConv

@[expose] public section

noncomputable section

namespace Unet

open Idealize.ShloMosaic

/-- The word of minus infinity. -/
theorem word_bot : Ideal.ofBits .f32 0xFF800000#32 = ⊥ := by
  simp [Ideal.ofBits, Ideal.ieee]

/-- Blocks of two rows and two columns tile a batch of images of even sizes. -/
theorem blocks {N C P Q H W : ℕ} (hN : 0 < N) (hC : 0 < C) (hH : 0 < H) (hW : 0 < W) (hP : P = 2 * H) (hQ : Q = 2 * W) :
    (⟨4, ![N, C, P, Q]⟩ : Shape).ReduceWindows ![1, 1, 2, 2] ![1, 1, 2, 2] ![0, 0, 0, 0] ![0, 0, 0, 0]
      ⟨4, ![N, C, H, W]⟩ :=
  ⟨rfl, fun a => match a with
    | ⟨0, _⟩ => ⟨Nat.one_pos, (show 1 ≤ 0 + N + 0 by omega), (show N = (0 + N + 0 - 1) / 1 + 1 by omega)⟩
    | ⟨1, _⟩ => ⟨Nat.one_pos, (show 1 ≤ 0 + C + 0 by omega), (show C = (0 + C + 0 - 1) / 1 + 1 by omega)⟩
    | ⟨2, _⟩ => ⟨Nat.two_pos, (show 2 ≤ 0 + P + 0 by omega), (show H = (0 + P + 0 - 2) / 2 + 1 by omega)⟩
    | ⟨3, _⟩ => ⟨Nat.two_pos, (show 2 ≤ 0 + Q + 0 by omega), (show W = (0 + Q + 0 - 2) / 2 + 1 by omega)⟩⟩

section
variable {α : Type} {s t u : Shape}

/-- What the element `n` of the window at `j` holds: the operand's element there, and `v` off the operand. -/
def windowRead (window strides lo : Fin s.rank → ℕ) (x : s.Idx → α) (v : α) (h : t.rank = s.rank) (j : t.Idx)
    (n : Fin (⟨s.rank, window⟩ : Shape).numel) : α :=
  if hin : ∀ a, lo a ≤ (j (a.cast h.symm)).val * strides a + ((⟨s.rank, window⟩ : Shape).rowMajor.symm n a).val
      ∧ (j (a.cast h.symm)).val * strides a + ((⟨s.rank, window⟩ : Shape).rowMajor.symm n a).val - lo a < s.size a
    then x (fun a => ⟨(j (a.cast h.symm)).val * strides a + ((⟨s.rank, window⟩ : Shape).rowMajor.symm n a).val - lo a, (hin a).2⟩)
    else v

/-- A windowed reduction is a fold over what the window holds. -/
theorem reduceWindow_apply (f : α → α → α) (window strides lo hi : Fin s.rank → ℕ) (x : s.Idx → α) (init : u.Idx → α)
    (h : s.ReduceWindows window strides lo hi t) (hu : 0 < u.numel) (j : t.Idx) :
    Host.reduceWindow f window strides lo hi x init h hu j
      = (List.finRange (⟨s.rank, window⟩ : Shape).numel).foldl
          (fun r n => f r (windowRead window strides lo x (init (Shape.Idx.first hu)) h.1 j n)) (init (Shape.Idx.first hu)) := by
  unfold Host.reduceWindow windowRead
  refine congrArg (fun g => List.foldl g _ _) (funext fun r => funext fun n => congrArg (f r) ?_)
  by_cases hin : ∀ a, lo a ≤ (j (a.cast h.1.symm)).val * strides a + ((⟨s.rank, window⟩ : Shape).rowMajor.symm n a).val
      ∧ (j (a.cast h.1.symm)).val * strides a + ((⟨s.rank, window⟩ : Shape).rowMajor.symm n a).val - lo a < s.size a
  · refine (dif_pos hin).trans ?_
    rw [dif_pos hin]
  · refine (dif_neg hin).trans ?_
    rw [dif_neg hin]

/-- The element at position `k` of the window at `j` that lies at `i` in the operand. -/
theorem windowRead_eq (window strides lo : Fin s.rank → ℕ) (x : s.Idx → α) (v : α) (h : t.rank = s.rank) (j : t.Idx)
    (k : (⟨s.rank, window⟩ : Shape).Idx) (i : s.Idx)
    (hi : ∀ a, (i a).val + lo a = (j (a.cast h.symm)).val * strides a + (k a).val) :
    windowRead window strides lo x v h j ((⟨s.rank, window⟩ : Shape).rowMajor k) = x i := by
  unfold windowRead
  have e : ∀ a, (j (a.cast h.symm)).val * strides a
      + ((⟨s.rank, window⟩ : Shape).rowMajor.symm ((⟨s.rank, window⟩ : Shape).rowMajor k) a).val = (i a).val + lo a :=
    fun a => by rw [Equiv.symm_apply_apply, hi a]
  rw [dif_pos]
  · refine congrArg x (funext fun a => Fin.ext ?_)
    show _ - lo a = _
    rw [e a]; omega
  · intro a
    rw [e a]
    have := (i a).isLt
    omega

end

/-- The positions inside a block. -/
abbrev Block : Shape := ⟨4, ![1, 1, 2, 2]⟩

/-- The four positions in order. -/
theorem block_range : List.finRange Block.numel
    = [Block.rowMajor (ix4 0 0 0 0), Block.rowMajor (ix4 0 0 0 1), Block.rowMajor (ix4 0 0 1 0), Block.rowMajor (ix4 0 0 1 1)] := by
  have hn : Block.numel = 4 := by simp [Shape.numel, Fin.prod_univ_succ]
  refine List.map_injective_iff.2 Fin.val_injective ?_
  rw [List.map_coe_finRange_eq_range]
  refine (congrArg List.range hn).trans ?_
  simp only [List.map_cons, List.map_nil, Shape.rowMajor_val_four]
  rfl

/-- A maximum over the positions of a block, from `v`. -/
theorem block_max (G : Fin Block.numel → EReal) (v : EReal) :
    (List.finRange Block.numel).foldl (fun r k => max r (G k)) v
      = max (max (max (max v (G (Block.rowMajor (ix4 0 0 0 0)))) (G (Block.rowMajor (ix4 0 0 0 1))))
          (G (Block.rowMajor (ix4 0 0 1 0)))) (G (Block.rowMajor (ix4 0 0 1 1))) := by
  rw [block_range]; rfl

section
variable {N C P Q H W : ℕ}

/-- The pooling of a batch as the reference writes it. -/
def rpool (hN : 0 < N) (hC : 0 < C) (hH : 0 < H) (hW : 0 < W) (hP : P = 2 * H) (hQ : Q = 2 * W)
    (y : FVec Ideal ⟨4, ![N, C, P, Q]⟩ .f32) : FVec Ideal ⟨4, ![N, C, H, W]⟩ .f32 :=
  Host.reduceWindow (FloatOps.maximumf (F := Ideal) (φ := .f32)) ![1, 1, 2, 2] ![1, 1, 2, 2] ![0, 0, 0, 0] ![0, 0, 0, 0] y
    (splat ⟨0, ![]⟩ 0xFF800000#32) (blocks hN hC hH hW hP hQ) (by decide : 0 < (⟨0, ![]⟩ : Shape).numel)

/-- The reference's pooling at an index. -/
theorem rpool_apply (hN : 0 < N) (hC : 0 < C) (hH : 0 < H) (hW : 0 < W) (hP : P = 2 * H) (hQ : Q = 2 * W)
    (y : FVec Ideal ⟨4, ![N, C, P, Q]⟩ .f32) (n : Fin N) (o : Fin C) (i : Fin H) (j : Fin W) :
    rpool hN hC hH hW hP hQ y (ix4 n o i j) = pool (img y n o) i j := by
  have step : ∀ (p q : Fin 2) (v : EReal), windowRead (s := ⟨4, ![N, C, P, Q]⟩) (t := ⟨4, ![N, C, H, W]⟩) ![1, 1, 2, 2]
      ![1, 1, 2, 2] ![0, 0, 0, 0] y v rfl (ix4 n o i j) (Block.rowMajor (ix4 0 0 p q))
        = img y n o (2 * i + p) (2 * j + q) := by
    intro p q v
    have hi := i.isLt
    have hj := j.isLt
    have hp := p.isLt
    have hq := q.isLt
    rw [img_of y n o (show 2 * i.val + p.val < P by omega) (show 2 * j.val + q.val < Q by omega)]
    refine windowRead_eq (s := ⟨4, ![N, C, P, Q]⟩) (t := ⟨4, ![N, C, H, W]⟩) ![1, 1, 2, 2] ![1, 1, 2, 2] ![0, 0, 0, 0] y v rfl
      (ix4 n o i j) (ix4 0 0 p q) _ fun a => ?_
    match a with
    | ⟨0, _⟩ => show n.val + 0 = n.val * 1 + 0; omega
    | ⟨1, _⟩ => show o.val + 0 = o.val * 1 + 0; omega
    | ⟨2, _⟩ => show 2 * i.val + p.val + 0 = i.val * 2 + p.val; omega
    | ⟨3, _⟩ => show 2 * j.val + q.val + 0 = j.val * 2 + q.val; omega
  unfold rpool
  rw [reduceWindow_apply]
  refine (block_max _ _).trans ?_
  rw [step 0 0, step 0 1, step 1 0, step 1 1, splat_apply, word_bot, max_eq_right bot_le]
  show max (max (max (img y n o (2 * i.val) (2 * j.val)) (img y n o (2 * i.val) (2 * j.val + 1))) (img y n o (2 * i.val + 1) (2 * j.val)))
    (img y n o (2 * i.val + 1) (2 * j.val + 1)) = _
  unfold pool
  rw [max_assoc, max_assoc, max_assoc]
  congr 1
  exact max_left_comm _ _ _

end

/-- The reference's encoder stage of a batch is the encoder stage. -/
theorem rpool_rconv {N O C P Q HP WP H W : ℕ} (hN : 0 < N) (hO : 0 < O) (hH : 0 < H) (hW : 0 < W) (hP : P = 2 * H)
    (hQ : Q = 2 * W) (h1 : P + 2 = HP) (h2 : Q + 2 = WP) (w : FVec Ideal ⟨4, ![O, C, 3, 3]⟩ .f32)
    (b : FVec Ideal ⟨1, ![O]⟩ .f32) (x : FVec Ideal ⟨4, ![N, C, HP, WP]⟩ .f32) :
    rpool hN hO hH hW hP hQ (rleaky (rconv h1 h2 w b x)) = encArr O H W (taps w) (bias b) x := by
  refine ext4 fun n o i j => ?_
  rw [rpool_apply]
  show _ = enc (taps w) (bias b) (img x n) o i.val j.val
  unfold enc pool
  have e : ∀ a c : ℕ, a < P → c < Q → ∀ (n : Fin N) (o : Fin O), img (rleaky (rconv h1 h2 w b x)) n o a c
      = leaky (conv (taps w) (bias b) (img x n) o a c) := fun a c ha hc n o => by
    rw [img_of _ n o ha hc, rleaky_apply, rconv_apply]
  rw [e _ _ (by omega) (by omega), e _ _ (by omega) (by omega), e _ _ (by omega) (by omega), e _ _ (by omega) (by omega)]

end Unet
-- ==== Proof.RefUp.lean ====
/-
  The reference's bilinear doubling at any size: two gathers of rows and two of columns, each pair weighed and added.
-/
module

public import proofs.«01_k».proof.Proof.RefConv
public import proofs.«01_k».proof.Proof.KernelUp

@[expose] public section

noncomputable section

namespace Unet

open Idealize.ShloMosaic

/-! ## The positions -/

section Pos
variable {h N : ℕ}

/-- An integer word at every position. -/
def isplat (N : ℕ) (b : BitVec 32) : IVec ⟨1, ![N]⟩ 32 :=
  broadcastInDim ⟨1, ![N]⟩ ![] (scalar_bc ⟨1, ![N]⟩) (constantI ⟨0, ![]⟩ 32 b)

/-- The position of every row between the rows of the source. -/
def rpos (N : ℕ) (cw : BitVec 32) : FVec Ideal ⟨1, ![N]⟩ .f32 :=
  mulf (sitofp .f32 (iotaInDim ⟨1, ![N]⟩ 32 0)) (splat ⟨1, ![N]⟩ cw)

/-- The source row below every position. -/
def rlo (N : ℕ) (cw : BitVec 32) : IVec ⟨1, ![N]⟩ 32 := fptosi 32 (Host.floor (rpos N cw))

/-- The next source row, held between zero and the last. -/
def rhi (N : ℕ) (cw lw : BitVec 32) : IVec ⟨1, ![N]⟩ 32 :=
  minsi (isplat N lw) (maxsi (isplat N 0#32) (addi (rlo N cw) (isplat N 1#32)))

/-- The weight of the next row. -/
def rfrac (N : ℕ) (cw : BitVec 32) : FVec Ideal ⟨1, ![N]⟩ .f32 := subf (rpos N cw) (sitofp .f32 (rlo N cw))

/-- The weight of the row below. -/
def rrest (N : ℕ) (cw : BitVec 32) : FVec Ideal ⟨1, ![N]⟩ .f32 := subf (splat ⟨1, ![N]⟩ 0x3F800000#32) (rfrac N cw)

/-- The position at an index. -/
theorem rpos_apply {c : ℝ} (hs : Step h c) (hN : N = 2 * h) {cw : BitVec 32} (hc : Ideal.ofBits .f32 cw = (c : EReal))
    (i : Fin N) : rpos N cw (ix1 i) = ((pos c i.val : ℝ) : EReal) := by
  show (((BitVec.ofNat 32 i.val).toInt : ℝ) : EReal) * Ideal.ofBits .f32 cw = _
  rw [toInt_ofNat (by have := i.isLt; have := hs.small; omega), hc]
  norm_cast

/-- The row below at an index. -/
theorem rlo_apply {c : ℝ} (hs : Step h c) (hN : N = 2 * h) {cw : BitVec 32} (hc : Ideal.ofBits .f32 cw = (c : EReal))
    (i : Fin N) : rlo N cw (ix1 i) = BitVec.ofNat 32 (lo c i.val) := by
  show Ideal.fptosi 32 (Ideal.liftRound Int.floor (rpos N cw (ix1 i))) = _
  rw [rpos_apply hs hN hc]
  show Ideal.fptosi 32 (((⌊pos c i.val⌋ : ℤ) : ℝ) : EReal) = _
  have hl := hs.lo_lt (show i.val < 2 * h by have := i.isLt; omega)
  have hsm := hs.small
  rw [hs.floor_pos, Ideal.fptosi, Ideal.toIntClamped_coe, if_pos (by positivity), Int.floor_intCast]
  rw [min_eq_right (by push_cast; omega), max_eq_right (by push_cast; omega)]
  exact BitVec.ofInt_natCast _ _

/-- The next row at an index. -/
theorem rhi_apply {c : ℝ} (hs : Step h c) (hN : N = 2 * h) {cw lw : BitVec 32} (hc : Ideal.ofBits .f32 cw = (c : EReal))
    (hl : lw = BitVec.ofNat 32 (h - 1)) (i : Fin N) : rhi N cw lw (ix1 i) = BitVec.ofNat 32 (hi h c i.val) := by
  have hlo := hs.lo_lt (show i.val < 2 * h by have := i.isLt; omega)
  have hsm := hs.small
  show IntOp.minsi lw (IntOp.maxsi 0#32 (rlo N cw (ix1 i) + 1#32)) = _
  rw [rlo_apply hs hN hc, hl]
  have e1 : BitVec.ofNat 32 (lo c i.val) + 1#32 = BitVec.ofNat 32 (lo c i.val + 1) := (BitVec.ofNat_add _ _).symm
  rw [e1]
  have e0 : (0#32).toInt = 0 := rfl
  have m : IntOp.maxsi 0#32 (BitVec.ofNat 32 (lo c i.val + 1)) = BitVec.ofNat 32 (lo c i.val + 1) := by
    unfold IntOp.maxsi
    rw [if_neg]
    simp only [BitVec.slt, toInt_ofNat (show lo c i.val + 1 < 2 ^ 30 by omega), e0, decide_eq_true_eq]
    omega
  rw [m]
  unfold IntOp.minsi
  simp only [BitVec.slt, toInt_ofNat (show lo c i.val + 1 < 2 ^ 30 by omega), toInt_ofNat (show h - 1 < 2 ^ 30 by omega),
    decide_eq_true_eq]
  unfold hi
  split
  · next hlt => rw [min_eq_right (by omega)]
  · next hlt => rw [min_eq_left (by omega)]

/-- The weight of the next row at an index. -/
theorem rfrac_apply {c : ℝ} (hs : Step h c) (hN : N = 2 * h) {cw : BitVec 32} (hc : Ideal.ofBits .f32 cw = (c : EReal))
    (i : Fin N) : rfrac N cw (ix1 i) = ((frac c i.val : ℝ) : EReal) := by
  show rpos N cw (ix1 i) - (((rlo N cw (ix1 i)).toInt : ℝ) : EReal) = _
  have hlo := hs.lo_lt (show i.val < 2 * h by have := i.isLt; omega)
  have hsm := hs.small
  rw [rpos_apply hs hN hc, rlo_apply hs hN hc, toInt_ofNat (by omega)]
  norm_cast

/-- The weight of the row below at an index. -/
theorem rrest_apply {c : ℝ} (hs : Step h c) (hN : N = 2 * h) {cw : BitVec 32} (hc : Ideal.ofBits .f32 cw = (c : EReal))
    (i : Fin N) : rrest N cw (ix1 i) = ((1 - frac c i.val : ℝ) : EReal) := by
  show Ideal.ofBits .f32 0x3F800000#32 - rfrac N cw (ix1 i) = _
  rw [rfrac_apply hs hN hc, Ideal.ofBits_one_f32]
  norm_cast

/-- A sequence becomes a column. -/
theorem col_bc (N : ℕ) : (⟨1, ![N]⟩ : Shape).BroadcastsInDim ⟨2, ![N, 1]⟩ ![0] :=
  ⟨fun a b _ => Subsingleton.elim (α := Fin 1) a b, fun a => match a with | ⟨0, _⟩ => .inr rfl⟩

/-- The rows to gather: negative ones count from the end, of which there are none. -/
def rstart (N : ℕ) (hw : BitVec 32) (v : IVec ⟨1, ![N]⟩ 32) : IVec ⟨2, ![N, 1]⟩ 32 :=
  broadcastInDim ⟨2, ![N, 1]⟩ ![0] (col_bc N) (select (cmpi .slt v (isplat N 0#32)) (addi v (isplat N hw)) v)

/-- The row to gather at an index. -/
theorem rstart_apply (hw : BitVec 32) (v : IVec ⟨1, ![N]⟩ 32) (i : Fin N) {k : ℕ} (hk : k < 2 ^ 30)
    (hv : v (ix1 i) = BitVec.ofNat 32 k) : rstart N hw v (ix2 i 0) = BitVec.ofNat 32 k := by
  have e : rstart N hw v (ix2 i 0) = select (cmpi .slt v (isplat N 0#32)) (addi v (isplat N hw)) v (ix1 i) := by
    refine congrArg (select (cmpi .slt v (isplat N 0#32)) (addi v (isplat N hw)) v) (funext fun d => Fin.ext ?_)
    match d with
    | ⟨0, _⟩ =>
      show (dite (N = 1) (fun _ => (⟨0, _⟩ : Fin N)) fun _ => ⟨i.val, _⟩).val = i.val
      split
      · have := i.isLt; show 0 = i.val; omega
      · rfl
  rw [e]
  show Scalar.select (IntOp.cmpi .slt (v (ix1 i)) 0#32) (v (ix1 i) + hw) (v (ix1 i)) = _
  rw [hv]
  have e0 : (0#32).toInt = 0 := rfl
  have : (BitVec.ofNat 32 k).slt 0#32 = false := by
    simp only [BitVec.slt, toInt_ofNat hk, e0]
    simp
  simp [IntOp.cmpi, this, Scalar.select]

end Pos

/-! ## The gathers -/

section Gather
variable {N C h w M : ℕ}

/-- What the conditions on a gather of rows say. -/
abbrev RowsWf (N C h w M : ℕ) : Prop := GatherDims.WF ⟨4, ![N, C, h, w]⟩ ⟨2, ![M, 1]⟩ ⟨4, ![N, C, M, w]⟩
  [0, 1, 3] [2] [] [2] [] 1 ![N, C, 1, w]

/-- What the conditions on a gather of columns say. -/
abbrev ColsWf (N C h w M : ℕ) : Prop := GatherDims.WF ⟨4, ![N, C, h, w]⟩ ⟨2, ![M, 1]⟩ ⟨4, ![N, C, h, M]⟩
  [0, 1, 2] [3] [] [3] [] 1 ![N, C, h, 1]

/-- The dimension numbers of a gather of rows. -/
def rowsDims (wf : RowsWf N C h w M) : GatherDims ⟨4, ![N, C, h, w]⟩ ⟨2, ![M, 1]⟩ ⟨4, ![N, C, M, w]⟩ where
  offsetDims := [0, 1, 3]
  collapsedSliceDims := [2]
  operandBatchingDims := []
  startIndicesBatchingDims := []
  startIndexMap := [2]
  indexVectorDim := 1
  sliceSizes := ![N, C, 1, w]
  wf := wf

/-- The dimension numbers of a gather of columns. -/
def colsDims (wf : ColsWf N C h w M) : GatherDims ⟨4, ![N, C, h, w]⟩ ⟨2, ![M, 1]⟩ ⟨4, ![N, C, h, M]⟩ where
  offsetDims := [0, 1, 2]
  collapsedSliceDims := [3]
  operandBatchingDims := []
  startIndicesBatchingDims := []
  startIndexMap := [3]
  indexVectorDim := 1
  sliceSizes := ![N, C, h, 1]
  wf := wf

/-- A gather of rows at an index. -/
theorem rows_apply (wf : RowsWf N C h w M) (x : FVec Ideal ⟨4, ![N, C, h, w]⟩ .f32) (v : IVec ⟨2, ![M, 1]⟩ 32) (n : Fin N)
    (o : Fin C) (i : Fin M) (j : Fin w) {k : ℕ} (hk : k < h) (hs : k < 2 ^ 30) (hv : v (ix2 i 0) = BitVec.ofNat 32 k) :
    Host.gather (rowsDims wf) x v (ix4 n o i j) = x (ix4 n o ⟨k, hk⟩ j) := by
  unfold Host.gather
  refine congrArg x (funext fun a => Fin.ext ?_)
  show (rowsDims wf).start (ix4 n o i j) v a + (rowsDims wf).batchCoord (ix4 n o i j) a
    + (rowsDims wf).offCoord (ix4 n o i j) a = _
  rw [GatherDims.batchCoord_eq_zero _ _ _ List.not_mem_nil, Nat.add_zero]
  have hn : ∀ a : Fin 4, a ≠ 2 → (rowsDims wf).start (ix4 n o i j) v a = 0 := fun a ha => by
    unfold GatherDims.start
    exact dif_neg fun h => ha (List.mem_singleton.mp h)
  have h4 : a = 0 ∨ a = 1 ∨ a = 2 ∨ a = 3 := by
    match a with
    | ⟨0, _⟩ => exact .inl rfl
    | ⟨1, _⟩ => exact .inr (.inl rfl)
    | ⟨2, _⟩ => exact .inr (.inr (.inl rfl))
    | ⟨3, _⟩ => exact .inr (.inr (.inr rfl))
  rcases h4 with rfl | rfl | rfl | rfl
  · exact (congrArg (· + _) (hn 0 (by decide))).trans (Nat.zero_add _)
  · exact (congrArg (· + _) (hn 1 (by decide))).trans (Nat.zero_add _)
  · rw [GatherDims.offCoord_eq_zero _ _ _ (fun h => ((GatherDims.mem_sKept _ _).mp h).1 (List.mem_singleton.mpr rfl)),
      Nat.add_zero]
    unfold GatherDims.start
    rw [dif_pos (show (2 : Fin 4) ∈ (rowsDims wf).startIndexMap from List.mem_singleton.mpr rfl)]
    have hsi : (rowsDims wf).siIdx (ix4 n o i j) ⟨List.idxOf (2 : Fin 4) (rowsDims wf).startIndexMap,
        List.idxOf_lt_length_iff.2 (List.mem_singleton.mpr rfl)⟩ = ix2 i 0 := by
      funext b; refine Fin.ext ?_
      match b with
      | ⟨0, _⟩ => rfl
      | ⟨1, _⟩ => rfl
    refine (congrArg (fun z => min z.toInt.toNat (h - 1)) ((congrArg v hsi).trans hv)).trans ?_
    rw [toInt_ofNat hs]
    show min k (h - 1) = k
    omega
  · exact (congrArg (· + _) (hn 3 (by decide))).trans (Nat.zero_add _)

/-- A gather of columns at an index. -/
theorem cols_apply (wf : ColsWf N C h w M) (x : FVec Ideal ⟨4, ![N, C, h, w]⟩ .f32) (v : IVec ⟨2, ![M, 1]⟩ 32) (n : Fin N)
    (o : Fin C) (i : Fin h) (j : Fin M) {k : ℕ} (hk : k < w) (hs : k < 2 ^ 30) (hv : v (ix2 j 0) = BitVec.ofNat 32 k) :
    Host.gather (colsDims wf) x v (ix4 n o i j) = x (ix4 n o i ⟨k, hk⟩) := by
  unfold Host.gather
  refine congrArg x (funext fun a => Fin.ext ?_)
  show (colsDims wf).start (ix4 n o i j) v a + (colsDims wf).batchCoord (ix4 n o i j) a
    + (colsDims wf).offCoord (ix4 n o i j) a = _
  rw [GatherDims.batchCoord_eq_zero _ _ _ List.not_mem_nil, Nat.add_zero]
  have hn : ∀ a : Fin 4, a ≠ 3 → (colsDims wf).start (ix4 n o i j) v a = 0 := fun a ha => by
    unfold GatherDims.start
    exact dif_neg fun h => ha (List.mem_singleton.mp h)
  have h4 : a = 0 ∨ a = 1 ∨ a = 2 ∨ a = 3 := by
    match a with
    | ⟨0, _⟩ => exact .inl rfl
    | ⟨1, _⟩ => exact .inr (.inl rfl)
    | ⟨2, _⟩ => exact .inr (.inr (.inl rfl))
    | ⟨3, _⟩ => exact .inr (.inr (.inr rfl))
  rcases h4 with rfl | rfl | rfl | rfl
  · exact (congrArg (· + _) (hn 0 (by decide))).trans (Nat.zero_add _)
  · exact (congrArg (· + _) (hn 1 (by decide))).trans (Nat.zero_add _)
  · exact (congrArg (· + _) (hn 2 (by decide))).trans (Nat.zero_add _)
  · rw [GatherDims.offCoord_eq_zero _ _ _ (fun h => ((GatherDims.mem_sKept _ _).mp h).1 (List.mem_singleton.mpr rfl)),
      Nat.add_zero]
    unfold GatherDims.start
    rw [dif_pos (show (3 : Fin 4) ∈ (colsDims wf).startIndexMap from List.mem_singleton.mpr rfl)]
    have hsi : (colsDims wf).siIdx (ix4 n o i j) ⟨List.idxOf (3 : Fin 4) (colsDims wf).startIndexMap,
        List.idxOf_lt_length_iff.2 (List.mem_singleton.mpr rfl)⟩ = ix2 j 0 := by
      funext b; refine Fin.ext ?_
      match b with
      | ⟨0, _⟩ => rfl
      | ⟨1, _⟩ => rfl
    refine (congrArg (fun z => min z.toInt.toNat (w - 1)) ((congrArg v hsi).trans hv)).trans ?_
    rw [toInt_ofNat hs]
    show min k (w - 1) = k
    omega

/-- A sequence becomes rows of one column each. -/
theorem wrow_bc1 (M : ℕ) : (⟨1, ![M]⟩ : Shape).BroadcastsInDim ⟨4, ![1, 1, M, 1]⟩ ![2] :=
  ⟨fun a b _ => Subsingleton.elim (α := Fin 1) a b, fun a => match a with | ⟨0, _⟩ => .inr rfl⟩

/-- Those rows broadcast over the batch. -/
theorem wrow_bc2 (N C M w : ℕ) : (⟨4, ![1, 1, M, 1]⟩ : Shape).BroadcastsInDim ⟨4, ![N, C, M, w]⟩ ![0, 1, 2, 3] :=
  ⟨(by decide : Function.Injective (![0, 1, 2, 3] : Fin 4 → Fin 4)),
    fun a => match a with | ⟨0, _⟩ => .inl rfl | ⟨1, _⟩ => .inl rfl | ⟨2, _⟩ => .inr rfl | ⟨3, _⟩ => .inl rfl⟩

/-- A sequence becomes columns of one row each. -/
theorem wcol_bc1 (M : ℕ) : (⟨1, ![M]⟩ : Shape).BroadcastsInDim ⟨4, ![1, 1, 1, M]⟩ ![3] :=
  ⟨fun a b _ => Subsingleton.elim (α := Fin 1) a b, fun a => match a with | ⟨0, _⟩ => .inr rfl⟩

/-- Those columns broadcast over the batch. -/
theorem wcol_bc2 (N C h M : ℕ) : (⟨4, ![1, 1, 1, M]⟩ : Shape).BroadcastsInDim ⟨4, ![N, C, h, M]⟩ ![0, 1, 2, 3] :=
  ⟨(by decide : Function.Injective (![0, 1, 2, 3] : Fin 4 → Fin 4)),
    fun a => match a with | ⟨0, _⟩ => .inl rfl | ⟨1, _⟩ => .inl rfl | ⟨2, _⟩ => .inl rfl | ⟨3, _⟩ => .inr rfl⟩

/-- A weight of every row. -/
def wrow (N C w : ℕ) (v : FVec Ideal ⟨1, ![M]⟩ .f32) : FVec Ideal ⟨4, ![N, C, M, w]⟩ .f32 :=
  broadcastInDim ⟨4, ![N, C, M, w]⟩ ![0, 1, 2, 3] (wrow_bc2 N C M w) (broadcastInDim ⟨4, ![1, 1, M, 1]⟩ ![2] (wrow_bc1 M) v)

/-- A weight of every column. -/
def wcol (N C h : ℕ) (v : FVec Ideal ⟨1, ![M]⟩ .f32) : FVec Ideal ⟨4, ![N, C, h, M]⟩ .f32 :=
  broadcastInDim ⟨4, ![N, C, h, M]⟩ ![0, 1, 2, 3] (wcol_bc2 N C h M) (broadcastInDim ⟨4, ![1, 1, 1, M]⟩ ![3] (wcol_bc1 M) v)

/-- The row's weight at an index. -/
theorem wrow_apply (v : FVec Ideal ⟨1, ![M]⟩ .f32) (n : Fin N) (o : Fin C) (i : Fin M) (j : Fin w) :
    wrow N C w v (ix4 n o i j) = v (ix1 i) := by
  refine congrArg v (funext fun d => Fin.ext ?_)
  match d with
  | ⟨0, _⟩ =>
    show (dite (M = 1) (fun _ => (⟨0, _⟩ : Fin M)) fun _ => ⟨(dite (M = 1) (fun _ => (⟨0, _⟩ : Fin M)) fun _ => ⟨i.val, _⟩).val, _⟩).val
      = i.val
    split
    · have := i.isLt; show 0 = i.val; omega
    · rfl

/-- The column's weight at an index. -/
theorem wcol_apply (v : FVec Ideal ⟨1, ![M]⟩ .f32) (n : Fin N) (o : Fin C) (i : Fin h) (j : Fin M) :
    wcol N C h v (ix4 n o i j) = v (ix1 j) := by
  refine congrArg v (funext fun d => Fin.ext ?_)
  match d with
  | ⟨0, _⟩ =>
    show (dite (M = 1) (fun _ => (⟨0, _⟩ : Fin M)) fun _ => ⟨(dite (M = 1) (fun _ => (⟨0, _⟩ : Fin M)) fun _ => ⟨j.val, _⟩).val, _⟩).val
      = j.val
    split
    · have := j.isLt; show 0 = j.val; omega
    · rfl

end Gather

/-! ## The doubling -/

section Up
variable {N C h M : ℕ}

/-- The rows doubled. -/
def rrows {w : ℕ} (wf : RowsWf N C h w M) (cw lw hw : BitVec 32) (x : FVec Ideal ⟨4, ![N, C, h, w]⟩ .f32) :
    FVec Ideal ⟨4, ![N, C, M, w]⟩ .f32 :=
  addf (mulf (Host.gather (rowsDims wf) x (rstart M hw (rlo M cw))) (wrow N C w (rrest M cw)))
    (mulf (Host.gather (rowsDims wf) x (rstart M hw (rhi M cw lw))) (wrow N C w (rfrac M cw)))

/-- The columns doubled. -/
def rcols {k : ℕ} (wf : ColsWf N C k h M) (cw lw hw : BitVec 32) (x : FVec Ideal ⟨4, ![N, C, k, h]⟩ .f32) :
    FVec Ideal ⟨4, ![N, C, k, M]⟩ .f32 :=
  addf (mulf (Host.gather (colsDims wf) x (rstart M hw (rlo M cw))) (wcol N C k (rrest M cw)))
    (mulf (Host.gather (colsDims wf) x (rstart M hw (rhi M cw lw))) (wcol N C k (rfrac M cw)))

/-- The doubled rows at an index. -/
theorem rrows_apply {w : ℕ} (wf : RowsWf N C h w M) {c : ℝ} (hs : Step h c) (hM : M = 2 * h) {cw lw : BitVec 32}
    (hc : Ideal.ofBits .f32 cw = (c : EReal)) (hl : lw = BitVec.ofNat 32 (h - 1)) (hw : BitVec 32)
    (x : FVec Ideal ⟨4, ![N, C, h, w]⟩ .f32) (n : Fin N) (o : Fin C) (i : Fin M) (j : Fin w) :
    rrows wf cw lw hw x (ix4 n o i j) = lerp h c (fun r => img x n o r j) i := by
  have h1 := hs.lo_lt (show i.val < 2 * h by have := i.isLt; omega)
  have h2 := hs.hi_lt i.val
  have hsm := hs.small
  show Host.gather (rowsDims wf) x (rstart M hw (rlo M cw)) (ix4 n o i j) * wrow N C w (rrest M cw) (ix4 n o i j)
    + Host.gather (rowsDims wf) x (rstart M hw (rhi M cw lw)) (ix4 n o i j) * wrow N C w (rfrac M cw) (ix4 n o i j) = _
  rw [rows_apply wf x _ n o i j h1 (by omega) (rstart_apply hw _ i (by omega) (rlo_apply hs hM hc i)),
    rows_apply wf x _ n o i j h2 (by omega) (rstart_apply hw _ i (by omega) (rhi_apply hs hM hc hl i)),
    wrow_apply, wrow_apply, rrest_apply hs hM hc, rfrac_apply hs hM hc]
  unfold lerp
  beta_reduce
  rw [img_of x n o h1 j.isLt, img_of x n o h2 j.isLt]

/-- The doubled columns at an index. -/
theorem rcols_apply {k : ℕ} (wf : ColsWf N C k h M) {c : ℝ} (hs : Step h c) (hM : M = 2 * h) {cw lw : BitVec 32}
    (hc : Ideal.ofBits .f32 cw = (c : EReal)) (hl : lw = BitVec.ofNat 32 (h - 1)) (hw : BitVec 32)
    (x : FVec Ideal ⟨4, ![N, C, k, h]⟩ .f32) (n : Fin N) (o : Fin C) (i : Fin k) (j : Fin M) :
    rcols wf cw lw hw x (ix4 n o i j) = lerp h c (fun s => img x n o i s) j := by
  have h1 := hs.lo_lt (show j.val < 2 * h by have := j.isLt; omega)
  have h2 := hs.hi_lt j.val
  have hsm := hs.small
  show Host.gather (colsDims wf) x (rstart M hw (rlo M cw)) (ix4 n o i j) * wcol N C k (rrest M cw) (ix4 n o i j)
    + Host.gather (colsDims wf) x (rstart M hw (rhi M cw lw)) (ix4 n o i j) * wcol N C k (rfrac M cw) (ix4 n o i j) = _
  rw [cols_apply wf x _ n o i j h1 (by omega) (rstart_apply hw _ j (by omega) (rlo_apply hs hM hc j)),
    cols_apply wf x _ n o i j h2 (by omega) (rstart_apply hw _ j (by omega) (rhi_apply hs hM hc hl j)),
    wcol_apply, wcol_apply, rrest_apply hs hM hc, rfrac_apply hs hM hc]
  unfold lerp
  beta_reduce
  rw [img_of x n o i.isLt h1, img_of x n o i.isLt h2]

/-- The reference's doubling of a batch at an index. -/
theorem rup_apply (wfr : RowsWf N C h h M) (wfc : ColsWf N C M h M) {c : ℝ} (hs : Step h c) (hM : M = 2 * h)
    {cw lw : BitVec 32} (hc : Ideal.ofBits .f32 cw = (c : EReal)) (hl : lw = BitVec.ofNat 32 (h - 1)) (hw : BitVec 32)
    (x : FVec Ideal ⟨4, ![N, C, h, h]⟩ .f32) (n : Fin N) (o : Fin C) (i j : Fin M) :
    rcols wfc cw lw hw (rrows wfr cw lw hw x) (ix4 n o i j) = up h c (img x n o) i j := by
  rw [rcols_apply wfc hs hM hc hl]
  have h1 := hs.lo_lt (show j.val < 2 * h by have := j.isLt; omega)
  have h2 := hs.hi_lt j.val
  show img _ n o i (lo c j) * _ + img _ n o i (hi h c j) * _
    = lerp h c (fun r => img x n o r (lo c j)) i * _ + lerp h c (fun r => img x n o r (hi h c j)) i * _
  rw [img_of _ n o i.isLt h1, img_of _ n o i.isLt h2]
  exact congrArg₂ (fun p q => p * _ + q * _) (rrows_apply wfr hs hM hc hl hw x n o i ⟨lo c j, h1⟩)
    (rrows_apply wfr hs hM hc hl hw x n o i ⟨hi h c j, h2⟩)

end Up

/-- The reference's decoder stage of a batch is the decoder stage. -/
theorem rup_dec {N O C HP WP h M : ℕ} (wfr : RowsWf N O h h M) (wfc : ColsWf N O M h M) {c : ℝ} (hs : Step h c)
    (hM : M = 2 * h) {cw lw : BitVec 32} (hc : Ideal.ofBits .f32 cw = (c : EReal)) (hl : lw = BitVec.ofNat 32 (h - 1))
    (hw : BitVec 32) (h1 : h + 2 = HP) (h2 : h + 2 = WP) (w : FVec Ideal ⟨4, ![O, C, 3, 3]⟩ .f32)
    (b : FVec Ideal ⟨1, ![O]⟩ .f32) (x : FVec Ideal ⟨4, ![N, C, HP, WP]⟩ .f32) (s : FVec Ideal ⟨4, ![N, O, h, h]⟩ .f32) :
    rcols wfc cw lw hw (rrows wfr cw lw hw (addf (rleaky (rconv h1 h2 w b x)) s)) = decArr O M h c (taps w) (bias b) x s := by
  refine ext4 fun n o i j => ?_
  rw [rup_apply wfr wfc hs hM hc hl]
  show _ = dec h c (taps w) (bias b) (img x n) (img s n) o i.val j.val
  unfold dec
  refine up_congr hs hM (fun a d ha hd => ?_) i.isLt j.isLt
  rw [img_of _ n o ha hd]
  show rleaky _ _ + s _ = _
  rw [rleaky_apply, rconv_apply, img_of s n o ha hd]

/-- The reference's bottom stage of a batch is the bottom stage. -/
theorem rup_bot {N O C h M : ℕ} (wfr : RowsWf N O h h M) (wfc : ColsWf N O M h M) {c : ℝ} (hs : Step h c)
    (hM : M = 2 * h) {cw lw : BitVec 32} (hc : Ideal.ofBits .f32 cw = (c : EReal)) (hl : lw = BitVec.ofNat 32 (h - 1))
    (hw : BitVec 32) (w : FVec Ideal ⟨4, ![O, C, 1, 1]⟩ .f32) (b : FVec Ideal ⟨1, ![O]⟩ .f32)
    (x : FVec Ideal ⟨4, ![N, C, h, h]⟩ .f32) (s : FVec Ideal ⟨4, ![N, O, h, h]⟩ .f32) :
    rcols wfc cw lw hw (rrows wfr cw lw hw (addf s (rleaky (rconv1 w b x))))
      = botArr O M h c (fun o k => w (ix4 o k 0 0)) (bias b) x s := by
  refine ext4 fun n o i j => ?_
  rw [rup_apply wfr wfc hs hM hc hl]
  show _ = bot h c (fun o k => w (ix4 o k 0 0)) (bias b) (img x n) (img s n) o i.val j.val
  unfold bot
  refine up_congr hs hM (fun a d ha hd => ?_) i.isLt j.isLt
  rw [img_of _ n o ha hd]
  show s _ + rleaky _ _ = _
  rw [rleaky_apply, rconv1_apply, img_of s n o ha hd]

end Unet
-- ==== Proof.RefSoft.lean ====
/-
  The reference's softmax over two channels at any size.
-/
module

public import proofs.«01_k».proof.Proof.RefPool
public import Idealize.ShloMosaic.Lib.Pointwise.Reduce

@[expose] public section

noncomputable section

namespace Unet

open Idealize.ShloMosaic

section
variable {N H W : ℕ}

/-- Images without a channel axis become images of one channel. -/
theorem chan_bc1 (N H W : ℕ) : (⟨3, ![N, H, W]⟩ : Shape).BroadcastsInDim ⟨4, ![N, 1, H, W]⟩ ![0, 2, 3] :=
  ⟨(by decide : Function.Injective (![0, 2, 3] : Fin 3 → Fin 4)),
    fun a => match a with | ⟨0, _⟩ => .inr rfl | ⟨1, _⟩ => .inr rfl | ⟨2, _⟩ => .inr rfl⟩

/-- Images of one channel go to two channels. -/
theorem chan_bc2 (N H W : ℕ) : (⟨4, ![N, 1, H, W]⟩ : Shape).BroadcastsInDim ⟨4, ![N, 2, H, W]⟩ ![0, 1, 2, 3] :=
  ⟨(by decide : Function.Injective (![0, 1, 2, 3] : Fin 4 → Fin 4)),
    fun a => match a with | ⟨0, _⟩ => .inr rfl | ⟨1, _⟩ => .inl rfl | ⟨2, _⟩ => .inr rfl | ⟨3, _⟩ => .inr rfl⟩

/-- Images given to both channels. -/
def both (x : FVec Ideal ⟨3, ![N, H, W]⟩ .f32) : FVec Ideal ⟨4, ![N, 2, H, W]⟩ .f32 :=
  broadcastInDim ⟨4, ![N, 2, H, W]⟩ ![0, 1, 2, 3] (chan_bc2 N H W)
    (broadcastInDim ⟨4, ![N, 1, H, W]⟩ ![0, 2, 3] (chan_bc1 N H W) x)

/-- Either channel reads the image. -/
theorem both_apply (x : FVec Ideal ⟨3, ![N, H, W]⟩ .f32) (n : Fin N) (o : Fin 2) (i : Fin H) (j : Fin W) :
    both x (ix4 n o i j) = x (ix3 n i j) := by
  refine congrArg x (funext fun d => Fin.ext ?_)
  match d with
  | ⟨0, _⟩ =>
    show (dite (N = 1) (fun _ => (⟨0, _⟩ : Fin N)) fun _ => ⟨(dite (N = 1) (fun _ => (⟨0, _⟩ : Fin N)) fun _ => ⟨n.val, _⟩).val, _⟩).val
      = n.val
    split
    · have := n.isLt; show 0 = n.val; omega
    · rfl
  | ⟨1, _⟩ =>
    show (dite (H = 1) (fun _ => (⟨0, _⟩ : Fin H)) fun _ => ⟨(dite (H = 1) (fun _ => (⟨0, _⟩ : Fin H)) fun _ => ⟨i.val, _⟩).val, _⟩).val
      = i.val
    split
    · have := i.isLt; show 0 = i.val; omega
    · rfl
  | ⟨2, _⟩ =>
    show (dite (W = 1) (fun _ => (⟨0, _⟩ : Fin W)) fun _ => ⟨(dite (W = 1) (fun _ => (⟨0, _⟩ : Fin W)) fun _ => ⟨j.val, _⟩).val, _⟩).val
      = j.val
    split
    · have := j.isLt; show 0 = j.val; omega
    · rfl

/-- The larger of the two channels, as the reference writes it. -/
def rmax (hr : (⟨4, ![N, 2, H, W]⟩ : Shape).ReducesTo [1] ⟨3, ![N, H, W]⟩) (z : FVec Ideal ⟨4, ![N, 2, H, W]⟩ .f32) :
    FVec Ideal ⟨3, ![N, H, W]⟩ .f32 :=
  maximumf (splat ⟨3, ![N, H, W]⟩ 0xFF800000#32)
    (Host.reduce (FloatOps.maximumf (F := Ideal) (φ := .f32)) z (constant (F := Ideal) ⟨0, ![]⟩ .f32 0xFF800000#32) hr
      (by decide : 0 < (⟨0, ![]⟩ : Shape).numel))

/-- The larger of the two channels at an index. -/
theorem rmax_apply (hr : (⟨4, ![N, 2, H, W]⟩ : Shape).ReducesTo [1] ⟨3, ![N, H, W]⟩)
    (z : FVec Ideal ⟨4, ![N, 2, H, W]⟩ .f32) (n : Fin N) (i : Fin H) (j : Fin W) :
    rmax hr z (ix3 n i j) = max (z (ix4 n 0 i j)) (z (ix4 n 1 i j)) := by
  have e : Host.reduce (FloatOps.maximumf (F := Ideal) (φ := .f32)) z (constant (F := Ideal) ⟨0, ![]⟩ .f32 0xFF800000#32) hr
      (by decide : 0 < (⟨0, ![]⟩ : Shape).numel) (ix3 n i j)
      = Finset.univ.fold max (⊥ : EReal) (fun k : Fin 2 => z (ix4 n k i j)) := by
    rw [Host.reduce_eq_fold]
    refine (hr.fold_fiber_r4_a1 (ix3 n i j) _ _ z).trans ?_
    show Finset.univ.fold max (Ideal.ofBits .f32 0xFF800000#32) _ = _
    rw [word_bot]
    rfl
  show max (Ideal.ofBits .f32 0xFF800000#32) _ = _
  rw [e, word_bot, max_eq_right bot_le]
  simp [Fin.univ_succ]

/-- The exponentials of the differences to the larger channel. -/
def rexp (hr : (⟨4, ![N, 2, H, W]⟩ : Shape).ReducesTo [1] ⟨3, ![N, H, W]⟩) (z : FVec Ideal ⟨4, ![N, 2, H, W]⟩ .f32) :
    FVec Ideal ⟨4, ![N, 2, H, W]⟩ .f32 := Host.exp (subf z (both (rmax hr z)))

/-- The exponentials at an index. -/
theorem rexp_apply (hr : (⟨4, ![N, 2, H, W]⟩ : Shape).ReducesTo [1] ⟨3, ![N, H, W]⟩)
    (z : FVec Ideal ⟨4, ![N, 2, H, W]⟩ .f32) (n : Fin N) (o : Fin 2) (i : Fin H) (j : Fin W) :
    rexp hr z (ix4 n o i j) = Ideal.exp (z (ix4 n o i j) - max (z (ix4 n 0 i j)) (z (ix4 n 1 i j))) := by
  show Ideal.exp (z (ix4 n o i j) - both (rmax hr z) (ix4 n o i j)) = _
  rw [both_apply, rmax_apply]

/-- The softmax of the two channels as the reference writes it. -/
def rsoft (hr : (⟨4, ![N, 2, H, W]⟩ : Shape).ReducesTo [1] ⟨3, ![N, H, W]⟩) (z : FVec Ideal ⟨4, ![N, 2, H, W]⟩ .f32) :
    FVec Ideal ⟨4, ![N, 2, H, W]⟩ .f32 :=
  Host.divf (rexp hr z) (both (Host.reduceAdd (rexp hr z) (constant (F := Ideal) ⟨0, ![]⟩ .f32 0x00000000#32) hr
    (by decide : 0 < (⟨0, ![]⟩ : Shape).numel)))

/-- The reference's softmax at an index. -/
theorem rsoft_apply (hr : (⟨4, ![N, 2, H, W]⟩ : Shape).ReducesTo [1] ⟨3, ![N, H, W]⟩)
    (z : FVec Ideal ⟨4, ![N, 2, H, W]⟩ .f32) (n : Fin N) (o : Fin 2) (i : Fin H) (j : Fin W) :
    rsoft hr z (ix4 n o i j) = soft (z (ix4 n o i j)) (z (ix4 n 0 i j)) (z (ix4 n 1 i j)) := by
  show Ideal.div (rexp hr z (ix4 n o i j)) (both _ (ix4 n o i j)) = _
  have e : Host.reduceAdd (rexp hr z) (constant (F := Ideal) ⟨0, ![]⟩ .f32 0x00000000#32) hr
      (by decide : 0 < (⟨0, ![]⟩ : Shape).numel) (ix3 n i j) = rexp hr z (ix4 n 0 i j) + rexp hr z (ix4 n 1 i j) := by
    rw [Host.reduceAdd_apply, Ideal.hostReduceAdd_def, Ideal.hostReduceAdd_r4_a1]
    show Ideal.ofBits .f32 0x00000000#32 + _ = _
    rw [Ideal.ofBits_zero_f32, zero_add, Fin.sum_univ_two]
    rfl
  rw [both_apply, e, rexp_apply, rexp_apply, rexp_apply]
  rfl

end

/-- The reference's final stage of a batch is the final stage. -/
theorem rsoft_rconv {N C HP WP H W : ℕ} (hr : (⟨4, ![N, 2, H, W]⟩ : Shape).ReducesTo [1] ⟨3, ![N, H, W]⟩)
    (h1 : H + 2 = HP) (h2 : W + 2 = WP) (w : FVec Ideal ⟨4, ![2, C, 3, 3]⟩ .f32) (b : FVec Ideal ⟨1, ![2]⟩ .f32)
    (x : FVec Ideal ⟨4, ![N, C, HP, WP]⟩ .f32) : rsoft hr (rconv h1 h2 w b x) = finArr H W (taps w) (bias b) x := by
  refine ext4 fun n o i j => ?_
  rw [rsoft_apply, rconv_apply, rconv_apply, rconv_apply]
  rfl

end Unet
-- ==== Proof.RefValue.lean ====
/-
  The value of the reference: every stage of its composed term is that stage of the network on the arguments.
-/
module

public import proofs.«01_k».proof.Proof.RefPool
public import proofs.«01_k».proof.Proof.RefUp
public import proofs.«01_k».proof.Proof.RefSoft
public import proofs.«01_k».proof.Proof.Gen.ReferenceIdeal.Run

@[expose] public section

set_option maxRecDepth 16384

noncomputable section

namespace Unet

open Idealize.ShloMosaic Idealize.ShloMosaic.TcCoe
open Cert.ReferenceIdeal Cert.ReferenceIdeal.Gen Cert.ReferenceIdeal.Value

variable (V : Valuation τ sig (Elt Ideal))

/-- The network's arrays as the reference is given them. -/
def rargs : Args where
  x := V (Proc.devRef .tc main_arg0)
  fmap := V (Proc.devRef .tc main_arg1)
  W1 := V (Proc.devRef .tc main_arg2)
  b1 := V (Proc.devRef .tc main_arg3)
  W2 := V (Proc.devRef .tc main_arg4)
  b2 := V (Proc.devRef .tc main_arg5)
  W3 := V (Proc.devRef .tc main_arg6)
  b3 := V (Proc.devRef .tc main_arg7)
  W4 := V (Proc.devRef .tc main_arg8)
  b4 := V (Proc.devRef .tc main_arg9)
  W5 := V (Proc.devRef .tc main_arg10)
  b5 := V (Proc.devRef .tc main_arg11)
  W6 := V (Proc.devRef .tc main_arg12)
  b6 := V (Proc.devRef .tc main_arg13)
  U5 := V (Proc.devRef .tc main_arg14)
  c5 := V (Proc.devRef .tc main_arg15)
  U4 := V (Proc.devRef .tc main_arg16)
  c4 := V (Proc.devRef .tc main_arg17)
  U3 := V (Proc.devRef .tc main_arg18)
  c3 := V (Proc.devRef .tc main_arg19)
  U2 := V (Proc.devRef .tc main_arg20)
  c2 := V (Proc.devRef .tc main_arg21)
  U1 := V (Proc.devRef .tc main_arg22)
  c1 := V (Proc.devRef .tc main_arg23)

/-- The padded input. -/
theorem ref_pad0 : res_main_v0 V = padded 514 514 (by decide) (rargs V).x := by
  unfold res_main_v0
  rfl

/-- The convolution of encoder stage 1. -/
theorem ref_conv58 : res_main_v58 V = rconv (H := 512) (W := 512) rfl rfl (rargs V).W1 (rargs V).b1 (res_main_v0 V) := by
  unfold res_main_v58
  rfl

/-- Encoder stage 1. -/
theorem ref_y2 : res_main_v61 V = y2 (rargs V) := by
  have e : res_main_v61 V = rpool (H := 256) (W := 256) (by decide) (by decide) (by decide) (by decide) rfl rfl (rleaky (res_main_v58 V)) := by
    unfold res_main_v61
    rfl
  rw [e, ref_conv58, ref_pad0]
  exact rpool_rconv _ _ _ _ _ _ _ _ _ _ _

/-- The padded stage `y2`. -/
theorem ref_pad62 : res_main_v62 V = padded 258 258 (by decide) (y2 (rargs V)) := by
  unfold res_main_v62
  rw [ref_y2]
  rfl

/-- The convolution of encoder stage 2. -/
theorem ref_conv120 : res_main_v120 V = rconv (H := 256) (W := 256) rfl rfl (rargs V).W2 (rargs V).b2 (res_main_v62 V) := by
  unfold res_main_v120
  rfl

/-- Encoder stage 2. -/
theorem ref_y4 : res_main_v123 V = y4 (rargs V) := by
  have e : res_main_v123 V = rpool (H := 128) (W := 128) (by decide) (by decide) (by decide) (by decide) rfl rfl (rleaky (res_main_v120 V)) := by
    unfold res_main_v123
    rfl
  rw [e, ref_conv120, ref_pad62]
  exact rpool_rconv _ _ _ _ _ _ _ _ _ _ _

/-- The padded stage `y4`. -/
theorem ref_pad124 : res_main_v124 V = padded 130 130 (by decide) (y4 (rargs V)) := by
  unfold res_main_v124
  rw [ref_y4]
  rfl

/-- The convolution of encoder stage 3. -/
theorem ref_conv182 : res_main_v182 V = rconv (H := 128) (W := 128) rfl rfl (rargs V).W3 (rargs V).b3 (res_main_v124 V) := by
  unfold res_main_v182 res_main_v179
  rfl

/-- Encoder stage 3. -/
theorem ref_y8 : res_main_v185 V = y8 (rargs V) := by
  have e : res_main_v185 V = rpool (H := 64) (W := 64) (by decide) (by decide) (by decide) (by decide) rfl rfl (rleaky (res_main_v182 V)) := by
    unfold res_main_v185
    rfl
  rw [e, ref_conv182, ref_pad124]
  exact rpool_rconv _ _ _ _ _ _ _ _ _ _ _

/-- The padded stage `y8`. -/
theorem ref_pad186 : res_main_v186 V = padded 66 66 (by decide) (y8 (rargs V)) := by
  unfold res_main_v186
  rw [ref_y8]
  rfl

/-- The convolution of encoder stage 4. -/
theorem ref_conv244 : res_main_v244 V = rconv (H := 64) (W := 64) rfl rfl (rargs V).W4 (rargs V).b4 (res_main_v186 V) := by
  unfold res_main_v244
  rfl

/-- Encoder stage 4. -/
theorem ref_y16 : res_main_v247 V = y16 (rargs V) := by
  have e : res_main_v247 V = rpool (H := 32) (W := 32) (by decide) (by decide) (by decide) (by decide) rfl rfl (rleaky (res_main_v244 V)) := by
    unfold res_main_v247
    rfl
  rw [e, ref_conv244, ref_pad186]
  exact rpool_rconv _ _ _ _ _ _ _ _ _ _ _

/-- The padded stage `y16`. -/
theorem ref_pad248 : res_main_v248 V = padded 34 34 (by decide) (y16 (rargs V)) := by
  unfold res_main_v248
  rw [ref_y16]
  rfl

/-- The convolution of encoder stage 5. -/
theorem ref_conv306 : res_main_v306 V = rconv (H := 32) (W := 32) rfl rfl (rargs V).W5 (rargs V).b5 (res_main_v248 V) := by
  unfold res_main_v306 res_main_v303
  rfl

/-- Encoder stage 5. -/
theorem ref_e5 : rpool (H := 16) (W := 16) (by decide) (by decide) (by decide) (by decide) rfl rfl (rleaky (res_main_v306 V)) = e5 (rargs V) := by
  rw [ref_conv306, ref_pad248]
  exact rpool_rconv _ _ _ _ _ _ _ _ _ _ _

/-- The one-by-one convolution of the features. -/
theorem ref_conv318 : res_main_v318 V = rconv1 (rargs V).W6 (rargs V).b6 (rargs V).fmap := by
  unfold res_main_v318
  rw [pad_zero]
  rfl

/-- The images the bottom stage doubles. -/
theorem ref_sum320 : res_main_v320 V = addf (F := Ideal) (φ := .f32) (e5 (rargs V)) (rleaky (rconv1 (rargs V).W6 (rargs V).b6 (rargs V).fmap)) := by
  have e : res_main_v320 V = addf (F := Ideal) (φ := .f32) (rpool (H := 16) (W := 16) (by decide) (by decide) (by decide) (by decide) rfl rfl (rleaky (res_main_v306 V)))
      (rleaky (res_main_v318 V)) := by
    unfold res_main_v320
    rfl
  rw [e, ref_e5, ref_conv318]

/-- The doubling of the bottom stage. -/
theorem ref_up391 : res_main_v391 V = padded 34 34 (by decide)
    (rcols (N := 4) (C := 128) (h := 16) (M := 32) gather_S4x128x32x16_S32x1_S4x128x32x32_012_3_n_n_3_1_4128321_wf 0x3EF7BDEF#32 15#32 16#32
      (rrows gather_S4x128x16x16_S32x1_S4x128x32x16_013_2_n_n_2_1_4128116_wf 0x3EF7BDEF#32 15#32 16#32 (res_main_v320 V))) := by
  unfold res_main_v391 res_main_v367 res_main_v333 res_main_v336 res_main_v341 res_main_v344 res_main_v330 res_main_v338 res_main_v324 res_main_v328
  rfl

/-- The padded stage `d5`. -/
theorem ref_d5 : res_main_v391 V = padded 34 34 (by decide) (d5 (rargs V)) := by
  rw [ref_up391, ref_sum320]
  exact congrArg (padded 34 34 (by decide)) (rup_bot gather_S4x128x16x16_S32x1_S4x128x32x16_013_2_n_n_2_1_4128116_wf gather_S4x128x32x16_S32x1_S4x128x32x32_012_3_n_n_3_1_4128321_wf ok16 rfl word16 rfl _ _ _ _ _)

/-- The convolution of the decoder stage with weights `U5`. -/
theorem ref_conv449 : res_main_v449 V = rconv (H := 32) (W := 32) rfl rfl (rargs V).U5 (rargs V).c5 (res_main_v391 V) := by
  unfold res_main_v449 res_main_v446
  rfl

/-- The images that stage doubles. -/
theorem ref_sum451 : res_main_v451 V = addf (F := Ideal) (φ := .f32) (rleaky (rconv (H := 32) (W := 32) rfl rfl (rargs V).U5 (rargs V).c5
    (padded 34 34 (by decide) (d5 (rargs V))))) (y16 (rargs V)) := by
  have e : res_main_v451 V = addf (F := Ideal) (φ := .f32) (rleaky (res_main_v449 V)) (res_main_v247 V) := by
    unfold res_main_v451
    rfl
  rw [e, ref_conv449, ref_d5, ref_y16]

/-- The doubling of that stage. -/
theorem ref_up522 : res_main_v522 V = padded 66 66 (by decide)
    (rcols (N := 4) (C := 64) (h := 32) (M := 64) gather_S4x64x64x32_S64x1_S4x64x64x64_012_3_n_n_3_1_464641_wf 0x3EFBEFBF#32 31#32 32#32
      (rrows gather_S4x64x32x32_S64x1_S4x64x64x32_013_2_n_n_2_1_464132_wf 0x3EFBEFBF#32 31#32 32#32 (res_main_v451 V))) := by
  unfold res_main_v522 res_main_v498 res_main_v464 res_main_v467 res_main_v472 res_main_v475 res_main_v461 res_main_v469 res_main_v455 res_main_v459
  rfl

/-- The padded stage `d4`. -/
theorem ref_d4 : res_main_v522 V = padded 66 66 (by decide) (d4 (rargs V)) := by
  rw [ref_up522, ref_sum451]
  exact congrArg (padded 66 66 (by decide)) (rup_dec gather_S4x64x32x32_S64x1_S4x64x64x32_013_2_n_n_2_1_464132_wf gather_S4x64x64x32_S64x1_S4x64x64x64_012_3_n_n_3_1_464641_wf ok32 rfl word32 rfl _ _ _ _ _ _ _)

/-- The convolution of the decoder stage with weights `U4`. -/
theorem ref_conv580 : res_main_v580 V = rconv (H := 64) (W := 64) rfl rfl (rargs V).U4 (rargs V).c4 (res_main_v522 V) := by
  unfold res_main_v580
  rfl

/-- The images that stage doubles. -/
theorem ref_sum582 : res_main_v582 V = addf (F := Ideal) (φ := .f32) (rleaky (rconv (H := 64) (W := 64) rfl rfl (rargs V).U4 (rargs V).c4
    (padded 66 66 (by decide) (d4 (rargs V))))) (y8 (rargs V)) := by
  have e : res_main_v582 V = addf (F := Ideal) (φ := .f32) (rleaky (res_main_v580 V)) (res_main_v185 V) := by
    unfold res_main_v582
    rfl
  rw [e, ref_conv580, ref_d4, ref_y8]

/-- The doubling of that stage. -/
theorem ref_up653 : res_main_v653 V = padded 130 130 (by decide)
    (rcols (N := 4) (C := 32) (h := 64) (M := 128) gather_S4x32x128x64_S128x1_S4x32x128x128_012_3_n_n_3_1_4321281_wf 0x3EFDFBF8#32 63#32 64#32
      (rrows gather_S4x32x64x64_S128x1_S4x32x128x64_013_2_n_n_2_1_432164_wf 0x3EFDFBF8#32 63#32 64#32 (res_main_v582 V))) := by
  unfold res_main_v653 res_main_v629 res_main_v595 res_main_v598 res_main_v603 res_main_v606 res_main_v592 res_main_v600 res_main_v586 res_main_v590
  rfl

/-- The padded stage `d3`. -/
theorem ref_d3 : res_main_v653 V = padded 130 130 (by decide) (d3 (rargs V)) := by
  rw [ref_up653, ref_sum582]
  exact congrArg (padded 130 130 (by decide)) (rup_dec gather_S4x32x64x64_S128x1_S4x32x128x64_013_2_n_n_2_1_432164_wf gather_S4x32x128x64_S128x1_S4x32x128x128_012_3_n_n_3_1_4321281_wf ok64 rfl word64 rfl _ _ _ _ _ _ _)

/-- The convolution of the decoder stage with weights `U3`. -/
theorem ref_conv711 : res_main_v711 V = rconv (H := 128) (W := 128) rfl rfl (rargs V).U3 (rargs V).c3 (res_main_v653 V) := by
  unfold res_main_v711 res_main_v708
  rfl

/-- The images that stage doubles. -/
theorem ref_sum713 : res_main_v713 V = addf (F := Ideal) (φ := .f32) (rleaky (rconv (H := 128) (W := 128) rfl rfl (rargs V).U3 (rargs V).c3
    (padded 130 130 (by decide) (d3 (rargs V))))) (y4 (rargs V)) := by
  have e : res_main_v713 V = addf (F := Ideal) (φ := .f32) (rleaky (res_main_v711 V)) (res_main_v123 V) := by
    unfold res_main_v713
    rfl
  rw [e, ref_conv711, ref_d3, ref_y4]

/-- The doubling of that stage. -/
theorem ref_up784 : res_main_v784 V = padded 258 258 (by decide)
    (rcols (N := 4) (C := 16) (h := 128) (M := 256) gather_S4x16x256x128_S256x1_S4x16x256x256_012_3_n_n_3_1_4162561_wf 0x3EFEFEFF#32 127#32 128#32
      (rrows gather_S4x16x128x128_S256x1_S4x16x256x128_013_2_n_n_2_1_4161128_wf 0x3EFEFEFF#32 127#32 128#32 (res_main_v713 V))) := by
  unfold res_main_v784 res_main_v760 res_main_v726 res_main_v729 res_main_v734 res_main_v737 res_main_v723 res_main_v731 res_main_v717 res_main_v721
  rfl

/-- The padded stage `d2`. -/
theorem ref_d2 : res_main_v784 V = padded 258 258 (by decide) (d2 (rargs V)) := by
  rw [ref_up784, ref_sum713]
  exact congrArg (padded 258 258 (by decide)) (rup_dec gather_S4x16x128x128_S256x1_S4x16x256x128_013_2_n_n_2_1_4161128_wf gather_S4x16x256x128_S256x1_S4x16x256x256_012_3_n_n_3_1_4162561_wf ok128 rfl word128 rfl _ _ _ _ _ _ _)

/-- The convolution of the decoder stage with weights `U2`. -/
theorem ref_conv842 : res_main_v842 V = rconv (H := 256) (W := 256) rfl rfl (rargs V).U2 (rargs V).c2 (res_main_v784 V) := by
  unfold res_main_v842
  rfl

/-- The images that stage doubles. -/
theorem ref_sum844 : res_main_v844 V = addf (F := Ideal) (φ := .f32) (rleaky (rconv (H := 256) (W := 256) rfl rfl (rargs V).U2 (rargs V).c2
    (padded 258 258 (by decide) (d2 (rargs V))))) (y2 (rargs V)) := by
  have e : res_main_v844 V = addf (F := Ideal) (φ := .f32) (rleaky (res_main_v842 V)) (res_main_v61 V) := by
    unfold res_main_v844
    rfl
  rw [e, ref_conv842, ref_d2, ref_y2]

/-- The doubling of that stage. -/
theorem ref_up915 : res_main_v915 V = padded 514 514 (by decide)
    (rcols (N := 4) (C := 8) (h := 256) (M := 512) gather_S4x8x512x256_S512x1_S4x8x512x512_012_3_n_n_3_1_485121_wf 0x3EFF7FC0#32 255#32 256#32
      (rrows gather_S4x8x256x256_S512x1_S4x8x512x256_013_2_n_n_2_1_481256_wf 0x3EFF7FC0#32 255#32 256#32 (res_main_v844 V))) := by
  unfold res_main_v915 res_main_v891 res_main_v857 res_main_v860 res_main_v865 res_main_v868 res_main_v854 res_main_v862 res_main_v848 res_main_v852
  rfl

/-- The padded stage `d1`. -/
theorem ref_d1 : res_main_v915 V = padded 514 514 (by decide) (d1 (rargs V)) := by
  rw [ref_up915, ref_sum844]
  exact congrArg (padded 514 514 (by decide)) (rup_dec gather_S4x8x256x256_S512x1_S4x8x512x256_013_2_n_n_2_1_481256_wf gather_S4x8x512x256_S512x1_S4x8x512x512_012_3_n_n_3_1_485121_wf ok256 rfl word256 rfl _ _ _ _ _ _ _)

/-- The convolution of the final stage. -/
theorem ref_conv973 : res_main_v973 V = rconv (H := 512) (W := 512) rfl rfl (rargs V).U1 (rargs V).c1 (res_main_v915 V) := by
  unfold res_main_v973
  rfl

/-- The reference's result is the network. -/
theorem ref_net : Host.divf (res_main_v980 V) (broadcastInDim S4x2x512x512 ![0, 1, 2, 3] bcast_S4x1x512x512_S4x2x512x512_0_1_2_3
    (broadcastInDim S4x1x512x512 ![0, 2, 3] bcast_S4x512x512_S4x1x512x512_0_2_3 (Host.reduceAdd (res_main_v980 V)
      (constant S_ .f32 0x00000000#32) reducesTo_S4x2x512x512_S4x512x512_d1 h_S_))) = net (rargs V) := by
  have e : res_main_v980 V = rexp reducesTo_S4x2x512x512_S4x512x512_d1 (res_main_v973 V) := by
    unfold res_main_v980
    rfl
  rw [e]
  refine Eq.trans (b := rsoft reducesTo_S4x2x512x512_S4x512x512_d1 (res_main_v973 V)) rfl ?_
  rw [ref_conv973, ref_d1]
  exact rsoft_rconv _ _ _ _ _ _

end Unet
-- ==== Proof.Agree.lean ====
/-
  The two ideal programs compute the same network: from equal arguments, equal results.
-/
module

public import proofs.«01_k».proof.Proof.KernelRun
public import proofs.«01_k».proof.Proof.KernelValue
public import proofs.«01_k».proof.Proof.RefValue

@[expose] public section

set_option maxRecDepth 16384

noncomputable section

namespace Unet

open Idealize.ShloMosaic Idealize.ShloMosaic.TcCoe Idealize.SL.Sem

/-- Arrays that are equal one by one make the same network. -/
theorem Args.ext_all {A B : Args} (h0 : A.x = B.x) (h1 : A.fmap = B.fmap) (h2 : A.W1 = B.W1) (h3 : A.b1 = B.b1) (h4 : A.W2 = B.W2) (h5 : A.b2 = B.b2) (h6 : A.W3 = B.W3) (h7 : A.b3 = B.b3) (h8 : A.W4 = B.W4) (h9 : A.b4 = B.b4) (h10 : A.W5 = B.W5) (h11 : A.b5 = B.b5) (h12 : A.W6 = B.W6) (h13 : A.b6 = B.b6) (h14 : A.U5 = B.U5) (h15 : A.c5 = B.c5) (h16 : A.U4 = B.U4) (h17 : A.c4 = B.c4) (h18 : A.U3 = B.U3) (h19 : A.c3 = B.c3) (h20 : A.U2 = B.U2) (h21 : A.c2 = B.c2) (h22 : A.U1 = B.U1) (h23 : A.c1 = B.c1) : A = B := by
  cases A
  cases B
  simp only at h0 h1 h2 h3 h4 h5 h6 h7 h8 h9 h10 h11 h12 h13 h14 h15 h16 h17 h18 h19 h20 h21 h22 h23
  subst h0 h1 h2 h3 h4 h5 h6 h7 h8 h9 h10 h11 h12 h13 h14 h15 h16 h17 h18 h19 h20 h21 h22 h23
  rfl

/-- Equal arguments of the two programs are the same arrays of the network. -/
theorem args_agree {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) :
    rargs (StableHlo.launchContents m' c) = kargs m c := by
  obtain ⟨h0, h1, h2, h3, h4, h5, h6, h7, h8, h9, h10, h11, h12, h13, h14, h15, h16, h17, h18, h19, h20, h21, h22, h23⟩ := h
  exact Args.ext_all h0 h1 h2 h3 h4 h5 h6 h7 h8 h9 h10 h11 h12 h13 h14 h15 h16 h17 h18 h19 h20 h21 h22 h23

end Unet
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import Idealize.ShloMosaic.Adequacy
public import Idealize.ShloMosaic.Lib.Quiescent
public import Idealize.ShloMosaic.Lib.Claim
public import Idealize.ShloMosaic.Init

@[expose] public section

noncomputable section

namespace Cert.Proof

open Idealize.ShloMosaic Idealize.SL.Sem Cert.Kernel

/-- The kernel and its two ideal programs leave their arguments unchanged and every counter at zero, and
    the kernel's ideal program is the kernel's program with no operation replaced; and from equal arguments the two
    ideal programs end with equal results, the network of the arguments. -/
theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => (θ_run _ _ _).mono (fun _ h => ⟨fun c => (h c).2, sem_eq_zero_of_no_sems rfl _⟩) (Cert.ReferenceIdeal.Value.run m ρ),
    trivial,
    fun m g m' g' _ h => ⟨fun c => Unet.net (Unet.kargs m c),
      (θ_run _ _ _).mono (fun _ e c => ⟨(e.1 c).trans (Unet.val_net m g c), e.2.1 c⟩)
        (θ_run_and (Unet.Run.result m g) (Cert.KernelIdeal.Gen.frame m g)),
      (θ_run _ _ _).mono (fun _ e c => ⟨(e c).1.trans ((Unet.ref_net _).trans (congrArg Unet.net (Unet.args_agree c (h c)))),
        (e c).2⟩) (Cert.ReferenceIdeal.Value.run m' g')⟩⟩

end Cert.Proof

end
